-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S128x8192 : Shape := ⟨2, ![128, 8192]⟩
abbrev S128x4096 : Shape := ⟨2, ![128, 4096]⟩
abbrev S2x4096x512 : Shape := ⟨3, ![2, 4096, 512]⟩
abbrev S4096x512 : Shape := ⟨2, ![4096, 512]⟩
abbrev S32x8x128 : Shape := ⟨3, ![32, 8, 128]⟩
abbrev S32 : Shape := ⟨1, ![32]⟩
abbrev S_ : Shape := ⟨0, ![]⟩
abbrev S2 : Shape := ⟨1, ![2]⟩
abbrev S1 : Shape := ⟨1, ![1]⟩
abbrev S128x128 : Shape := ⟨2, ![128, 128]⟩
abbrev S1x4096x512 : Shape := ⟨3, ![1, 4096, 512]⟩
abbrev S128x512 : Shape := ⟨2, ![128, 512]⟩
abbrev S1x128x512 : Shape := ⟨3, ![1, 128, 512]⟩
abbrev S1x1x1 : Shape := ⟨3, ![1, 1, 1]⟩
abbrev S1x8x128 : Shape := ⟨3, ![1, 8, 128]⟩
abbrev S8x128 : Shape := ⟨2, ![8, 128]⟩
abbrev S1x32x8x128 : Shape := ⟨4, ![1, 32, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x8192, .f32⟩
  | .hbm, ⟨2, _⟩ => ⟨S128x8192, .f32⟩
  | .local _ .vmem, ⟨0, _⟩ => ⟨S4096x128, .f32⟩
  | .local _ .vmem, ⟨1, _⟩ => ⟨S128x8192, .f32⟩
  | .local _ .vmem, ⟨2, _⟩ => ⟨S4096x128, .bf16⟩
  | .local _ .vmem, ⟨3, _⟩ => ⟨S128x4096, .bf16⟩
  | .local _ .vmem, ⟨4, _⟩ => ⟨S2x4096x512, .f32⟩
  | .local _ .vmem, ⟨5, _⟩ => ⟨S4096x512, .bf16⟩
  | .local _ .vmem, ⟨6, _⟩ => ⟨S32x8x128, .f32⟩
  | _, _ => ⟨S4096x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_283 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v413 : BitVec 32 := Scalar.addi v2 c1_i32_283
  let c32_i32_284 : BitVec 32 := 32#32
  let c0_i32_285 : BitVec 32 := 0#32
  let v414 : BitVec 1 := Scalar.cmpi .eq c32_i32_284 c0_i32_285
  let c1_i32_286 : BitVec 32 := 1#32
  let v415 : BitVec 32 := Scalar.select v414 c1_i32_286 c32_i32_284
  let v416 : BitVec 32 := Scalar.remsi v413 v415
  let c0_i32_288 : BitVec 32 := 0#32
  let v418 : BitVec 1 := Scalar.cmpi .slt v416 c0_i32_288
  let c0_i32_289 : BitVec 32 := 0#32
  let v419 : BitVec 1 := Scalar.cmpi .slt v415 c0_i32_289
  let v420 : BitVec 1 := Scalar.xori v418 v419
  let c0_i32_287 : BitVec 32 := 0#32
  let v417 : BitVec 1 := Scalar.cmpi .ne v416 c0_i32_287
  let v421 : BitVec 1 := Scalar.andi v420 v417
  let v422 : BitVec 32 := Scalar.addi v416 v415
  let v423 : BitVec 32 := Scalar.select v421 v422 v416
  ![v423.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 2 → Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_290 : BitVec 32 := 128#32
  let v425 : BitVec 32 := Scalar.muli v2 c128_i32_290
  ![0, v425.toNat]
def k0_off4 (d0 : Dev nD) (c1_i32_283 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v413 : BitVec 32 := Scalar.addi v2 c1_i32_283
  let c32_i32_284 : BitVec 32 := 32#32
  let c0_i32_285 : BitVec 32 := 0#32
  let v414 : BitVec 1 := Scalar.cmpi .eq c32_i32_284 c0_i32_285
  let c1_i32_286 : BitVec 32 := 1#32
  let v415 : BitVec 32 := Scalar.select v414 c1_i32_286 c32_i32_284
  let v416 : BitVec 32 := Scalar.remsi v413 v415
  let c0_i32_288 : BitVec 32 := 0#32
  let v418 : BitVec 1 := Scalar.cmpi .slt v416 c0_i32_288
  let c0_i32_289 : BitVec 32 := 0#32
  let v419 : BitVec 1 := Scalar.cmpi .slt v415 c0_i32_289
  let v420 : BitVec 1 := Scalar.xori v418 v419
  let c0_i32_287 : BitVec 32 := 0#32
  let v417 : BitVec 1 := Scalar.cmpi .ne v416 c0_i32_287
  let v421 : BitVec 1 := Scalar.andi v420 v417
  let v422 : BitVec 32 := Scalar.addi v416 v415
  let v423 : BitVec 32 := Scalar.select v421 v422 v416
  let c128_i32 : BitVec 32 := 128#32
  let v424 : BitVec 32 := Scalar.muli v423 c128_i32
  let c0_i32_294 : BitVec 32 := 0#32
  ![v424.toNat, 0]
def k0_dev32 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_283 : BitVec 32 := 1#32
  let v413 : BitVec 32 := Scalar.addi v2 c1_i32_283
  let c32_i32_284 : BitVec 32 := 32#32
  let c0_i32_285 : BitVec 32 := 0#32
  let v414 : BitVec 1 := Scalar.cmpi .eq c32_i32_284 c0_i32_285
  let c1_i32_286 : BitVec 32 := 1#32
  let v415 : BitVec 32 := Scalar.select v414 c1_i32_286 c32_i32_284
  let v416 : BitVec 32 := Scalar.remsi v413 v415
  let c0_i32_288 : BitVec 32 := 0#32
  let v418 : BitVec 1 := Scalar.cmpi .slt v416 c0_i32_288
  let c0_i32_289 : BitVec 32 := 0#32
  let v419 : BitVec 1 := Scalar.cmpi .slt v415 c0_i32_289
  let v420 : BitVec 1 := Scalar.xori v418 v419
  let c0_i32_287 : BitVec 32 := 0#32
  let v417 : BitVec 1 := Scalar.cmpi .ne v416 c0_i32_287
  let v421 : BitVec 1 := Scalar.andi v420 v417
  let v422 : BitVec 32 := Scalar.addi v416 v415
  let v423 : BitVec 32 := Scalar.select v421 v422 v416
  let c1_i32_291 : BitVec 32 := 1#32
  let v426 : BitVec 32 := Scalar.muli v423 c1_i32_291
  let v427 : BitVec 32 := Scalar.addi c0_i32_292 v426
  v427.toNat
def k0_dev33 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_295 : BitVec 32 := 2#32
  let v434 : BitVec 32 := Scalar.addi v2 c2_i32_295
  let c32_i32_296 : BitVec 32 := 32#32
  let c0_i32_297 : BitVec 32 := 0#32
  let v435 : BitVec 1 := Scalar.cmpi .eq c32_i32_296 c0_i32_297
  let c1_i32_298 : BitVec 32 := 1#32
  let v436 : BitVec 32 := Scalar.select v435 c1_i32_298 c32_i32_296
  let v437 : BitVec 32 := Scalar.remsi v434 v436
  let c0_i32_300 : BitVec 32 := 0#32
  let v439 : BitVec 1 := Scalar.cmpi .slt v437 c0_i32_300
  let c0_i32_301 : BitVec 32 := 0#32
  let v440 : BitVec 1 := Scalar.cmpi .slt v436 c0_i32_301
  let v441 : BitVec 1 := Scalar.xori v439 v440
  let c0_i32_299 : BitVec 32 := 0#32
  let v438 : BitVec 1 := Scalar.cmpi .ne v437 c0_i32_299
  let v442 : BitVec 1 := Scalar.andi v441 v438
  let v443 : BitVec 32 := Scalar.addi v437 v436
  let v444 : BitVec 32 := Scalar.select v442 v443 v437
  let c1_i32_304 : BitVec 32 := 1#32
  let v447 : BitVec 32 := Scalar.muli v444 c1_i32_304
  let v448 : BitVec 32 := Scalar.addi c0_i32_305 v447
  v448.toNat
def k0_dev34 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_308 : BitVec 32 := 3#32
  let v455 : BitVec 32 := Scalar.addi v2 c3_i32_308
  let c32_i32_309 : BitVec 32 := 32#32
  let c0_i32_310 : BitVec 32 := 0#32
  let v456 : BitVec 1 := Scalar.cmpi .eq c32_i32_309 c0_i32_310
  let c1_i32_311 : BitVec 32 := 1#32
  let v457 : BitVec 32 := Scalar.select v456 c1_i32_311 c32_i32_309
  let v458 : BitVec 32 := Scalar.remsi v455 v457
  let c0_i32_313 : BitVec 32 := 0#32
  let v460 : BitVec 1 := Scalar.cmpi .slt v458 c0_i32_313
  let c0_i32_314 : BitVec 32 := 0#32
  let v461 : BitVec 1 := Scalar.cmpi .slt v457 c0_i32_314
  let v462 : BitVec 1 := Scalar.xori v460 v461
  let c0_i32_312 : BitVec 32 := 0#32
  let v459 : BitVec 1 := Scalar.cmpi .ne v458 c0_i32_312
  let v463 : BitVec 1 := Scalar.andi v462 v459
  let v464 : BitVec 32 := Scalar.addi v458 v457
  let v465 : BitVec 32 := Scalar.select v463 v464 v458
  let c1_i32_317 : BitVec 32 := 1#32
  let v468 : BitVec 32 := Scalar.muli v465 c1_i32_317
  let v469 : BitVec 32 := Scalar.addi c0_i32_318 v468
  v469.toNat
def k0_dev35 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_321 : BitVec 32 := 4#32
  let v476 : BitVec 32 := Scalar.addi v2 c4_i32_321
  let c32_i32_322 : BitVec 32 := 32#32
  let c0_i32_323 : BitVec 32 := 0#32
  let v477 : BitVec 1 := Scalar.cmpi .eq c32_i32_322 c0_i32_323
  let c1_i32_324 : BitVec 32 := 1#32
  let v478 : BitVec 32 := Scalar.select v477 c1_i32_324 c32_i32_322
  let v479 : BitVec 32 := Scalar.remsi v476 v478
  let c0_i32_326 : BitVec 32 := 0#32
  let v481 : BitVec 1 := Scalar.cmpi .slt v479 c0_i32_326
  let c0_i32_327 : BitVec 32 := 0#32
  let v482 : BitVec 1 := Scalar.cmpi .slt v478 c0_i32_327
  let v483 : BitVec 1 := Scalar.xori v481 v482
  let c0_i32_325 : BitVec 32 := 0#32
  let v480 : BitVec 1 := Scalar.cmpi .ne v479 c0_i32_325
  let v484 : BitVec 1 := Scalar.andi v483 v480
  let v485 : BitVec 32 := Scalar.addi v479 v478
  let v486 : BitVec 32 := Scalar.select v484 v485 v479
  let c1_i32_330 : BitVec 32 := 1#32
  let v489 : BitVec 32 := Scalar.muli v486 c1_i32_330
  let v490 : BitVec 32 := Scalar.addi c0_i32_331 v489
  v490.toNat
def k0_dev36 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_334 : BitVec 32 := 5#32
  let v497 : BitVec 32 := Scalar.addi v2 c5_i32_334
  let c32_i32_335 : BitVec 32 := 32#32
  let c0_i32_336 : BitVec 32 := 0#32
  let v498 : BitVec 1 := Scalar.cmpi .eq c32_i32_335 c0_i32_336
  let c1_i32_337 : BitVec 32 := 1#32
  let v499 : BitVec 32 := Scalar.select v498 c1_i32_337 c32_i32_335
  let v500 : BitVec 32 := Scalar.remsi v497 v499
  let c0_i32_339 : BitVec 32 := 0#32
  let v502 : BitVec 1 := Scalar.cmpi .slt v500 c0_i32_339
  let c0_i32_340 : BitVec 32 := 0#32
  let v503 : BitVec 1 := Scalar.cmpi .slt v499 c0_i32_340
  let v504 : BitVec 1 := Scalar.xori v502 v503
  let c0_i32_338 : BitVec 32 := 0#32
  let v501 : BitVec 1 := Scalar.cmpi .ne v500 c0_i32_338
  let v505 : BitVec 1 := Scalar.andi v504 v501
  let v506 : BitVec 32 := Scalar.addi v500 v499
  let v507 : BitVec 32 := Scalar.select v505 v506 v500
  let c1_i32_343 : BitVec 32 := 1#32
  let v510 : BitVec 32 := Scalar.muli v507 c1_i32_343
  let v511 : BitVec 32 := Scalar.addi c0_i32_344 v510
  v511.toNat
def k0_dev37 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_347 : BitVec 32 := 6#32
  let v518 : BitVec 32 := Scalar.addi v2 c6_i32_347
  let c32_i32_348 : BitVec 32 := 32#32
  let c0_i32_349 : BitVec 32 := 0#32
  let v519 : BitVec 1 := Scalar.cmpi .eq c32_i32_348 c0_i32_349
  let c1_i32_350 : BitVec 32 := 1#32
  let v520 : BitVec 32 := Scalar.select v519 c1_i32_350 c32_i32_348
  let v521 : BitVec 32 := Scalar.remsi v518 v520
  let c0_i32_352 : BitVec 32 := 0#32
  let v523 : BitVec 1 := Scalar.cmpi .slt v521 c0_i32_352
  let c0_i32_353 : BitVec 32 := 0#32
  let v524 : BitVec 1 := Scalar.cmpi .slt v520 c0_i32_353
  let v525 : BitVec 1 := Scalar.xori v523 v524
  let c0_i32_351 : BitVec 32 := 0#32
  let v522 : BitVec 1 := Scalar.cmpi .ne v521 c0_i32_351
  let v526 : BitVec 1 := Scalar.andi v525 v522
  let v527 : BitVec 32 := Scalar.addi v521 v520
  let v528 : BitVec 32 := Scalar.select v526 v527 v521
  let c1_i32_356 : BitVec 32 := 1#32
  let v531 : BitVec 32 := Scalar.muli v528 c1_i32_356
  let v532 : BitVec 32 := Scalar.addi c0_i32_357 v531
  v532.toNat
def k0_dev38 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_360 : BitVec 32 := 7#32
  let v539 : BitVec 32 := Scalar.addi v2 c7_i32_360
  let c32_i32_361 : BitVec 32 := 32#32
  let c0_i32_362 : BitVec 32 := 0#32
  let v540 : BitVec 1 := Scalar.cmpi .eq c32_i32_361 c0_i32_362
  let c1_i32_363 : BitVec 32 := 1#32
  let v541 : BitVec 32 := Scalar.select v540 c1_i32_363 c32_i32_361
  let v542 : BitVec 32 := Scalar.remsi v539 v541
  let c0_i32_365 : BitVec 32 := 0#32
  let v544 : BitVec 1 := Scalar.cmpi .slt v542 c0_i32_365
  let c0_i32_366 : BitVec 32 := 0#32
  let v545 : BitVec 1 := Scalar.cmpi .slt v541 c0_i32_366
  let v546 : BitVec 1 := Scalar.xori v544 v545
  let c0_i32_364 : BitVec 32 := 0#32
  let v543 : BitVec 1 := Scalar.cmpi .ne v542 c0_i32_364
  let v547 : BitVec 1 := Scalar.andi v546 v543
  let v548 : BitVec 32 := Scalar.addi v542 v541
  let v549 : BitVec 32 := Scalar.select v547 v548 v542
  let c1_i32_369 : BitVec 32 := 1#32
  let v552 : BitVec 32 := Scalar.muli v549 c1_i32_369
  let v553 : BitVec 32 := Scalar.addi c0_i32_370 v552
  v553.toNat
def k0_dev39 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_373 : BitVec 32 := 8#32
  let v560 : BitVec 32 := Scalar.addi v2 c8_i32_373
  let c32_i32_374 : BitVec 32 := 32#32
  let c0_i32_375 : BitVec 32 := 0#32
  let v561 : BitVec 1 := Scalar.cmpi .eq c32_i32_374 c0_i32_375
  let c1_i32_376 : BitVec 32 := 1#32
  let v562 : BitVec 32 := Scalar.select v561 c1_i32_376 c32_i32_374
  let v563 : BitVec 32 := Scalar.remsi v560 v562
  let c0_i32_378 : BitVec 32 := 0#32
  let v565 : BitVec 1 := Scalar.cmpi .slt v563 c0_i32_378
  let c0_i32_379 : BitVec 32 := 0#32
  let v566 : BitVec 1 := Scalar.cmpi .slt v562 c0_i32_379
  let v567 : BitVec 1 := Scalar.xori v565 v566
  let c0_i32_377 : BitVec 32 := 0#32
  let v564 : BitVec 1 := Scalar.cmpi .ne v563 c0_i32_377
  let v568 : BitVec 1 := Scalar.andi v567 v564
  let v569 : BitVec 32 := Scalar.addi v563 v562
  let v570 : BitVec 32 := Scalar.select v568 v569 v563
  let c1_i32_382 : BitVec 32 := 1#32
  let v573 : BitVec 32 := Scalar.muli v570 c1_i32_382
  let v574 : BitVec 32 := Scalar.addi c0_i32_383 v573
  v574.toNat
def k0_dev40 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_386 : BitVec 32 := 9#32
  let v581 : BitVec 32 := Scalar.addi v2 c9_i32_386
  let c32_i32_387 : BitVec 32 := 32#32
  let c0_i32_388 : BitVec 32 := 0#32
  let v582 : BitVec 1 := Scalar.cmpi .eq c32_i32_387 c0_i32_388
  let c1_i32_389 : BitVec 32 := 1#32
  let v583 : BitVec 32 := Scalar.select v582 c1_i32_389 c32_i32_387
  let v584 : BitVec 32 := Scalar.remsi v581 v583
  let c0_i32_391 : BitVec 32 := 0#32
  let v586 : BitVec 1 := Scalar.cmpi .slt v584 c0_i32_391
  let c0_i32_392 : BitVec 32 := 0#32
  let v587 : BitVec 1 := Scalar.cmpi .slt v583 c0_i32_392
  let v588 : BitVec 1 := Scalar.xori v586 v587
  let c0_i32_390 : BitVec 32 := 0#32
  let v585 : BitVec 1 := Scalar.cmpi .ne v584 c0_i32_390
  let v589 : BitVec 1 := Scalar.andi v588 v585
  let v590 : BitVec 32 := Scalar.addi v584 v583
  let v591 : BitVec 32 := Scalar.select v589 v590 v584
  let c1_i32_395 : BitVec 32 := 1#32
  let v594 : BitVec 32 := Scalar.muli v591 c1_i32_395
  let v595 : BitVec 32 := Scalar.addi c0_i32_396 v594
  v595.toNat
def k0_dev41 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_399 : BitVec 32 := 10#32
  let v602 : BitVec 32 := Scalar.addi v2 c10_i32_399
  let c32_i32_400 : BitVec 32 := 32#32
  let c0_i32_401 : BitVec 32 := 0#32
  let v603 : BitVec 1 := Scalar.cmpi .eq c32_i32_400 c0_i32_401
  let c1_i32_402 : BitVec 32 := 1#32
  let v604 : BitVec 32 := Scalar.select v603 c1_i32_402 c32_i32_400
  let v605 : BitVec 32 := Scalar.remsi v602 v604
  let c0_i32_404 : BitVec 32 := 0#32
  let v607 : BitVec 1 := Scalar.cmpi .slt v605 c0_i32_404
  let c0_i32_405 : BitVec 32 := 0#32
  let v608 : BitVec 1 := Scalar.cmpi .slt v604 c0_i32_405
  let v609 : BitVec 1 := Scalar.xori v607 v608
  let c0_i32_403 : BitVec 32 := 0#32
  let v606 : BitVec 1 := Scalar.cmpi .ne v605 c0_i32_403
  let v610 : BitVec 1 := Scalar.andi v609 v606
  let v611 : BitVec 32 := Scalar.addi v605 v604
  let v612 : BitVec 32 := Scalar.select v610 v611 v605
  let c1_i32_408 : BitVec 32 := 1#32
  let v615 : BitVec 32 := Scalar.muli v612 c1_i32_408
  let v616 : BitVec 32 := Scalar.addi c0_i32_409 v615
  v616.toNat
def k0_dev42 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_412 : BitVec 32 := 11#32
  let v623 : BitVec 32 := Scalar.addi v2 c11_i32_412
  let c32_i32_413 : BitVec 32 := 32#32
  let c0_i32_414 : BitVec 32 := 0#32
  let v624 : BitVec 1 := Scalar.cmpi .eq c32_i32_413 c0_i32_414
  let c1_i32_415 : BitVec 32 := 1#32
  let v625 : BitVec 32 := Scalar.select v624 c1_i32_415 c32_i32_413
  let v626 : BitVec 32 := Scalar.remsi v623 v625
  let c0_i32_417 : BitVec 32 := 0#32
  let v628 : BitVec 1 := Scalar.cmpi .slt v626 c0_i32_417
  let c0_i32_418 : BitVec 32 := 0#32
  let v629 : BitVec 1 := Scalar.cmpi .slt v625 c0_i32_418
  let v630 : BitVec 1 := Scalar.xori v628 v629
  let c0_i32_416 : BitVec 32 := 0#32
  let v627 : BitVec 1 := Scalar.cmpi .ne v626 c0_i32_416
  let v631 : BitVec 1 := Scalar.andi v630 v627
  let v632 : BitVec 32 := Scalar.addi v626 v625
  let v633 : BitVec 32 := Scalar.select v631 v632 v626
  let c1_i32_421 : BitVec 32 := 1#32
  let v636 : BitVec 32 := Scalar.muli v633 c1_i32_421
  let v637 : BitVec 32 := Scalar.addi c0_i32_422 v636
  v637.toNat
def k0_dev43 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_425 : BitVec 32 := 12#32
  let v644 : BitVec 32 := Scalar.addi v2 c12_i32_425
  let c32_i32_426 : BitVec 32 := 32#32
  let c0_i32_427 : BitVec 32 := 0#32
  let v645 : BitVec 1 := Scalar.cmpi .eq c32_i32_426 c0_i32_427
  let c1_i32_428 : BitVec 32 := 1#32
  let v646 : BitVec 32 := Scalar.select v645 c1_i32_428 c32_i32_426
  let v647 : BitVec 32 := Scalar.remsi v644 v646
  let c0_i32_430 : BitVec 32 := 0#32
  let v649 : BitVec 1 := Scalar.cmpi .slt v647 c0_i32_430
  let c0_i32_431 : BitVec 32 := 0#32
  let v650 : BitVec 1 := Scalar.cmpi .slt v646 c0_i32_431
  let v651 : BitVec 1 := Scalar.xori v649 v650
  let c0_i32_429 : BitVec 32 := 0#32
  let v648 : BitVec 1 := Scalar.cmpi .ne v647 c0_i32_429
  let v652 : BitVec 1 := Scalar.andi v651 v648
  let v653 : BitVec 32 := Scalar.addi v647 v646
  let v654 : BitVec 32 := Scalar.select v652 v653 v647
  let c1_i32_434 : BitVec 32 := 1#32
  let v657 : BitVec 32 := Scalar.muli v654 c1_i32_434
  let v658 : BitVec 32 := Scalar.addi c0_i32_435 v657
  v658.toNat
def k0_dev44 (d0 : Dev nD) : Nat :=
  let c0_i32_448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_438 : BitVec 32 := 13#32
  let v665 : BitVec 32 := Scalar.addi v2 c13_i32_438
  let c32_i32_439 : BitVec 32 := 32#32
  let c0_i32_440 : BitVec 32 := 0#32
  let v666 : BitVec 1 := Scalar.cmpi .eq c32_i32_439 c0_i32_440
  let c1_i32_441 : BitVec 32 := 1#32
  let v667 : BitVec 32 := Scalar.select v666 c1_i32_441 c32_i32_439
  let v668 : BitVec 32 := Scalar.remsi v665 v667
  let c0_i32_443 : BitVec 32 := 0#32
  let v670 : BitVec 1 := Scalar.cmpi .slt v668 c0_i32_443
  let c0_i32_444 : BitVec 32 := 0#32
  let v671 : BitVec 1 := Scalar.cmpi .slt v667 c0_i32_444
  let v672 : BitVec 1 := Scalar.xori v670 v671
  let c0_i32_442 : BitVec 32 := 0#32
  let v669 : BitVec 1 := Scalar.cmpi .ne v668 c0_i32_442
  let v673 : BitVec 1 := Scalar.andi v672 v669
  let v674 : BitVec 32 := Scalar.addi v668 v667
  let v675 : BitVec 32 := Scalar.select v673 v674 v668
  let c1_i32_447 : BitVec 32 := 1#32
  let v678 : BitVec 32 := Scalar.muli v675 c1_i32_447
  let v679 : BitVec 32 := Scalar.addi c0_i32_448 v678
  v679.toNat
def k0_dev45 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_451 : BitVec 32 := 14#32
  let v686 : BitVec 32 := Scalar.addi v2 c14_i32_451
  let c32_i32_452 : BitVec 32 := 32#32
  let c0_i32_453 : BitVec 32 := 0#32
  let v687 : BitVec 1 := Scalar.cmpi .eq c32_i32_452 c0_i32_453
  let c1_i32_454 : BitVec 32 := 1#32
  let v688 : BitVec 32 := Scalar.select v687 c1_i32_454 c32_i32_452
  let v689 : BitVec 32 := Scalar.remsi v686 v688
  let c0_i32_456 : BitVec 32 := 0#32
  let v691 : BitVec 1 := Scalar.cmpi .slt v689 c0_i32_456
  let c0_i32_457 : BitVec 32 := 0#32
  let v692 : BitVec 1 := Scalar.cmpi .slt v688 c0_i32_457
  let v693 : BitVec 1 := Scalar.xori v691 v692
  let c0_i32_455 : BitVec 32 := 0#32
  let v690 : BitVec 1 := Scalar.cmpi .ne v689 c0_i32_455
  let v694 : BitVec 1 := Scalar.andi v693 v690
  let v695 : BitVec 32 := Scalar.addi v689 v688
  let v696 : BitVec 32 := Scalar.select v694 v695 v689
  let c1_i32_460 : BitVec 32 := 1#32
  let v699 : BitVec 32 := Scalar.muli v696 c1_i32_460
  let v700 : BitVec 32 := Scalar.addi c0_i32_461 v699
  v700.toNat
def k0_dev46 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_464 : BitVec 32 := 15#32
  let v707 : BitVec 32 := Scalar.addi v2 c15_i32_464
  let c32_i32_465 : BitVec 32 := 32#32
  let c0_i32_466 : BitVec 32 := 0#32
  let v708 : BitVec 1 := Scalar.cmpi .eq c32_i32_465 c0_i32_466
  let c1_i32_467 : BitVec 32 := 1#32
  let v709 : BitVec 32 := Scalar.select v708 c1_i32_467 c32_i32_465
  let v710 : BitVec 32 := Scalar.remsi v707 v709
  let c0_i32_469 : BitVec 32 := 0#32
  let v712 : BitVec 1 := Scalar.cmpi .slt v710 c0_i32_469
  let c0_i32_470 : BitVec 32 := 0#32
  let v713 : BitVec 1 := Scalar.cmpi .slt v709 c0_i32_470
  let v714 : BitVec 1 := Scalar.xori v712 v713
  let c0_i32_468 : BitVec 32 := 0#32
  let v711 : BitVec 1 := Scalar.cmpi .ne v710 c0_i32_468
  let v715 : BitVec 1 := Scalar.andi v714 v711
  let v716 : BitVec 32 := Scalar.addi v710 v709
  let v717 : BitVec 32 := Scalar.select v715 v716 v710
  let c1_i32_473 : BitVec 32 := 1#32
  let v720 : BitVec 32 := Scalar.muli v717 c1_i32_473
  let v721 : BitVec 32 := Scalar.addi c0_i32_474 v720
  v721.toNat
def k0_dev47 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_477 : BitVec 32 := 16#32
  let v728 : BitVec 32 := Scalar.addi v2 c16_i32_477
  let c32_i32_478 : BitVec 32 := 32#32
  let c0_i32_479 : BitVec 32 := 0#32
  let v729 : BitVec 1 := Scalar.cmpi .eq c32_i32_478 c0_i32_479
  let c1_i32_480 : BitVec 32 := 1#32
  let v730 : BitVec 32 := Scalar.select v729 c1_i32_480 c32_i32_478
  let v731 : BitVec 32 := Scalar.remsi v728 v730
  let c0_i32_482 : BitVec 32 := 0#32
  let v733 : BitVec 1 := Scalar.cmpi .slt v731 c0_i32_482
  let c0_i32_483 : BitVec 32 := 0#32
  let v734 : BitVec 1 := Scalar.cmpi .slt v730 c0_i32_483
  let v735 : BitVec 1 := Scalar.xori v733 v734
  let c0_i32_481 : BitVec 32 := 0#32
  let v732 : BitVec 1 := Scalar.cmpi .ne v731 c0_i32_481
  let v736 : BitVec 1 := Scalar.andi v735 v732
  let v737 : BitVec 32 := Scalar.addi v731 v730
  let v738 : BitVec 32 := Scalar.select v736 v737 v731
  let c1_i32_486 : BitVec 32 := 1#32
  let v741 : BitVec 32 := Scalar.muli v738 c1_i32_486
  let v742 : BitVec 32 := Scalar.addi c0_i32_487 v741
  v742.toNat
def k0_dev48 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_490 : BitVec 32 := 17#32
  let v749 : BitVec 32 := Scalar.addi v2 c17_i32_490
  let c32_i32_491 : BitVec 32 := 32#32
  let c0_i32_492 : BitVec 32 := 0#32
  let v750 : BitVec 1 := Scalar.cmpi .eq c32_i32_491 c0_i32_492
  let c1_i32_493 : BitVec 32 := 1#32
  let v751 : BitVec 32 := Scalar.select v750 c1_i32_493 c32_i32_491
  let v752 : BitVec 32 := Scalar.remsi v749 v751
  let c0_i32_495 : BitVec 32 := 0#32
  let v754 : BitVec 1 := Scalar.cmpi .slt v752 c0_i32_495
  let c0_i32_496 : BitVec 32 := 0#32
  let v755 : BitVec 1 := Scalar.cmpi .slt v751 c0_i32_496
  let v756 : BitVec 1 := Scalar.xori v754 v755
  let c0_i32_494 : BitVec 32 := 0#32
  let v753 : BitVec 1 := Scalar.cmpi .ne v752 c0_i32_494
  let v757 : BitVec 1 := Scalar.andi v756 v753
  let v758 : BitVec 32 := Scalar.addi v752 v751
  let v759 : BitVec 32 := Scalar.select v757 v758 v752
  let c1_i32_499 : BitVec 32 := 1#32
  let v762 : BitVec 32 := Scalar.muli v759 c1_i32_499
  let v763 : BitVec 32 := Scalar.addi c0_i32_500 v762
  v763.toNat
def k0_dev49 (d0 : Dev nD) : Nat :=
  let c0_i32_513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_503 : BitVec 32 := 18#32
  let v770 : BitVec 32 := Scalar.addi v2 c18_i32_503
  let c32_i32_504 : BitVec 32 := 32#32
  let c0_i32_505 : BitVec 32 := 0#32
  let v771 : BitVec 1 := Scalar.cmpi .eq c32_i32_504 c0_i32_505
  let c1_i32_506 : BitVec 32 := 1#32
  let v772 : BitVec 32 := Scalar.select v771 c1_i32_506 c32_i32_504
  let v773 : BitVec 32 := Scalar.remsi v770 v772
  let c0_i32_508 : BitVec 32 := 0#32
  let v775 : BitVec 1 := Scalar.cmpi .slt v773 c0_i32_508
  let c0_i32_509 : BitVec 32 := 0#32
  let v776 : BitVec 1 := Scalar.cmpi .slt v772 c0_i32_509
  let v777 : BitVec 1 := Scalar.xori v775 v776
  let c0_i32_507 : BitVec 32 := 0#32
  let v774 : BitVec 1 := Scalar.cmpi .ne v773 c0_i32_507
  let v778 : BitVec 1 := Scalar.andi v777 v774
  let v779 : BitVec 32 := Scalar.addi v773 v772
  let v780 : BitVec 32 := Scalar.select v778 v779 v773
  let c1_i32_512 : BitVec 32 := 1#32
  let v783 : BitVec 32 := Scalar.muli v780 c1_i32_512
  let v784 : BitVec 32 := Scalar.addi c0_i32_513 v783
  v784.toNat
def k0_dev50 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_516 : BitVec 32 := 19#32
  let v791 : BitVec 32 := Scalar.addi v2 c19_i32_516
  let c32_i32_517 : BitVec 32 := 32#32
  let c0_i32_518 : BitVec 32 := 0#32
  let v792 : BitVec 1 := Scalar.cmpi .eq c32_i32_517 c0_i32_518
  let c1_i32_519 : BitVec 32 := 1#32
  let v793 : BitVec 32 := Scalar.select v792 c1_i32_519 c32_i32_517
  let v794 : BitVec 32 := Scalar.remsi v791 v793
  let c0_i32_521 : BitVec 32 := 0#32
  let v796 : BitVec 1 := Scalar.cmpi .slt v794 c0_i32_521
  let c0_i32_522 : BitVec 32 := 0#32
  let v797 : BitVec 1 := Scalar.cmpi .slt v793 c0_i32_522
  let v798 : BitVec 1 := Scalar.xori v796 v797
  let c0_i32_520 : BitVec 32 := 0#32
  let v795 : BitVec 1 := Scalar.cmpi .ne v794 c0_i32_520
  let v799 : BitVec 1 := Scalar.andi v798 v795
  let v800 : BitVec 32 := Scalar.addi v794 v793
  let v801 : BitVec 32 := Scalar.select v799 v800 v794
  let c1_i32_525 : BitVec 32 := 1#32
  let v804 : BitVec 32 := Scalar.muli v801 c1_i32_525
  let v805 : BitVec 32 := Scalar.addi c0_i32_526 v804
  v805.toNat
def k0_dev51 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_529 : BitVec 32 := 20#32
  let v812 : BitVec 32 := Scalar.addi v2 c20_i32_529
  let c32_i32_530 : BitVec 32 := 32#32
  let c0_i32_531 : BitVec 32 := 0#32
  let v813 : BitVec 1 := Scalar.cmpi .eq c32_i32_530 c0_i32_531
  let c1_i32_532 : BitVec 32 := 1#32
  let v814 : BitVec 32 := Scalar.select v813 c1_i32_532 c32_i32_530
  let v815 : BitVec 32 := Scalar.remsi v812 v814
  let c0_i32_534 : BitVec 32 := 0#32
  let v817 : BitVec 1 := Scalar.cmpi .slt v815 c0_i32_534
  let c0_i32_535 : BitVec 32 := 0#32
  let v818 : BitVec 1 := Scalar.cmpi .slt v814 c0_i32_535
  let v819 : BitVec 1 := Scalar.xori v817 v818
  let c0_i32_533 : BitVec 32 := 0#32
  let v816 : BitVec 1 := Scalar.cmpi .ne v815 c0_i32_533
  let v820 : BitVec 1 := Scalar.andi v819 v816
  let v821 : BitVec 32 := Scalar.addi v815 v814
  let v822 : BitVec 32 := Scalar.select v820 v821 v815
  let c1_i32_538 : BitVec 32 := 1#32
  let v825 : BitVec 32 := Scalar.muli v822 c1_i32_538
  let v826 : BitVec 32 := Scalar.addi c0_i32_539 v825
  v826.toNat
def k0_dev52 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_542 : BitVec 32 := 21#32
  let v833 : BitVec 32 := Scalar.addi v2 c21_i32_542
  let c32_i32_543 : BitVec 32 := 32#32
  let c0_i32_544 : BitVec 32 := 0#32
  let v834 : BitVec 1 := Scalar.cmpi .eq c32_i32_543 c0_i32_544
  let c1_i32_545 : BitVec 32 := 1#32
  let v835 : BitVec 32 := Scalar.select v834 c1_i32_545 c32_i32_543
  let v836 : BitVec 32 := Scalar.remsi v833 v835
  let c0_i32_547 : BitVec 32 := 0#32
  let v838 : BitVec 1 := Scalar.cmpi .slt v836 c0_i32_547
  let c0_i32_548 : BitVec 32 := 0#32
  let v839 : BitVec 1 := Scalar.cmpi .slt v835 c0_i32_548
  let v840 : BitVec 1 := Scalar.xori v838 v839
  let c0_i32_546 : BitVec 32 := 0#32
  let v837 : BitVec 1 := Scalar.cmpi .ne v836 c0_i32_546
  let v841 : BitVec 1 := Scalar.andi v840 v837
  let v842 : BitVec 32 := Scalar.addi v836 v835
  let v843 : BitVec 32 := Scalar.select v841 v842 v836
  let c1_i32_551 : BitVec 32 := 1#32
  let v846 : BitVec 32 := Scalar.muli v843 c1_i32_551
  let v847 : BitVec 32 := Scalar.addi c0_i32_552 v846
  v847.toNat
def k0_dev53 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_555 : BitVec 32 := 22#32
  let v854 : BitVec 32 := Scalar.addi v2 c22_i32_555
  let c32_i32_556 : BitVec 32 := 32#32
  let c0_i32_557 : BitVec 32 := 0#32
  let v855 : BitVec 1 := Scalar.cmpi .eq c32_i32_556 c0_i32_557
  let c1_i32_558 : BitVec 32 := 1#32
  let v856 : BitVec 32 := Scalar.select v855 c1_i32_558 c32_i32_556
  let v857 : BitVec 32 := Scalar.remsi v854 v856
  let c0_i32_560 : BitVec 32 := 0#32
  let v859 : BitVec 1 := Scalar.cmpi .slt v857 c0_i32_560
  let c0_i32_561 : BitVec 32 := 0#32
  let v860 : BitVec 1 := Scalar.cmpi .slt v856 c0_i32_561
  let v861 : BitVec 1 := Scalar.xori v859 v860
  let c0_i32_559 : BitVec 32 := 0#32
  let v858 : BitVec 1 := Scalar.cmpi .ne v857 c0_i32_559
  let v862 : BitVec 1 := Scalar.andi v861 v858
  let v863 : BitVec 32 := Scalar.addi v857 v856
  let v864 : BitVec 32 := Scalar.select v862 v863 v857
  let c1_i32_564 : BitVec 32 := 1#32
  let v867 : BitVec 32 := Scalar.muli v864 c1_i32_564
  let v868 : BitVec 32 := Scalar.addi c0_i32_565 v867
  v868.toNat
def k0_dev54 (d0 : Dev nD) : Nat :=
  let c0_i32_578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_568 : BitVec 32 := 23#32
  let v875 : BitVec 32 := Scalar.addi v2 c23_i32_568
  let c32_i32_569 : BitVec 32 := 32#32
  let c0_i32_570 : BitVec 32 := 0#32
  let v876 : BitVec 1 := Scalar.cmpi .eq c32_i32_569 c0_i32_570
  let c1_i32_571 : BitVec 32 := 1#32
  let v877 : BitVec 32 := Scalar.select v876 c1_i32_571 c32_i32_569
  let v878 : BitVec 32 := Scalar.remsi v875 v877
  let c0_i32_573 : BitVec 32 := 0#32
  let v880 : BitVec 1 := Scalar.cmpi .slt v878 c0_i32_573
  let c0_i32_574 : BitVec 32 := 0#32
  let v881 : BitVec 1 := Scalar.cmpi .slt v877 c0_i32_574
  let v882 : BitVec 1 := Scalar.xori v880 v881
  let c0_i32_572 : BitVec 32 := 0#32
  let v879 : BitVec 1 := Scalar.cmpi .ne v878 c0_i32_572
  let v883 : BitVec 1 := Scalar.andi v882 v879
  let v884 : BitVec 32 := Scalar.addi v878 v877
  let v885 : BitVec 32 := Scalar.select v883 v884 v878
  let c1_i32_577 : BitVec 32 := 1#32
  let v888 : BitVec 32 := Scalar.muli v885 c1_i32_577
  let v889 : BitVec 32 := Scalar.addi c0_i32_578 v888
  v889.toNat
def k0_dev55 (d0 : Dev nD) : Nat :=
  let c0_i32_591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_581 : BitVec 32 := 24#32
  let v896 : BitVec 32 := Scalar.addi v2 c24_i32_581
  let c32_i32_582 : BitVec 32 := 32#32
  let c0_i32_583 : BitVec 32 := 0#32
  let v897 : BitVec 1 := Scalar.cmpi .eq c32_i32_582 c0_i32_583
  let c1_i32_584 : BitVec 32 := 1#32
  let v898 : BitVec 32 := Scalar.select v897 c1_i32_584 c32_i32_582
  let v899 : BitVec 32 := Scalar.remsi v896 v898
  let c0_i32_586 : BitVec 32 := 0#32
  let v901 : BitVec 1 := Scalar.cmpi .slt v899 c0_i32_586
  let c0_i32_587 : BitVec 32 := 0#32
  let v902 : BitVec 1 := Scalar.cmpi .slt v898 c0_i32_587
  let v903 : BitVec 1 := Scalar.xori v901 v902
  let c0_i32_585 : BitVec 32 := 0#32
  let v900 : BitVec 1 := Scalar.cmpi .ne v899 c0_i32_585
  let v904 : BitVec 1 := Scalar.andi v903 v900
  let v905 : BitVec 32 := Scalar.addi v899 v898
  let v906 : BitVec 32 := Scalar.select v904 v905 v899
  let c1_i32_590 : BitVec 32 := 1#32
  let v909 : BitVec 32 := Scalar.muli v906 c1_i32_590
  let v910 : BitVec 32 := Scalar.addi c0_i32_591 v909
  v910.toNat
def k0_dev56 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_594 : BitVec 32 := 25#32
  let v917 : BitVec 32 := Scalar.addi v2 c25_i32_594
  let c32_i32_595 : BitVec 32 := 32#32
  let c0_i32_596 : BitVec 32 := 0#32
  let v918 : BitVec 1 := Scalar.cmpi .eq c32_i32_595 c0_i32_596
  let c1_i32_597 : BitVec 32 := 1#32
  let v919 : BitVec 32 := Scalar.select v918 c1_i32_597 c32_i32_595
  let v920 : BitVec 32 := Scalar.remsi v917 v919
  let c0_i32_599 : BitVec 32 := 0#32
  let v922 : BitVec 1 := Scalar.cmpi .slt v920 c0_i32_599
  let c0_i32_600 : BitVec 32 := 0#32
  let v923 : BitVec 1 := Scalar.cmpi .slt v919 c0_i32_600
  let v924 : BitVec 1 := Scalar.xori v922 v923
  let c0_i32_598 : BitVec 32 := 0#32
  let v921 : BitVec 1 := Scalar.cmpi .ne v920 c0_i32_598
  let v925 : BitVec 1 := Scalar.andi v924 v921
  let v926 : BitVec 32 := Scalar.addi v920 v919
  let v927 : BitVec 32 := Scalar.select v925 v926 v920
  let c1_i32_603 : BitVec 32 := 1#32
  let v930 : BitVec 32 := Scalar.muli v927 c1_i32_603
  let v931 : BitVec 32 := Scalar.addi c0_i32_604 v930
  v931.toNat
def k0_dev57 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_607 : BitVec 32 := 26#32
  let v938 : BitVec 32 := Scalar.addi v2 c26_i32_607
  let c32_i32_608 : BitVec 32 := 32#32
  let c0_i32_609 : BitVec 32 := 0#32
  let v939 : BitVec 1 := Scalar.cmpi .eq c32_i32_608 c0_i32_609
  let c1_i32_610 : BitVec 32 := 1#32
  let v940 : BitVec 32 := Scalar.select v939 c1_i32_610 c32_i32_608
  let v941 : BitVec 32 := Scalar.remsi v938 v940
  let c0_i32_612 : BitVec 32 := 0#32
  let v943 : BitVec 1 := Scalar.cmpi .slt v941 c0_i32_612
  let c0_i32_613 : BitVec 32 := 0#32
  let v944 : BitVec 1 := Scalar.cmpi .slt v940 c0_i32_613
  let v945 : BitVec 1 := Scalar.xori v943 v944
  let c0_i32_611 : BitVec 32 := 0#32
  let v942 : BitVec 1 := Scalar.cmpi .ne v941 c0_i32_611
  let v946 : BitVec 1 := Scalar.andi v945 v942
  let v947 : BitVec 32 := Scalar.addi v941 v940
  let v948 : BitVec 32 := Scalar.select v946 v947 v941
  let c1_i32_616 : BitVec 32 := 1#32
  let v951 : BitVec 32 := Scalar.muli v948 c1_i32_616
  let v952 : BitVec 32 := Scalar.addi c0_i32_617 v951
  v952.toNat
def k0_dev58 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_620 : BitVec 32 := 27#32
  let v959 : BitVec 32 := Scalar.addi v2 c27_i32_620
  let c32_i32_621 : BitVec 32 := 32#32
  let c0_i32_622 : BitVec 32 := 0#32
  let v960 : BitVec 1 := Scalar.cmpi .eq c32_i32_621 c0_i32_622
  let c1_i32_623 : BitVec 32 := 1#32
  let v961 : BitVec 32 := Scalar.select v960 c1_i32_623 c32_i32_621
  let v962 : BitVec 32 := Scalar.remsi v959 v961
  let c0_i32_625 : BitVec 32 := 0#32
  let v964 : BitVec 1 := Scalar.cmpi .slt v962 c0_i32_625
  let c0_i32_626 : BitVec 32 := 0#32
  let v965 : BitVec 1 := Scalar.cmpi .slt v961 c0_i32_626
  let v966 : BitVec 1 := Scalar.xori v964 v965
  let c0_i32_624 : BitVec 32 := 0#32
  let v963 : BitVec 1 := Scalar.cmpi .ne v962 c0_i32_624
  let v967 : BitVec 1 := Scalar.andi v966 v963
  let v968 : BitVec 32 := Scalar.addi v962 v961
  let v969 : BitVec 32 := Scalar.select v967 v968 v962
  let c1_i32_629 : BitVec 32 := 1#32
  let v972 : BitVec 32 := Scalar.muli v969 c1_i32_629
  let v973 : BitVec 32 := Scalar.addi c0_i32_630 v972
  v973.toNat
def k0_dev59 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_633 : BitVec 32 := 28#32
  let v980 : BitVec 32 := Scalar.addi v2 c28_i32_633
  let c32_i32_634 : BitVec 32 := 32#32
  let c0_i32_635 : BitVec 32 := 0#32
  let v981 : BitVec 1 := Scalar.cmpi .eq c32_i32_634 c0_i32_635
  let c1_i32_636 : BitVec 32 := 1#32
  let v982 : BitVec 32 := Scalar.select v981 c1_i32_636 c32_i32_634
  let v983 : BitVec 32 := Scalar.remsi v980 v982
  let c0_i32_638 : BitVec 32 := 0#32
  let v985 : BitVec 1 := Scalar.cmpi .slt v983 c0_i32_638
  let c0_i32_639 : BitVec 32 := 0#32
  let v986 : BitVec 1 := Scalar.cmpi .slt v982 c0_i32_639
  let v987 : BitVec 1 := Scalar.xori v985 v986
  let c0_i32_637 : BitVec 32 := 0#32
  let v984 : BitVec 1 := Scalar.cmpi .ne v983 c0_i32_637
  let v988 : BitVec 1 := Scalar.andi v987 v984
  let v989 : BitVec 32 := Scalar.addi v983 v982
  let v990 : BitVec 32 := Scalar.select v988 v989 v983
  let c1_i32_642 : BitVec 32 := 1#32
  let v993 : BitVec 32 := Scalar.muli v990 c1_i32_642
  let v994 : BitVec 32 := Scalar.addi c0_i32_643 v993
  v994.toNat
def k0_dev60 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_646 : BitVec 32 := 29#32
  let v1001 : BitVec 32 := Scalar.addi v2 c29_i32_646
  let c32_i32_647 : BitVec 32 := 32#32
  let c0_i32_648 : BitVec 32 := 0#32
  let v1002 : BitVec 1 := Scalar.cmpi .eq c32_i32_647 c0_i32_648
  let c1_i32_649 : BitVec 32 := 1#32
  let v1003 : BitVec 32 := Scalar.select v1002 c1_i32_649 c32_i32_647
  let v1004 : BitVec 32 := Scalar.remsi v1001 v1003
  let c0_i32_651 : BitVec 32 := 0#32
  let v1006 : BitVec 1 := Scalar.cmpi .slt v1004 c0_i32_651
  let c0_i32_652 : BitVec 32 := 0#32
  let v1007 : BitVec 1 := Scalar.cmpi .slt v1003 c0_i32_652
  let v1008 : BitVec 1 := Scalar.xori v1006 v1007
  let c0_i32_650 : BitVec 32 := 0#32
  let v1005 : BitVec 1 := Scalar.cmpi .ne v1004 c0_i32_650
  let v1009 : BitVec 1 := Scalar.andi v1008 v1005
  let v1010 : BitVec 32 := Scalar.addi v1004 v1003
  let v1011 : BitVec 32 := Scalar.select v1009 v1010 v1004
  let c1_i32_655 : BitVec 32 := 1#32
  let v1014 : BitVec 32 := Scalar.muli v1011 c1_i32_655
  let v1015 : BitVec 32 := Scalar.addi c0_i32_656 v1014
  v1015.toNat
def k0_dev61 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_659 : BitVec 32 := 30#32
  let v1022 : BitVec 32 := Scalar.addi v2 c30_i32_659
  let c32_i32_660 : BitVec 32 := 32#32
  let c0_i32_661 : BitVec 32 := 0#32
  let v1023 : BitVec 1 := Scalar.cmpi .eq c32_i32_660 c0_i32_661
  let c1_i32_662 : BitVec 32 := 1#32
  let v1024 : BitVec 32 := Scalar.select v1023 c1_i32_662 c32_i32_660
  let v1025 : BitVec 32 := Scalar.remsi v1022 v1024
  let c0_i32_664 : BitVec 32 := 0#32
  let v1027 : BitVec 1 := Scalar.cmpi .slt v1025 c0_i32_664
  let c0_i32_665 : BitVec 32 := 0#32
  let v1028 : BitVec 1 := Scalar.cmpi .slt v1024 c0_i32_665
  let v1029 : BitVec 1 := Scalar.xori v1027 v1028
  let c0_i32_663 : BitVec 32 := 0#32
  let v1026 : BitVec 1 := Scalar.cmpi .ne v1025 c0_i32_663
  let v1030 : BitVec 1 := Scalar.andi v1029 v1026
  let v1031 : BitVec 32 := Scalar.addi v1025 v1024
  let v1032 : BitVec 32 := Scalar.select v1030 v1031 v1025
  let c1_i32_668 : BitVec 32 := 1#32
  let v1035 : BitVec 32 := Scalar.muli v1032 c1_i32_668
  let v1036 : BitVec 32 := Scalar.addi c0_i32_669 v1035
  v1036.toNat
def k0_dev62 (d0 : Dev nD) : Nat :=
  let c0_i32_682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_672 : BitVec 32 := 31#32
  let v1043 : BitVec 32 := Scalar.addi v2 c31_i32_672
  let c32_i32_673 : BitVec 32 := 32#32
  let c0_i32_674 : BitVec 32 := 0#32
  let v1044 : BitVec 1 := Scalar.cmpi .eq c32_i32_673 c0_i32_674
  let c1_i32_675 : BitVec 32 := 1#32
  let v1045 : BitVec 32 := Scalar.select v1044 c1_i32_675 c32_i32_673
  let v1046 : BitVec 32 := Scalar.remsi v1043 v1045
  let c0_i32_677 : BitVec 32 := 0#32
  let v1048 : BitVec 1 := Scalar.cmpi .slt v1046 c0_i32_677
  let c0_i32_678 : BitVec 32 := 0#32
  let v1049 : BitVec 1 := Scalar.cmpi .slt v1045 c0_i32_678
  let v1050 : BitVec 1 := Scalar.xori v1048 v1049
  let c0_i32_676 : BitVec 32 := 0#32
  let v1047 : BitVec 1 := Scalar.cmpi .ne v1046 c0_i32_676
  let v1051 : BitVec 1 := Scalar.andi v1050 v1047
  let v1052 : BitVec 32 := Scalar.addi v1046 v1045
  let v1053 : BitVec 32 := Scalar.select v1051 v1052 v1046
  let c1_i32_681 : BitVec 32 := 1#32
  let v1056 : BitVec 32 := Scalar.muli v1053 c1_i32_681
  let v1057 : BitVec 32 := Scalar.addi c0_i32_682 v1056
  v1057.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_685 : BitVec 32 := 128#32
  let v1064 : BitVec 32 := Scalar.muli v2 c128_i32_685
  let c0_i32_688 : BitVec 32 := 0#32
  ![v1064.toNat, 0]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2048 : Index := Scalar.indexCast v2
  let c0_1496 : Index := 0#32
  let c0_1497 : Index := 0#32
  ![v2048.toNat, 0, 0]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1507 : BitVec 32 := 0#32
  let c0_i32_1508 : BitVec 32 := 0#32
  ![v2.toNat, 0, 0]
def k0_dev63 (d0 : Dev nD) : Nat :=
  let c0_i32_1506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1498 : BitVec 32 := 1#32
  let v2052 : BitVec 32 := Scalar.addi v2 c1_i32_1498
  let c32_i32_1499 : BitVec 32 := 32#32
  let c0_i32_1500 : BitVec 32 := 0#32
  let v2053 : BitVec 1 := Scalar.cmpi .eq c32_i32_1499 c0_i32_1500
  let c1_i32_1501 : BitVec 32 := 1#32
  let v2054 : BitVec 32 := Scalar.select v2053 c1_i32_1501 c32_i32_1499
  let v2055 : BitVec 32 := Scalar.remsi v2052 v2054
  let c0_i32_1503 : BitVec 32 := 0#32
  let v2057 : BitVec 1 := Scalar.cmpi .slt v2055 c0_i32_1503
  let c0_i32_1504 : BitVec 32 := 0#32
  let v2058 : BitVec 1 := Scalar.cmpi .slt v2054 c0_i32_1504
  let v2059 : BitVec 1 := Scalar.xori v2057 v2058
  let c0_i32_1502 : BitVec 32 := 0#32
  let v2056 : BitVec 1 := Scalar.cmpi .ne v2055 c0_i32_1502
  let v2060 : BitVec 1 := Scalar.andi v2059 v2056
  let v2061 : BitVec 32 := Scalar.addi v2055 v2054
  let v2062 : BitVec 32 := Scalar.select v2060 v2061 v2055
  let c1_i32_1505 : BitVec 32 := 1#32
  let v2063 : BitVec 32 := Scalar.muli v2062 c1_i32_1505
  let v2064 : BitVec 32 := Scalar.addi c0_i32_1506 v2063
  v2064.toNat
def k0_dev64 (d0 : Dev nD) : Nat :=
  let c0_i32_1519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1511 : BitVec 32 := 2#32
  let v2073 : BitVec 32 := Scalar.addi v2 c2_i32_1511
  let c32_i32_1512 : BitVec 32 := 32#32
  let c0_i32_1513 : BitVec 32 := 0#32
  let v2074 : BitVec 1 := Scalar.cmpi .eq c32_i32_1512 c0_i32_1513
  let c1_i32_1514 : BitVec 32 := 1#32
  let v2075 : BitVec 32 := Scalar.select v2074 c1_i32_1514 c32_i32_1512
  let v2076 : BitVec 32 := Scalar.remsi v2073 v2075
  let c0_i32_1516 : BitVec 32 := 0#32
  let v2078 : BitVec 1 := Scalar.cmpi .slt v2076 c0_i32_1516
  let c0_i32_1517 : BitVec 32 := 0#32
  let v2079 : BitVec 1 := Scalar.cmpi .slt v2075 c0_i32_1517
  let v2080 : BitVec 1 := Scalar.xori v2078 v2079
  let c0_i32_1515 : BitVec 32 := 0#32
  let v2077 : BitVec 1 := Scalar.cmpi .ne v2076 c0_i32_1515
  let v2081 : BitVec 1 := Scalar.andi v2080 v2077
  let v2082 : BitVec 32 := Scalar.addi v2076 v2075
  let v2083 : BitVec 32 := Scalar.select v2081 v2082 v2076
  let c1_i32_1518 : BitVec 32 := 1#32
  let v2084 : BitVec 32 := Scalar.muli v2083 c1_i32_1518
  let v2085 : BitVec 32 := Scalar.addi c0_i32_1519 v2084
  v2085.toNat
def k0_dev65 (d0 : Dev nD) : Nat :=
  let c0_i32_1532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1524 : BitVec 32 := 3#32
  let v2094 : BitVec 32 := Scalar.addi v2 c3_i32_1524
  let c32_i32_1525 : BitVec 32 := 32#32
  let c0_i32_1526 : BitVec 32 := 0#32
  let v2095 : BitVec 1 := Scalar.cmpi .eq c32_i32_1525 c0_i32_1526
  let c1_i32_1527 : BitVec 32 := 1#32
  let v2096 : BitVec 32 := Scalar.select v2095 c1_i32_1527 c32_i32_1525
  let v2097 : BitVec 32 := Scalar.remsi v2094 v2096
  let c0_i32_1529 : BitVec 32 := 0#32
  let v2099 : BitVec 1 := Scalar.cmpi .slt v2097 c0_i32_1529
  let c0_i32_1530 : BitVec 32 := 0#32
  let v2100 : BitVec 1 := Scalar.cmpi .slt v2096 c0_i32_1530
  let v2101 : BitVec 1 := Scalar.xori v2099 v2100
  let c0_i32_1528 : BitVec 32 := 0#32
  let v2098 : BitVec 1 := Scalar.cmpi .ne v2097 c0_i32_1528
  let v2102 : BitVec 1 := Scalar.andi v2101 v2098
  let v2103 : BitVec 32 := Scalar.addi v2097 v2096
  let v2104 : BitVec 32 := Scalar.select v2102 v2103 v2097
  let c1_i32_1531 : BitVec 32 := 1#32
  let v2105 : BitVec 32 := Scalar.muli v2104 c1_i32_1531
  let v2106 : BitVec 32 := Scalar.addi c0_i32_1532 v2105
  v2106.toNat
def k0_dev66 (d0 : Dev nD) : Nat :=
  let c0_i32_1545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1537 : BitVec 32 := 4#32
  let v2115 : BitVec 32 := Scalar.addi v2 c4_i32_1537
  let c32_i32_1538 : BitVec 32 := 32#32
  let c0_i32_1539 : BitVec 32 := 0#32
  let v2116 : BitVec 1 := Scalar.cmpi .eq c32_i32_1538 c0_i32_1539
  let c1_i32_1540 : BitVec 32 := 1#32
  let v2117 : BitVec 32 := Scalar.select v2116 c1_i32_1540 c32_i32_1538
  let v2118 : BitVec 32 := Scalar.remsi v2115 v2117
  let c0_i32_1542 : BitVec 32 := 0#32
  let v2120 : BitVec 1 := Scalar.cmpi .slt v2118 c0_i32_1542
  let c0_i32_1543 : BitVec 32 := 0#32
  let v2121 : BitVec 1 := Scalar.cmpi .slt v2117 c0_i32_1543
  let v2122 : BitVec 1 := Scalar.xori v2120 v2121
  let c0_i32_1541 : BitVec 32 := 0#32
  let v2119 : BitVec 1 := Scalar.cmpi .ne v2118 c0_i32_1541
  let v2123 : BitVec 1 := Scalar.andi v2122 v2119
  let v2124 : BitVec 32 := Scalar.addi v2118 v2117
  let v2125 : BitVec 32 := Scalar.select v2123 v2124 v2118
  let c1_i32_1544 : BitVec 32 := 1#32
  let v2126 : BitVec 32 := Scalar.muli v2125 c1_i32_1544
  let v2127 : BitVec 32 := Scalar.addi c0_i32_1545 v2126
  v2127.toNat
def k0_dev67 (d0 : Dev nD) : Nat :=
  let c0_i32_1558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1550 : BitVec 32 := 5#32
  let v2136 : BitVec 32 := Scalar.addi v2 c5_i32_1550
  let c32_i32_1551 : BitVec 32 := 32#32
  let c0_i32_1552 : BitVec 32 := 0#32
  let v2137 : BitVec 1 := Scalar.cmpi .eq c32_i32_1551 c0_i32_1552
  let c1_i32_1553 : BitVec 32 := 1#32
  let v2138 : BitVec 32 := Scalar.select v2137 c1_i32_1553 c32_i32_1551
  let v2139 : BitVec 32 := Scalar.remsi v2136 v2138
  let c0_i32_1555 : BitVec 32 := 0#32
  let v2141 : BitVec 1 := Scalar.cmpi .slt v2139 c0_i32_1555
  let c0_i32_1556 : BitVec 32 := 0#32
  let v2142 : BitVec 1 := Scalar.cmpi .slt v2138 c0_i32_1556
  let v2143 : BitVec 1 := Scalar.xori v2141 v2142
  let c0_i32_1554 : BitVec 32 := 0#32
  let v2140 : BitVec 1 := Scalar.cmpi .ne v2139 c0_i32_1554
  let v2144 : BitVec 1 := Scalar.andi v2143 v2140
  let v2145 : BitVec 32 := Scalar.addi v2139 v2138
  let v2146 : BitVec 32 := Scalar.select v2144 v2145 v2139
  let c1_i32_1557 : BitVec 32 := 1#32
  let v2147 : BitVec 32 := Scalar.muli v2146 c1_i32_1557
  let v2148 : BitVec 32 := Scalar.addi c0_i32_1558 v2147
  v2148.toNat
def k0_dev68 (d0 : Dev nD) : Nat :=
  let c0_i32_1571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1563 : BitVec 32 := 6#32
  let v2157 : BitVec 32 := Scalar.addi v2 c6_i32_1563
  let c32_i32_1564 : BitVec 32 := 32#32
  let c0_i32_1565 : BitVec 32 := 0#32
  let v2158 : BitVec 1 := Scalar.cmpi .eq c32_i32_1564 c0_i32_1565
  let c1_i32_1566 : BitVec 32 := 1#32
  let v2159 : BitVec 32 := Scalar.select v2158 c1_i32_1566 c32_i32_1564
  let v2160 : BitVec 32 := Scalar.remsi v2157 v2159
  let c0_i32_1568 : BitVec 32 := 0#32
  let v2162 : BitVec 1 := Scalar.cmpi .slt v2160 c0_i32_1568
  let c0_i32_1569 : BitVec 32 := 0#32
  let v2163 : BitVec 1 := Scalar.cmpi .slt v2159 c0_i32_1569
  let v2164 : BitVec 1 := Scalar.xori v2162 v2163
  let c0_i32_1567 : BitVec 32 := 0#32
  let v2161 : BitVec 1 := Scalar.cmpi .ne v2160 c0_i32_1567
  let v2165 : BitVec 1 := Scalar.andi v2164 v2161
  let v2166 : BitVec 32 := Scalar.addi v2160 v2159
  let v2167 : BitVec 32 := Scalar.select v2165 v2166 v2160
  let c1_i32_1570 : BitVec 32 := 1#32
  let v2168 : BitVec 32 := Scalar.muli v2167 c1_i32_1570
  let v2169 : BitVec 32 := Scalar.addi c0_i32_1571 v2168
  v2169.toNat
def k0_dev69 (d0 : Dev nD) : Nat :=
  let c0_i32_1584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1576 : BitVec 32 := 7#32
  let v2178 : BitVec 32 := Scalar.addi v2 c7_i32_1576
  let c32_i32_1577 : BitVec 32 := 32#32
  let c0_i32_1578 : BitVec 32 := 0#32
  let v2179 : BitVec 1 := Scalar.cmpi .eq c32_i32_1577 c0_i32_1578
  let c1_i32_1579 : BitVec 32 := 1#32
  let v2180 : BitVec 32 := Scalar.select v2179 c1_i32_1579 c32_i32_1577
  let v2181 : BitVec 32 := Scalar.remsi v2178 v2180
  let c0_i32_1581 : BitVec 32 := 0#32
  let v2183 : BitVec 1 := Scalar.cmpi .slt v2181 c0_i32_1581
  let c0_i32_1582 : BitVec 32 := 0#32
  let v2184 : BitVec 1 := Scalar.cmpi .slt v2180 c0_i32_1582
  let v2185 : BitVec 1 := Scalar.xori v2183 v2184
  let c0_i32_1580 : BitVec 32 := 0#32
  let v2182 : BitVec 1 := Scalar.cmpi .ne v2181 c0_i32_1580
  let v2186 : BitVec 1 := Scalar.andi v2185 v2182
  let v2187 : BitVec 32 := Scalar.addi v2181 v2180
  let v2188 : BitVec 32 := Scalar.select v2186 v2187 v2181
  let c1_i32_1583 : BitVec 32 := 1#32
  let v2189 : BitVec 32 := Scalar.muli v2188 c1_i32_1583
  let v2190 : BitVec 32 := Scalar.addi c0_i32_1584 v2189
  v2190.toNat
def k0_dev70 (d0 : Dev nD) : Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1589 : BitVec 32 := 8#32
  let v2199 : BitVec 32 := Scalar.addi v2 c8_i32_1589
  let c32_i32_1590 : BitVec 32 := 32#32
  let c0_i32_1591 : BitVec 32 := 0#32
  let v2200 : BitVec 1 := Scalar.cmpi .eq c32_i32_1590 c0_i32_1591
  let c1_i32_1592 : BitVec 32 := 1#32
  let v2201 : BitVec 32 := Scalar.select v2200 c1_i32_1592 c32_i32_1590
  let v2202 : BitVec 32 := Scalar.remsi v2199 v2201
  let c0_i32_1594 : BitVec 32 := 0#32
  let v2204 : BitVec 1 := Scalar.cmpi .slt v2202 c0_i32_1594
  let c0_i32_1595 : BitVec 32 := 0#32
  let v2205 : BitVec 1 := Scalar.cmpi .slt v2201 c0_i32_1595
  let v2206 : BitVec 1 := Scalar.xori v2204 v2205
  let c0_i32_1593 : BitVec 32 := 0#32
  let v2203 : BitVec 1 := Scalar.cmpi .ne v2202 c0_i32_1593
  let v2207 : BitVec 1 := Scalar.andi v2206 v2203
  let v2208 : BitVec 32 := Scalar.addi v2202 v2201
  let v2209 : BitVec 32 := Scalar.select v2207 v2208 v2202
  let c1_i32_1596 : BitVec 32 := 1#32
  let v2210 : BitVec 32 := Scalar.muli v2209 c1_i32_1596
  let v2211 : BitVec 32 := Scalar.addi c0_i32_1597 v2210
  v2211.toNat
def k0_dev71 (d0 : Dev nD) : Nat :=
  let c0_i32_1610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1602 : BitVec 32 := 9#32
  let v2220 : BitVec 32 := Scalar.addi v2 c9_i32_1602
  let c32_i32_1603 : BitVec 32 := 32#32
  let c0_i32_1604 : BitVec 32 := 0#32
  let v2221 : BitVec 1 := Scalar.cmpi .eq c32_i32_1603 c0_i32_1604
  let c1_i32_1605 : BitVec 32 := 1#32
  let v2222 : BitVec 32 := Scalar.select v2221 c1_i32_1605 c32_i32_1603
  let v2223 : BitVec 32 := Scalar.remsi v2220 v2222
  let c0_i32_1607 : BitVec 32 := 0#32
  let v2225 : BitVec 1 := Scalar.cmpi .slt v2223 c0_i32_1607
  let c0_i32_1608 : BitVec 32 := 0#32
  let v2226 : BitVec 1 := Scalar.cmpi .slt v2222 c0_i32_1608
  let v2227 : BitVec 1 := Scalar.xori v2225 v2226
  let c0_i32_1606 : BitVec 32 := 0#32
  let v2224 : BitVec 1 := Scalar.cmpi .ne v2223 c0_i32_1606
  let v2228 : BitVec 1 := Scalar.andi v2227 v2224
  let v2229 : BitVec 32 := Scalar.addi v2223 v2222
  let v2230 : BitVec 32 := Scalar.select v2228 v2229 v2223
  let c1_i32_1609 : BitVec 32 := 1#32
  let v2231 : BitVec 32 := Scalar.muli v2230 c1_i32_1609
  let v2232 : BitVec 32 := Scalar.addi c0_i32_1610 v2231
  v2232.toNat
def k0_dev72 (d0 : Dev nD) : Nat :=
  let c0_i32_1623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1615 : BitVec 32 := 10#32
  let v2241 : BitVec 32 := Scalar.addi v2 c10_i32_1615
  let c32_i32_1616 : BitVec 32 := 32#32
  let c0_i32_1617 : BitVec 32 := 0#32
  let v2242 : BitVec 1 := Scalar.cmpi .eq c32_i32_1616 c0_i32_1617
  let c1_i32_1618 : BitVec 32 := 1#32
  let v2243 : BitVec 32 := Scalar.select v2242 c1_i32_1618 c32_i32_1616
  let v2244 : BitVec 32 := Scalar.remsi v2241 v2243
  let c0_i32_1620 : BitVec 32 := 0#32
  let v2246 : BitVec 1 := Scalar.cmpi .slt v2244 c0_i32_1620
  let c0_i32_1621 : BitVec 32 := 0#32
  let v2247 : BitVec 1 := Scalar.cmpi .slt v2243 c0_i32_1621
  let v2248 : BitVec 1 := Scalar.xori v2246 v2247
  let c0_i32_1619 : BitVec 32 := 0#32
  let v2245 : BitVec 1 := Scalar.cmpi .ne v2244 c0_i32_1619
  let v2249 : BitVec 1 := Scalar.andi v2248 v2245
  let v2250 : BitVec 32 := Scalar.addi v2244 v2243
  let v2251 : BitVec 32 := Scalar.select v2249 v2250 v2244
  let c1_i32_1622 : BitVec 32 := 1#32
  let v2252 : BitVec 32 := Scalar.muli v2251 c1_i32_1622
  let v2253 : BitVec 32 := Scalar.addi c0_i32_1623 v2252
  v2253.toNat
def k0_dev73 (d0 : Dev nD) : Nat :=
  let c0_i32_1636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1628 : BitVec 32 := 11#32
  let v2262 : BitVec 32 := Scalar.addi v2 c11_i32_1628
  let c32_i32_1629 : BitVec 32 := 32#32
  let c0_i32_1630 : BitVec 32 := 0#32
  let v2263 : BitVec 1 := Scalar.cmpi .eq c32_i32_1629 c0_i32_1630
  let c1_i32_1631 : BitVec 32 := 1#32
  let v2264 : BitVec 32 := Scalar.select v2263 c1_i32_1631 c32_i32_1629
  let v2265 : BitVec 32 := Scalar.remsi v2262 v2264
  let c0_i32_1633 : BitVec 32 := 0#32
  let v2267 : BitVec 1 := Scalar.cmpi .slt v2265 c0_i32_1633
  let c0_i32_1634 : BitVec 32 := 0#32
  let v2268 : BitVec 1 := Scalar.cmpi .slt v2264 c0_i32_1634
  let v2269 : BitVec 1 := Scalar.xori v2267 v2268
  let c0_i32_1632 : BitVec 32 := 0#32
  let v2266 : BitVec 1 := Scalar.cmpi .ne v2265 c0_i32_1632
  let v2270 : BitVec 1 := Scalar.andi v2269 v2266
  let v2271 : BitVec 32 := Scalar.addi v2265 v2264
  let v2272 : BitVec 32 := Scalar.select v2270 v2271 v2265
  let c1_i32_1635 : BitVec 32 := 1#32
  let v2273 : BitVec 32 := Scalar.muli v2272 c1_i32_1635
  let v2274 : BitVec 32 := Scalar.addi c0_i32_1636 v2273
  v2274.toNat
def k0_dev74 (d0 : Dev nD) : Nat :=
  let c0_i32_1649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1641 : BitVec 32 := 12#32
  let v2283 : BitVec 32 := Scalar.addi v2 c12_i32_1641
  let c32_i32_1642 : BitVec 32 := 32#32
  let c0_i32_1643 : BitVec 32 := 0#32
  let v2284 : BitVec 1 := Scalar.cmpi .eq c32_i32_1642 c0_i32_1643
  let c1_i32_1644 : BitVec 32 := 1#32
  let v2285 : BitVec 32 := Scalar.select v2284 c1_i32_1644 c32_i32_1642
  let v2286 : BitVec 32 := Scalar.remsi v2283 v2285
  let c0_i32_1646 : BitVec 32 := 0#32
  let v2288 : BitVec 1 := Scalar.cmpi .slt v2286 c0_i32_1646
  let c0_i32_1647 : BitVec 32 := 0#32
  let v2289 : BitVec 1 := Scalar.cmpi .slt v2285 c0_i32_1647
  let v2290 : BitVec 1 := Scalar.xori v2288 v2289
  let c0_i32_1645 : BitVec 32 := 0#32
  let v2287 : BitVec 1 := Scalar.cmpi .ne v2286 c0_i32_1645
  let v2291 : BitVec 1 := Scalar.andi v2290 v2287
  let v2292 : BitVec 32 := Scalar.addi v2286 v2285
  let v2293 : BitVec 32 := Scalar.select v2291 v2292 v2286
  let c1_i32_1648 : BitVec 32 := 1#32
  let v2294 : BitVec 32 := Scalar.muli v2293 c1_i32_1648
  let v2295 : BitVec 32 := Scalar.addi c0_i32_1649 v2294
  v2295.toNat
def k0_dev75 (d0 : Dev nD) : Nat :=
  let c0_i32_1662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1654 : BitVec 32 := 13#32
  let v2304 : BitVec 32 := Scalar.addi v2 c13_i32_1654
  let c32_i32_1655 : BitVec 32 := 32#32
  let c0_i32_1656 : BitVec 32 := 0#32
  let v2305 : BitVec 1 := Scalar.cmpi .eq c32_i32_1655 c0_i32_1656
  let c1_i32_1657 : BitVec 32 := 1#32
  let v2306 : BitVec 32 := Scalar.select v2305 c1_i32_1657 c32_i32_1655
  let v2307 : BitVec 32 := Scalar.remsi v2304 v2306
  let c0_i32_1659 : BitVec 32 := 0#32
  let v2309 : BitVec 1 := Scalar.cmpi .slt v2307 c0_i32_1659
  let c0_i32_1660 : BitVec 32 := 0#32
  let v2310 : BitVec 1 := Scalar.cmpi .slt v2306 c0_i32_1660
  let v2311 : BitVec 1 := Scalar.xori v2309 v2310
  let c0_i32_1658 : BitVec 32 := 0#32
  let v2308 : BitVec 1 := Scalar.cmpi .ne v2307 c0_i32_1658
  let v2312 : BitVec 1 := Scalar.andi v2311 v2308
  let v2313 : BitVec 32 := Scalar.addi v2307 v2306
  let v2314 : BitVec 32 := Scalar.select v2312 v2313 v2307
  let c1_i32_1661 : BitVec 32 := 1#32
  let v2315 : BitVec 32 := Scalar.muli v2314 c1_i32_1661
  let v2316 : BitVec 32 := Scalar.addi c0_i32_1662 v2315
  v2316.toNat
def k0_dev76 (d0 : Dev nD) : Nat :=
  let c0_i32_1675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1667 : BitVec 32 := 14#32
  let v2325 : BitVec 32 := Scalar.addi v2 c14_i32_1667
  let c32_i32_1668 : BitVec 32 := 32#32
  let c0_i32_1669 : BitVec 32 := 0#32
  let v2326 : BitVec 1 := Scalar.cmpi .eq c32_i32_1668 c0_i32_1669
  let c1_i32_1670 : BitVec 32 := 1#32
  let v2327 : BitVec 32 := Scalar.select v2326 c1_i32_1670 c32_i32_1668
  let v2328 : BitVec 32 := Scalar.remsi v2325 v2327
  let c0_i32_1672 : BitVec 32 := 0#32
  let v2330 : BitVec 1 := Scalar.cmpi .slt v2328 c0_i32_1672
  let c0_i32_1673 : BitVec 32 := 0#32
  let v2331 : BitVec 1 := Scalar.cmpi .slt v2327 c0_i32_1673
  let v2332 : BitVec 1 := Scalar.xori v2330 v2331
  let c0_i32_1671 : BitVec 32 := 0#32
  let v2329 : BitVec 1 := Scalar.cmpi .ne v2328 c0_i32_1671
  let v2333 : BitVec 1 := Scalar.andi v2332 v2329
  let v2334 : BitVec 32 := Scalar.addi v2328 v2327
  let v2335 : BitVec 32 := Scalar.select v2333 v2334 v2328
  let c1_i32_1674 : BitVec 32 := 1#32
  let v2336 : BitVec 32 := Scalar.muli v2335 c1_i32_1674
  let v2337 : BitVec 32 := Scalar.addi c0_i32_1675 v2336
  v2337.toNat
def k0_dev77 (d0 : Dev nD) : Nat :=
  let c0_i32_1688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1680 : BitVec 32 := 15#32
  let v2346 : BitVec 32 := Scalar.addi v2 c15_i32_1680
  let c32_i32_1681 : BitVec 32 := 32#32
  let c0_i32_1682 : BitVec 32 := 0#32
  let v2347 : BitVec 1 := Scalar.cmpi .eq c32_i32_1681 c0_i32_1682
  let c1_i32_1683 : BitVec 32 := 1#32
  let v2348 : BitVec 32 := Scalar.select v2347 c1_i32_1683 c32_i32_1681
  let v2349 : BitVec 32 := Scalar.remsi v2346 v2348
  let c0_i32_1685 : BitVec 32 := 0#32
  let v2351 : BitVec 1 := Scalar.cmpi .slt v2349 c0_i32_1685
  let c0_i32_1686 : BitVec 32 := 0#32
  let v2352 : BitVec 1 := Scalar.cmpi .slt v2348 c0_i32_1686
  let v2353 : BitVec 1 := Scalar.xori v2351 v2352
  let c0_i32_1684 : BitVec 32 := 0#32
  let v2350 : BitVec 1 := Scalar.cmpi .ne v2349 c0_i32_1684
  let v2354 : BitVec 1 := Scalar.andi v2353 v2350
  let v2355 : BitVec 32 := Scalar.addi v2349 v2348
  let v2356 : BitVec 32 := Scalar.select v2354 v2355 v2349
  let c1_i32_1687 : BitVec 32 := 1#32
  let v2357 : BitVec 32 := Scalar.muli v2356 c1_i32_1687
  let v2358 : BitVec 32 := Scalar.addi c0_i32_1688 v2357
  v2358.toNat
def k0_dev78 (d0 : Dev nD) : Nat :=
  let c0_i32_1701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1693 : BitVec 32 := 16#32
  let v2367 : BitVec 32 := Scalar.addi v2 c16_i32_1693
  let c32_i32_1694 : BitVec 32 := 32#32
  let c0_i32_1695 : BitVec 32 := 0#32
  let v2368 : BitVec 1 := Scalar.cmpi .eq c32_i32_1694 c0_i32_1695
  let c1_i32_1696 : BitVec 32 := 1#32
  let v2369 : BitVec 32 := Scalar.select v2368 c1_i32_1696 c32_i32_1694
  let v2370 : BitVec 32 := Scalar.remsi v2367 v2369
  let c0_i32_1698 : BitVec 32 := 0#32
  let v2372 : BitVec 1 := Scalar.cmpi .slt v2370 c0_i32_1698
  let c0_i32_1699 : BitVec 32 := 0#32
  let v2373 : BitVec 1 := Scalar.cmpi .slt v2369 c0_i32_1699
  let v2374 : BitVec 1 := Scalar.xori v2372 v2373
  let c0_i32_1697 : BitVec 32 := 0#32
  let v2371 : BitVec 1 := Scalar.cmpi .ne v2370 c0_i32_1697
  let v2375 : BitVec 1 := Scalar.andi v2374 v2371
  let v2376 : BitVec 32 := Scalar.addi v2370 v2369
  let v2377 : BitVec 32 := Scalar.select v2375 v2376 v2370
  let c1_i32_1700 : BitVec 32 := 1#32
  let v2378 : BitVec 32 := Scalar.muli v2377 c1_i32_1700
  let v2379 : BitVec 32 := Scalar.addi c0_i32_1701 v2378
  v2379.toNat
def k0_dev79 (d0 : Dev nD) : Nat :=
  let c0_i32_1714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1706 : BitVec 32 := 17#32
  let v2388 : BitVec 32 := Scalar.addi v2 c17_i32_1706
  let c32_i32_1707 : BitVec 32 := 32#32
  let c0_i32_1708 : BitVec 32 := 0#32
  let v2389 : BitVec 1 := Scalar.cmpi .eq c32_i32_1707 c0_i32_1708
  let c1_i32_1709 : BitVec 32 := 1#32
  let v2390 : BitVec 32 := Scalar.select v2389 c1_i32_1709 c32_i32_1707
  let v2391 : BitVec 32 := Scalar.remsi v2388 v2390
  let c0_i32_1711 : BitVec 32 := 0#32
  let v2393 : BitVec 1 := Scalar.cmpi .slt v2391 c0_i32_1711
  let c0_i32_1712 : BitVec 32 := 0#32
  let v2394 : BitVec 1 := Scalar.cmpi .slt v2390 c0_i32_1712
  let v2395 : BitVec 1 := Scalar.xori v2393 v2394
  let c0_i32_1710 : BitVec 32 := 0#32
  let v2392 : BitVec 1 := Scalar.cmpi .ne v2391 c0_i32_1710
  let v2396 : BitVec 1 := Scalar.andi v2395 v2392
  let v2397 : BitVec 32 := Scalar.addi v2391 v2390
  let v2398 : BitVec 32 := Scalar.select v2396 v2397 v2391
  let c1_i32_1713 : BitVec 32 := 1#32
  let v2399 : BitVec 32 := Scalar.muli v2398 c1_i32_1713
  let v2400 : BitVec 32 := Scalar.addi c0_i32_1714 v2399
  v2400.toNat
def k0_dev80 (d0 : Dev nD) : Nat :=
  let c0_i32_1727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1719 : BitVec 32 := 18#32
  let v2409 : BitVec 32 := Scalar.addi v2 c18_i32_1719
  let c32_i32_1720 : BitVec 32 := 32#32
  let c0_i32_1721 : BitVec 32 := 0#32
  let v2410 : BitVec 1 := Scalar.cmpi .eq c32_i32_1720 c0_i32_1721
  let c1_i32_1722 : BitVec 32 := 1#32
  let v2411 : BitVec 32 := Scalar.select v2410 c1_i32_1722 c32_i32_1720
  let v2412 : BitVec 32 := Scalar.remsi v2409 v2411
  let c0_i32_1724 : BitVec 32 := 0#32
  let v2414 : BitVec 1 := Scalar.cmpi .slt v2412 c0_i32_1724
  let c0_i32_1725 : BitVec 32 := 0#32
  let v2415 : BitVec 1 := Scalar.cmpi .slt v2411 c0_i32_1725
  let v2416 : BitVec 1 := Scalar.xori v2414 v2415
  let c0_i32_1723 : BitVec 32 := 0#32
  let v2413 : BitVec 1 := Scalar.cmpi .ne v2412 c0_i32_1723
  let v2417 : BitVec 1 := Scalar.andi v2416 v2413
  let v2418 : BitVec 32 := Scalar.addi v2412 v2411
  let v2419 : BitVec 32 := Scalar.select v2417 v2418 v2412
  let c1_i32_1726 : BitVec 32 := 1#32
  let v2420 : BitVec 32 := Scalar.muli v2419 c1_i32_1726
  let v2421 : BitVec 32 := Scalar.addi c0_i32_1727 v2420
  v2421.toNat
def k0_dev81 (d0 : Dev nD) : Nat :=
  let c0_i32_1740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1732 : BitVec 32 := 19#32
  let v2430 : BitVec 32 := Scalar.addi v2 c19_i32_1732
  let c32_i32_1733 : BitVec 32 := 32#32
  let c0_i32_1734 : BitVec 32 := 0#32
  let v2431 : BitVec 1 := Scalar.cmpi .eq c32_i32_1733 c0_i32_1734
  let c1_i32_1735 : BitVec 32 := 1#32
  let v2432 : BitVec 32 := Scalar.select v2431 c1_i32_1735 c32_i32_1733
  let v2433 : BitVec 32 := Scalar.remsi v2430 v2432
  let c0_i32_1737 : BitVec 32 := 0#32
  let v2435 : BitVec 1 := Scalar.cmpi .slt v2433 c0_i32_1737
  let c0_i32_1738 : BitVec 32 := 0#32
  let v2436 : BitVec 1 := Scalar.cmpi .slt v2432 c0_i32_1738
  let v2437 : BitVec 1 := Scalar.xori v2435 v2436
  let c0_i32_1736 : BitVec 32 := 0#32
  let v2434 : BitVec 1 := Scalar.cmpi .ne v2433 c0_i32_1736
  let v2438 : BitVec 1 := Scalar.andi v2437 v2434
  let v2439 : BitVec 32 := Scalar.addi v2433 v2432
  let v2440 : BitVec 32 := Scalar.select v2438 v2439 v2433
  let c1_i32_1739 : BitVec 32 := 1#32
  let v2441 : BitVec 32 := Scalar.muli v2440 c1_i32_1739
  let v2442 : BitVec 32 := Scalar.addi c0_i32_1740 v2441
  v2442.toNat
def k0_dev82 (d0 : Dev nD) : Nat :=
  let c0_i32_1753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1745 : BitVec 32 := 20#32
  let v2451 : BitVec 32 := Scalar.addi v2 c20_i32_1745
  let c32_i32_1746 : BitVec 32 := 32#32
  let c0_i32_1747 : BitVec 32 := 0#32
  let v2452 : BitVec 1 := Scalar.cmpi .eq c32_i32_1746 c0_i32_1747
  let c1_i32_1748 : BitVec 32 := 1#32
  let v2453 : BitVec 32 := Scalar.select v2452 c1_i32_1748 c32_i32_1746
  let v2454 : BitVec 32 := Scalar.remsi v2451 v2453
  let c0_i32_1750 : BitVec 32 := 0#32
  let v2456 : BitVec 1 := Scalar.cmpi .slt v2454 c0_i32_1750
  let c0_i32_1751 : BitVec 32 := 0#32
  let v2457 : BitVec 1 := Scalar.cmpi .slt v2453 c0_i32_1751
  let v2458 : BitVec 1 := Scalar.xori v2456 v2457
  let c0_i32_1749 : BitVec 32 := 0#32
  let v2455 : BitVec 1 := Scalar.cmpi .ne v2454 c0_i32_1749
  let v2459 : BitVec 1 := Scalar.andi v2458 v2455
  let v2460 : BitVec 32 := Scalar.addi v2454 v2453
  let v2461 : BitVec 32 := Scalar.select v2459 v2460 v2454
  let c1_i32_1752 : BitVec 32 := 1#32
  let v2462 : BitVec 32 := Scalar.muli v2461 c1_i32_1752
  let v2463 : BitVec 32 := Scalar.addi c0_i32_1753 v2462
  v2463.toNat
def k0_dev83 (d0 : Dev nD) : Nat :=
  let c0_i32_1766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1758 : BitVec 32 := 21#32
  let v2472 : BitVec 32 := Scalar.addi v2 c21_i32_1758
  let c32_i32_1759 : BitVec 32 := 32#32
  let c0_i32_1760 : BitVec 32 := 0#32
  let v2473 : BitVec 1 := Scalar.cmpi .eq c32_i32_1759 c0_i32_1760
  let c1_i32_1761 : BitVec 32 := 1#32
  let v2474 : BitVec 32 := Scalar.select v2473 c1_i32_1761 c32_i32_1759
  let v2475 : BitVec 32 := Scalar.remsi v2472 v2474
  let c0_i32_1763 : BitVec 32 := 0#32
  let v2477 : BitVec 1 := Scalar.cmpi .slt v2475 c0_i32_1763
  let c0_i32_1764 : BitVec 32 := 0#32
  let v2478 : BitVec 1 := Scalar.cmpi .slt v2474 c0_i32_1764
  let v2479 : BitVec 1 := Scalar.xori v2477 v2478
  let c0_i32_1762 : BitVec 32 := 0#32
  let v2476 : BitVec 1 := Scalar.cmpi .ne v2475 c0_i32_1762
  let v2480 : BitVec 1 := Scalar.andi v2479 v2476
  let v2481 : BitVec 32 := Scalar.addi v2475 v2474
  let v2482 : BitVec 32 := Scalar.select v2480 v2481 v2475
  let c1_i32_1765 : BitVec 32 := 1#32
  let v2483 : BitVec 32 := Scalar.muli v2482 c1_i32_1765
  let v2484 : BitVec 32 := Scalar.addi c0_i32_1766 v2483
  v2484.toNat
def k0_dev84 (d0 : Dev nD) : Nat :=
  let c0_i32_1779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1771 : BitVec 32 := 22#32
  let v2493 : BitVec 32 := Scalar.addi v2 c22_i32_1771
  let c32_i32_1772 : BitVec 32 := 32#32
  let c0_i32_1773 : BitVec 32 := 0#32
  let v2494 : BitVec 1 := Scalar.cmpi .eq c32_i32_1772 c0_i32_1773
  let c1_i32_1774 : BitVec 32 := 1#32
  let v2495 : BitVec 32 := Scalar.select v2494 c1_i32_1774 c32_i32_1772
  let v2496 : BitVec 32 := Scalar.remsi v2493 v2495
  let c0_i32_1776 : BitVec 32 := 0#32
  let v2498 : BitVec 1 := Scalar.cmpi .slt v2496 c0_i32_1776
  let c0_i32_1777 : BitVec 32 := 0#32
  let v2499 : BitVec 1 := Scalar.cmpi .slt v2495 c0_i32_1777
  let v2500 : BitVec 1 := Scalar.xori v2498 v2499
  let c0_i32_1775 : BitVec 32 := 0#32
  let v2497 : BitVec 1 := Scalar.cmpi .ne v2496 c0_i32_1775
  let v2501 : BitVec 1 := Scalar.andi v2500 v2497
  let v2502 : BitVec 32 := Scalar.addi v2496 v2495
  let v2503 : BitVec 32 := Scalar.select v2501 v2502 v2496
  let c1_i32_1778 : BitVec 32 := 1#32
  let v2504 : BitVec 32 := Scalar.muli v2503 c1_i32_1778
  let v2505 : BitVec 32 := Scalar.addi c0_i32_1779 v2504
  v2505.toNat
def k0_dev85 (d0 : Dev nD) : Nat :=
  let c0_i32_1792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1784 : BitVec 32 := 23#32
  let v2514 : BitVec 32 := Scalar.addi v2 c23_i32_1784
  let c32_i32_1785 : BitVec 32 := 32#32
  let c0_i32_1786 : BitVec 32 := 0#32
  let v2515 : BitVec 1 := Scalar.cmpi .eq c32_i32_1785 c0_i32_1786
  let c1_i32_1787 : BitVec 32 := 1#32
  let v2516 : BitVec 32 := Scalar.select v2515 c1_i32_1787 c32_i32_1785
  let v2517 : BitVec 32 := Scalar.remsi v2514 v2516
  let c0_i32_1789 : BitVec 32 := 0#32
  let v2519 : BitVec 1 := Scalar.cmpi .slt v2517 c0_i32_1789
  let c0_i32_1790 : BitVec 32 := 0#32
  let v2520 : BitVec 1 := Scalar.cmpi .slt v2516 c0_i32_1790
  let v2521 : BitVec 1 := Scalar.xori v2519 v2520
  let c0_i32_1788 : BitVec 32 := 0#32
  let v2518 : BitVec 1 := Scalar.cmpi .ne v2517 c0_i32_1788
  let v2522 : BitVec 1 := Scalar.andi v2521 v2518
  let v2523 : BitVec 32 := Scalar.addi v2517 v2516
  let v2524 : BitVec 32 := Scalar.select v2522 v2523 v2517
  let c1_i32_1791 : BitVec 32 := 1#32
  let v2525 : BitVec 32 := Scalar.muli v2524 c1_i32_1791
  let v2526 : BitVec 32 := Scalar.addi c0_i32_1792 v2525
  v2526.toNat
def k0_dev86 (d0 : Dev nD) : Nat :=
  let c0_i32_1805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1797 : BitVec 32 := 24#32
  let v2535 : BitVec 32 := Scalar.addi v2 c24_i32_1797
  let c32_i32_1798 : BitVec 32 := 32#32
  let c0_i32_1799 : BitVec 32 := 0#32
  let v2536 : BitVec 1 := Scalar.cmpi .eq c32_i32_1798 c0_i32_1799
  let c1_i32_1800 : BitVec 32 := 1#32
  let v2537 : BitVec 32 := Scalar.select v2536 c1_i32_1800 c32_i32_1798
  let v2538 : BitVec 32 := Scalar.remsi v2535 v2537
  let c0_i32_1802 : BitVec 32 := 0#32
  let v2540 : BitVec 1 := Scalar.cmpi .slt v2538 c0_i32_1802
  let c0_i32_1803 : BitVec 32 := 0#32
  let v2541 : BitVec 1 := Scalar.cmpi .slt v2537 c0_i32_1803
  let v2542 : BitVec 1 := Scalar.xori v2540 v2541
  let c0_i32_1801 : BitVec 32 := 0#32
  let v2539 : BitVec 1 := Scalar.cmpi .ne v2538 c0_i32_1801
  let v2543 : BitVec 1 := Scalar.andi v2542 v2539
  let v2544 : BitVec 32 := Scalar.addi v2538 v2537
  let v2545 : BitVec 32 := Scalar.select v2543 v2544 v2538
  let c1_i32_1804 : BitVec 32 := 1#32
  let v2546 : BitVec 32 := Scalar.muli v2545 c1_i32_1804
  let v2547 : BitVec 32 := Scalar.addi c0_i32_1805 v2546
  v2547.toNat
def k0_dev87 (d0 : Dev nD) : Nat :=
  let c0_i32_1818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1810 : BitVec 32 := 25#32
  let v2556 : BitVec 32 := Scalar.addi v2 c25_i32_1810
  let c32_i32_1811 : BitVec 32 := 32#32
  let c0_i32_1812 : BitVec 32 := 0#32
  let v2557 : BitVec 1 := Scalar.cmpi .eq c32_i32_1811 c0_i32_1812
  let c1_i32_1813 : BitVec 32 := 1#32
  let v2558 : BitVec 32 := Scalar.select v2557 c1_i32_1813 c32_i32_1811
  let v2559 : BitVec 32 := Scalar.remsi v2556 v2558
  let c0_i32_1815 : BitVec 32 := 0#32
  let v2561 : BitVec 1 := Scalar.cmpi .slt v2559 c0_i32_1815
  let c0_i32_1816 : BitVec 32 := 0#32
  let v2562 : BitVec 1 := Scalar.cmpi .slt v2558 c0_i32_1816
  let v2563 : BitVec 1 := Scalar.xori v2561 v2562
  let c0_i32_1814 : BitVec 32 := 0#32
  let v2560 : BitVec 1 := Scalar.cmpi .ne v2559 c0_i32_1814
  let v2564 : BitVec 1 := Scalar.andi v2563 v2560
  let v2565 : BitVec 32 := Scalar.addi v2559 v2558
  let v2566 : BitVec 32 := Scalar.select v2564 v2565 v2559
  let c1_i32_1817 : BitVec 32 := 1#32
  let v2567 : BitVec 32 := Scalar.muli v2566 c1_i32_1817
  let v2568 : BitVec 32 := Scalar.addi c0_i32_1818 v2567
  v2568.toNat
def k0_dev88 (d0 : Dev nD) : Nat :=
  let c0_i32_1831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1823 : BitVec 32 := 26#32
  let v2577 : BitVec 32 := Scalar.addi v2 c26_i32_1823
  let c32_i32_1824 : BitVec 32 := 32#32
  let c0_i32_1825 : BitVec 32 := 0#32
  let v2578 : BitVec 1 := Scalar.cmpi .eq c32_i32_1824 c0_i32_1825
  let c1_i32_1826 : BitVec 32 := 1#32
  let v2579 : BitVec 32 := Scalar.select v2578 c1_i32_1826 c32_i32_1824
  let v2580 : BitVec 32 := Scalar.remsi v2577 v2579
  let c0_i32_1828 : BitVec 32 := 0#32
  let v2582 : BitVec 1 := Scalar.cmpi .slt v2580 c0_i32_1828
  let c0_i32_1829 : BitVec 32 := 0#32
  let v2583 : BitVec 1 := Scalar.cmpi .slt v2579 c0_i32_1829
  let v2584 : BitVec 1 := Scalar.xori v2582 v2583
  let c0_i32_1827 : BitVec 32 := 0#32
  let v2581 : BitVec 1 := Scalar.cmpi .ne v2580 c0_i32_1827
  let v2585 : BitVec 1 := Scalar.andi v2584 v2581
  let v2586 : BitVec 32 := Scalar.addi v2580 v2579
  let v2587 : BitVec 32 := Scalar.select v2585 v2586 v2580
  let c1_i32_1830 : BitVec 32 := 1#32
  let v2588 : BitVec 32 := Scalar.muli v2587 c1_i32_1830
  let v2589 : BitVec 32 := Scalar.addi c0_i32_1831 v2588
  v2589.toNat
def k0_dev89 (d0 : Dev nD) : Nat :=
  let c0_i32_1844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1836 : BitVec 32 := 27#32
  let v2598 : BitVec 32 := Scalar.addi v2 c27_i32_1836
  let c32_i32_1837 : BitVec 32 := 32#32
  let c0_i32_1838 : BitVec 32 := 0#32
  let v2599 : BitVec 1 := Scalar.cmpi .eq c32_i32_1837 c0_i32_1838
  let c1_i32_1839 : BitVec 32 := 1#32
  let v2600 : BitVec 32 := Scalar.select v2599 c1_i32_1839 c32_i32_1837
  let v2601 : BitVec 32 := Scalar.remsi v2598 v2600
  let c0_i32_1841 : BitVec 32 := 0#32
  let v2603 : BitVec 1 := Scalar.cmpi .slt v2601 c0_i32_1841
  let c0_i32_1842 : BitVec 32 := 0#32
  let v2604 : BitVec 1 := Scalar.cmpi .slt v2600 c0_i32_1842
  let v2605 : BitVec 1 := Scalar.xori v2603 v2604
  let c0_i32_1840 : BitVec 32 := 0#32
  let v2602 : BitVec 1 := Scalar.cmpi .ne v2601 c0_i32_1840
  let v2606 : BitVec 1 := Scalar.andi v2605 v2602
  let v2607 : BitVec 32 := Scalar.addi v2601 v2600
  let v2608 : BitVec 32 := Scalar.select v2606 v2607 v2601
  let c1_i32_1843 : BitVec 32 := 1#32
  let v2609 : BitVec 32 := Scalar.muli v2608 c1_i32_1843
  let v2610 : BitVec 32 := Scalar.addi c0_i32_1844 v2609
  v2610.toNat
def k0_dev90 (d0 : Dev nD) : Nat :=
  let c0_i32_1857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1849 : BitVec 32 := 28#32
  let v2619 : BitVec 32 := Scalar.addi v2 c28_i32_1849
  let c32_i32_1850 : BitVec 32 := 32#32
  let c0_i32_1851 : BitVec 32 := 0#32
  let v2620 : BitVec 1 := Scalar.cmpi .eq c32_i32_1850 c0_i32_1851
  let c1_i32_1852 : BitVec 32 := 1#32
  let v2621 : BitVec 32 := Scalar.select v2620 c1_i32_1852 c32_i32_1850
  let v2622 : BitVec 32 := Scalar.remsi v2619 v2621
  let c0_i32_1854 : BitVec 32 := 0#32
  let v2624 : BitVec 1 := Scalar.cmpi .slt v2622 c0_i32_1854
  let c0_i32_1855 : BitVec 32 := 0#32
  let v2625 : BitVec 1 := Scalar.cmpi .slt v2621 c0_i32_1855
  let v2626 : BitVec 1 := Scalar.xori v2624 v2625
  let c0_i32_1853 : BitVec 32 := 0#32
  let v2623 : BitVec 1 := Scalar.cmpi .ne v2622 c0_i32_1853
  let v2627 : BitVec 1 := Scalar.andi v2626 v2623
  let v2628 : BitVec 32 := Scalar.addi v2622 v2621
  let v2629 : BitVec 32 := Scalar.select v2627 v2628 v2622
  let c1_i32_1856 : BitVec 32 := 1#32
  let v2630 : BitVec 32 := Scalar.muli v2629 c1_i32_1856
  let v2631 : BitVec 32 := Scalar.addi c0_i32_1857 v2630
  v2631.toNat
def k0_dev91 (d0 : Dev nD) : Nat :=
  let c0_i32_1870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1862 : BitVec 32 := 29#32
  let v2640 : BitVec 32 := Scalar.addi v2 c29_i32_1862
  let c32_i32_1863 : BitVec 32 := 32#32
  let c0_i32_1864 : BitVec 32 := 0#32
  let v2641 : BitVec 1 := Scalar.cmpi .eq c32_i32_1863 c0_i32_1864
  let c1_i32_1865 : BitVec 32 := 1#32
  let v2642 : BitVec 32 := Scalar.select v2641 c1_i32_1865 c32_i32_1863
  let v2643 : BitVec 32 := Scalar.remsi v2640 v2642
  let c0_i32_1867 : BitVec 32 := 0#32
  let v2645 : BitVec 1 := Scalar.cmpi .slt v2643 c0_i32_1867
  let c0_i32_1868 : BitVec 32 := 0#32
  let v2646 : BitVec 1 := Scalar.cmpi .slt v2642 c0_i32_1868
  let v2647 : BitVec 1 := Scalar.xori v2645 v2646
  let c0_i32_1866 : BitVec 32 := 0#32
  let v2644 : BitVec 1 := Scalar.cmpi .ne v2643 c0_i32_1866
  let v2648 : BitVec 1 := Scalar.andi v2647 v2644
  let v2649 : BitVec 32 := Scalar.addi v2643 v2642
  let v2650 : BitVec 32 := Scalar.select v2648 v2649 v2643
  let c1_i32_1869 : BitVec 32 := 1#32
  let v2651 : BitVec 32 := Scalar.muli v2650 c1_i32_1869
  let v2652 : BitVec 32 := Scalar.addi c0_i32_1870 v2651
  v2652.toNat
def k0_dev92 (d0 : Dev nD) : Nat :=
  let c0_i32_1883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1875 : BitVec 32 := 30#32
  let v2661 : BitVec 32 := Scalar.addi v2 c30_i32_1875
  let c32_i32_1876 : BitVec 32 := 32#32
  let c0_i32_1877 : BitVec 32 := 0#32
  let v2662 : BitVec 1 := Scalar.cmpi .eq c32_i32_1876 c0_i32_1877
  let c1_i32_1878 : BitVec 32 := 1#32
  let v2663 : BitVec 32 := Scalar.select v2662 c1_i32_1878 c32_i32_1876
  let v2664 : BitVec 32 := Scalar.remsi v2661 v2663
  let c0_i32_1880 : BitVec 32 := 0#32
  let v2666 : BitVec 1 := Scalar.cmpi .slt v2664 c0_i32_1880
  let c0_i32_1881 : BitVec 32 := 0#32
  let v2667 : BitVec 1 := Scalar.cmpi .slt v2663 c0_i32_1881
  let v2668 : BitVec 1 := Scalar.xori v2666 v2667
  let c0_i32_1879 : BitVec 32 := 0#32
  let v2665 : BitVec 1 := Scalar.cmpi .ne v2664 c0_i32_1879
  let v2669 : BitVec 1 := Scalar.andi v2668 v2665
  let v2670 : BitVec 32 := Scalar.addi v2664 v2663
  let v2671 : BitVec 32 := Scalar.select v2669 v2670 v2664
  let c1_i32_1882 : BitVec 32 := 1#32
  let v2672 : BitVec 32 := Scalar.muli v2671 c1_i32_1882
  let v2673 : BitVec 32 := Scalar.addi c0_i32_1883 v2672
  v2673.toNat
def k0_dev93 (d0 : Dev nD) : Nat :=
  let c0_i32_1896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1888 : BitVec 32 := 31#32
  let v2682 : BitVec 32 := Scalar.addi v2 c31_i32_1888
  let c32_i32_1889 : BitVec 32 := 32#32
  let c0_i32_1890 : BitVec 32 := 0#32
  let v2683 : BitVec 1 := Scalar.cmpi .eq c32_i32_1889 c0_i32_1890
  let c1_i32_1891 : BitVec 32 := 1#32
  let v2684 : BitVec 32 := Scalar.select v2683 c1_i32_1891 c32_i32_1889
  let v2685 : BitVec 32 := Scalar.remsi v2682 v2684
  let c0_i32_1893 : BitVec 32 := 0#32
  let v2687 : BitVec 1 := Scalar.cmpi .slt v2685 c0_i32_1893
  let c0_i32_1894 : BitVec 32 := 0#32
  let v2688 : BitVec 1 := Scalar.cmpi .slt v2684 c0_i32_1894
  let v2689 : BitVec 1 := Scalar.xori v2687 v2688
  let c0_i32_1892 : BitVec 32 := 0#32
  let v2686 : BitVec 1 := Scalar.cmpi .ne v2685 c0_i32_1892
  let v2690 : BitVec 1 := Scalar.andi v2689 v2686
  let v2691 : BitVec 32 := Scalar.addi v2685 v2684
  let v2692 : BitVec 32 := Scalar.select v2690 v2691 v2685
  let c1_i32_1895 : BitVec 32 := 1#32
  let v2693 : BitVec 32 := Scalar.muli v2692 c1_i32_1895
  let v2694 : BitVec 32 := Scalar.addi c0_i32_1896 v2693
  v2694.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Clean.lean ====
/- The kernel's text as a short program: the 31 signals, the sends, the waits and the sixteen column tiles
   are loops over an index, and the printed body is shown to be this program. -/
module

public import proofs.«01_k».proof.Proof.Gen.KernelIdeal.Skeleton
public import proofs.«01_k».proof.Proof.Gen.KernelIdeal.Points
public import Idealize.ShloMosaic.Lib.Pipeline.Regions

@[expose] public section

noncomputable section

namespace Cert.KernelIdeal.A2A

open Idealize.ShloMosaic Idealize.ShloMosaic.TcCoe
open Idealize.SL.Sem
open Cert.KernelIdeal.Gen

variable {F : FTy → Type} [FloatOps F]

/-! ## Buffers and semaphores -/

/-- The staged block of `x`. -/
abbrev xM : Memref sig .tc .vmem S4096x128 .f32 := Memref.whole cc0_stg0_0
/-- The replicated operand `w`. -/
abbrev wM : Memref sig .tc .hbm S4096x8192 .f32 := Memref.whole main_arg1
/-- The staged block of the result. -/
abbrev oM : Memref sig .tc .vmem S128x8192 .f32 := Memref.whole cc0_stg1_0
/-- The rounded block of `x`, from which the sends read. -/
abbrev hM : Memref sig .tc .vmem S4096x128 .bf16 := Memref.whole cc0_scratch0
/-- The gathered rows of `x`, into which the peers' sends land. -/
abbrev gM : Memref sig .tc .vmem S128x4096 .bf16 := Memref.whole cc0_scratch1
/-- The two slots the tiles of `w` are prefetched into. -/
abbrev fM : Memref sig .tc .vmem S2x4096x512 .f32 := Memref.whole cc0_scratch2
/-- The rounded tile of `w`. -/
abbrev bM : Memref sig .tc .vmem S4096x512 .bf16 := Memref.whole cc0_scratch3
/-- The 32 devices' maxima. -/
abbrev aM : Memref sig .tc .vmem S32x8x128 .f32 := Memref.whole cc0_scratch4

theorem hM_whole : (hM : Memref sig .tc .vmem S4096x128 .bf16).IsWhole := Memref.isWhole_whole _
theorem gM_whole : (gM : Memref sig .tc .vmem S128x4096 .bf16).IsWhole := Memref.isWhole_whole _
theorem bM_whole : (bM : Memref sig .tc .vmem S4096x512 .bf16).IsWhole := Memref.isWhole_whole _

/-- The word of the `t`-th peer's distance. -/
abbrev dist (t : Fin 31) : BitVec 32 := BitVec.ofNat 32 (1 + t.val)

/-- The device at distance `w` round the mesh, as the kernel computes it. -/
def devW (d0 : Dev nD) (w : BitVec 32) : Nat :=
  let v0 : BitVec 32 := Dev.word d0
  let v1 : BitVec 32 := Scalar.divsi v0 1#32
  let v2 : BitVec 32 := Scalar.remsi v1 32#32
  let v4 : BitVec 32 := Scalar.addi v2 w
  let v5 : BitVec 1 := Scalar.cmpi .eq 32#32 0#32
  let v6 : BitVec 32 := Scalar.select v5 1#32 32#32
  let v7 : BitVec 32 := Scalar.remsi v4 v6
  let v8 : BitVec 1 := Scalar.cmpi .ne v7 0#32
  let v9 : BitVec 1 := Scalar.cmpi .slt v7 0#32
  let v10 : BitVec 1 := Scalar.cmpi .slt v6 0#32
  let v11 : BitVec 1 := Scalar.xori v9 v10
  let v12 : BitVec 1 := Scalar.andi v11 v8
  let v13 : BitVec 32 := Scalar.addi v7 v6
  let v14 : BitVec 32 := Scalar.select v12 v13 v7
  let v15 : BitVec 32 := Scalar.muli v14 1#32
  let v16 : BitVec 32 := Scalar.addi 0#32 v15
  v16.toNat

theorem devW_eq : ∀ (d : Dev nD) (t : Fin 31), devW d (dist t) = (d.val + (1 + t.val)) % 32 := by decide +kernel

theorem devW_lt (d : Dev nD) (t : Fin 31) : devW d (dist t) < nD := by
  rw [devW_eq]; exact Nat.mod_lt _ (by decide)

/-- The device's own place, as the kernel computes it. -/
abbrev meW (d : Dev nD) : BitVec 32 := Scalar.remsi (Scalar.divsi (Dev.word d) 1#32) 32#32

/-- The peer at distance `t + 1`. -/
abbrev peer (d : Dev nD) (t : Fin 31) : Dev nD := ⟨devW d (dist t), devW_lt d t⟩

abbrev barS : Sem sig := (SemArray.scalar (sig.barrier 0 rfl) : Sems sig S_).sem

theorem hat32 (j : Fin 32) : ∀ a, (![j.val] : Fin 1 → Nat) a + S1.size a ≤ S32.size a := by
  revert j; decide
theorem hat2 (i : Fin 16) : ∀ a, (![i.val % 2] : Fin 1 → Nat) a + S1.size a ≤ S2.size a := by
  revert i; decide
theorem hcol (j : Fin 32) : ∀ a, (![0, 128 * j.val] : Fin 2 → Nat) a + S128x128.size a ≤ S128x4096.size a := by
  revert j; decide
theorem hrow (j : Fin 32) : ∀ a, (![128 * j.val, 0] : Fin 2 → Nat) a + S128x128.size a ≤ S4096x128.size a := by
  revert j; decide
theorem hslot (i : Fin 16) : ∀ a, (![i.val % 2, 0, 0] : Fin 3 → Nat) a + S1x4096x512.size a ≤ S2x4096x512.size a := by
  revert i; decide
theorem htile (i : Fin 16) : ∀ a, (![0, 512 * i.val] : Fin 2 → Nat) a + S4096x512.size a ≤ S4096x8192.size a := by
  revert i; decide
theorem hotile (i : Fin 16) : ∀ a, (![0, 512 * i.val] : Fin 2 → Nat) a + S128x512.size a ≤ S128x8192.size a := by
  revert i; decide
theorem harow (j : Fin 32) : ∀ a, (![j.val, 0, 0] : Fin 3 → Nat) a + S1x8x128.size a ≤ S32x8x128.size a := by
  revert j; decide

/-! ### The semaphores, as the kernel's text names them -/

abbrev sendSemW (d : Dev nD) (t : Fin 31) : DmaSem sig :=
  ((cc0_scratch5.slice (Rect.unit (s := S32) (k0_off1 d (dist t)) S1.size (k0_off1_inb d t))).squeeze S_ squeezes_S1_S_).sem
abbrev recvSemW (d : Dev nD) : DmaSem sig :=
  ((cc0_scratch6.slice (Rect.unit (s := S32) (k0_off2 d) S1.size (k0_off2_inb d))).squeeze S_ squeezes_S1_S_).sem
abbrev recvSemAt (j : Fin 32) : DmaSem sig :=
  ((cc0_scratch6.slice (Rect.unit (s := S32) ![j.val] S1.size (hat32 j))).squeeze S_ squeezes_S1_S_).sem
abbrev asendSemW (d : Dev nD) (t : Fin 31) : DmaSem sig :=
  ((cc0_scratch8.slice (Rect.unit (s := S32) (k0_off1 d (dist t)) S1.size (k0_off1_inb d t))).squeeze S_ squeezes_S1_S_).sem
abbrev arecvSemW (d : Dev nD) : DmaSem sig :=
  ((cc0_scratch9.slice (Rect.unit (s := S32) (k0_off2 d) S1.size (k0_off2_inb d))).squeeze S_ squeezes_S1_S_).sem
abbrev arecvSemAt (j : Fin 32) : DmaSem sig :=
  ((cc0_scratch9.slice (Rect.unit (s := S32) ![j.val] S1.size (hat32 j))).squeeze S_ squeezes_S1_S_).sem
abbrev wSemAt (i : Fin 16) : DmaSem sig :=
  ((cc0_scratch10.slice (Rect.unit (s := S2) ![i.val % 2] S1.size (hat2 i))).squeeze S_ squeezes_S1_S_).sem

/-! ### The views, as the kernel's text names them -/

/-- Row block of the rounded `x` bound for the peer at distance `t + 1`. -/
abbrev hPeerW (d : Dev nD) (t : Fin 31) : Memref sig .tc .vmem S128x128 .bf16 :=
  hM.slice (Rect.unit (s := S4096x128) (k0_off4 d (dist t)) S128x128.size (k0_off4_inb d t)) (fun _ => rfl)
/-- Row block of the rounded `x` that stays. -/
abbrev hOwnW (d : Dev nD) : Memref sig .tc .vmem S128x128 .bf16 :=
  hM.slice (Rect.unit (s := S4096x128) (k0_off5 d) S128x128.size (k0_off5_inb d)) (fun _ => rfl)
/-- Column block of the gathered rows that device `d` fills. -/
abbrev gOwnW (d : Dev nD) : Memref sig .tc .vmem S128x128 .bf16 :=
  gM.slice (Rect.unit (s := S128x4096) (k0_off3 d) S128x128.size (k0_off3_inb d)) (fun _ => rfl)
abbrev gAt (j : Fin 32) : Memref sig .tc .vmem S128x128 .bf16 :=
  gM.slice (Rect.unit (s := S128x4096) ![0, 128 * j.val] S128x128.size (hcol j)) (fun _ => rfl)
abbrev hAt (j : Fin 32) : Memref sig .tc .vmem S128x128 .bf16 :=
  hM.slice (Rect.unit (s := S4096x128) ![128 * j.val, 0] S128x128.size (hrow j)) (fun _ => rfl)
abbrev wAt (i : Fin 16) : Memref sig .tc .hbm S4096x512 .f32 :=
  wM.slice (Rect.unit (s := S4096x8192) ![0, 512 * i.val] S4096x512.size (htile i)) (fun _ => rfl)
abbrev fAt (i : Fin 16) : Memref sig .tc .vmem S4096x512 .f32 :=
  (fM.slice (Rect.unit (s := S2x4096x512) ![i.val % 2, 0, 0] S1x4096x512.size (hslot i)) (fun _ => rfl)).squeeze
    S4096x512 squeezes_S1x4096x512_S4096x512
abbrev aOwnW (d : Dev nD) : Memref sig .tc .vmem S8x128 .f32 :=
  (aM.slice (Rect.unit (s := S32x8x128) (k0_off7 d) S1x8x128.size (k0_off7_inb d)) (fun _ => rfl)).squeeze
    S8x128 squeezes_S1x8x128_S8x128
abbrev aAt (j : Fin 32) : Memref sig .tc .vmem S8x128 .f32 :=
  (aM.slice (Rect.unit (s := S32x8x128) ![j.val, 0, 0] S1x8x128.size (harow j)) (fun _ => rfl)).squeeze
    S8x128 squeezes_S1x8x128_S8x128

theorem hcol_words (j : Fin 32) :
    (Rect.unit (s := S128x4096) ![0, 128 * j.val] S128x128.size (hcol j)).WholeWords (EltTy.packing .bf16) := by
  revert j; decide

/-! ## The steps -/

variable {α : Type}

/-- The kernel's programs. -/
abbrev P (F : FTy → Type) (α : Type) : Type 1 := Prog (TpuEff nD τ sig (Elt F) Λ₀ .tc) α

/-- `f 0`, `f 1`, …, `f (n - 1)`, then `k`, a value carried along: the last `m` rounds. -/
def loopFrom {A : Type} (n : Nat) (f : Fin n → A → (A → P F α) → P F α) (k : A → P F α) : (m : Nat) → m ≤ n → A → P F α
  | 0, _, a => k a
  | m + 1, h, a => f ⟨n - (m + 1), by omega⟩ a (fun a' => loopFrom n f k m (by omega) a')

/-- The same with nothing carried. -/
def stepsFrom (n : Nat) (f : Fin n → P F α → P F α) (k : P F α) : (m : Nat) → m ≤ n → P F α
  | 0, _ => k
  | m + 1, h => f ⟨n - (m + 1), by omega⟩ (stepsFrom n f k m (by omega))

/-- Tell the peer at distance `t + 1` that this device has entered. -/
def sigStep (d : Dev nD) (t : Fin 31) (k : P F α) : P F α :=
  .op (.semSignal ((peer d t : Dev nD), .tc) barS ((1 : Nat) : Int)) (fun _ => k)

/-- Wait for every peer. -/
def barWait (k : P F α) : P F α := .op (.semWait barS ((31 : Nat) : Int)) (fun _ => k)

/-- Round the staged block of `x`. -/
def roundStep (k : P F α) : P F α :=
  .op (.load xM (Rect.unit (s := S4096x128) ![0, 0] S4096x128.size inb_S4096x128_S4096x128_0_0).toLoadRect (View.loadsAt_vmem h_S4096x128)) (fun v407 : Vec F S4096x128 .f32 =>
  .op (.load hM (Rect.unit (s := S4096x128) ![0, 0] S4096x128.size inb_S4096x128_S4096x128_0_0).toLoadRect (View.loadsAt_vmem h_S4096x128)) (fun _ : Vec F S4096x128 .bf16 =>
  .op (.store hM (Rect.unit (s := S4096x128) ![0, 0] S4096x128.size inb_S4096x128_S4096x128_0_0) (k0_pay2 v407) Finset.univ (View.stores_vmem h_S4096x128 (hM_whole.storeExact_slice rfl _ packedbf16_S4096x128_S4096x128_0_0) (fun _ => rfl)) (.inl rfl)) (fun _ => k)))

/-- Send the peer at distance `t + 1` its rows. -/
def sendStep (d : Dev nD) (t : Fin 31) (k : P F α) : P F α :=
  .op (.enqueueDma (hPeerW d t) (.remote (Dev.tc (peer d t)) (gOwnW d) (.dma (sendSemW d t))) (.dma (recvSemW d))
    (hM_whole.wordExact_slice rfl _ (k0_off4_wordsbf16 d t)) (gM_whole.wordExact_slice rfl _ (k0_off3_wordsbf16 d)) ⟨⟨rfl, Or.inl rfl⟩, trivial⟩) (fun _ => k)

/-- Copy this device's own rows. -/
def ownStep (d : Dev nD) (k : P F α) : P F α :=
  .op (.enqueueDma (hOwnW d) (.here (gOwnW d)) (.dma cc0_scratch7.sem)
    (hM_whole.wordExact_slice rfl _ (k0_off5_wordsbf16 d)) (gM_whole.wordExact_slice rfl _ (k0_off3_wordsbf16 d)) ⟨Or.inl rfl, trivial⟩) (fun _ => k)

/-- Start fetching tile `i` of `w`. -/
def wStart (i : Fin 16) (k : P F α) : P F α :=
  .op (.enqueueDma (wAt i) (.here (fAt i)) (.dma (wSemAt i)) (View.wordExact_bits rfl) ((View.wordExact_bits rfl).reshape _ _) ⟨Or.inl rfl, trivial⟩) (fun _ => k)

/-- What the kernel tests before it waits for device `j`: that `j` is not itself. -/
abbrev otherV (v : BitVec 32) (j : Fin 32) : BitVec 1 :=
  Scalar.cmpi .ne (Scalar.extui (Scalar.cmpi .ne v (BitVec.ofNat 32 j.val)) : BitVec 32) 0#32

/-- Wait for the rows of device `j`, another one. -/
def recvStep (v : BitVec 32) (j : Fin 32) (k : P F α) : P F α :=
  if _h : otherV v j = 1#1 then
    .op (.waitDma2 (recvSemAt j) (hAt 0) (gAt j) (hM_whole.wordExact_slice rfl _ wordsbf16_S4096x128_S128x128_0_0) (gM_whole.wordExact_slice rfl _ (hcol_words j))) (fun _ => k)
  else k

/-- Wait for the copy of this device's own rows. -/
def ownWait (d : Dev nD) (k : P F α) : P F α :=
  .op (.waitDma2 cc0_scratch7.sem (hOwnW d) (gOwnW d) (hM_whole.wordExact_slice rfl _ (k0_off5_wordsbf16 d)) (gM_whole.wordExact_slice rfl _ (k0_off3_wordsbf16 d))) (fun _ => k)

/-- Wait until the rows sent to the peer at distance `t + 1` have left. -/
def sendWait (d : Dev nD) (t : Fin 31) (k : P F α) : P F α :=
  .op (.waitDma2 (sendSemW d t) (gAt 0) (hAt 0) (gM_whole.wordExact_slice rfl _ wordsbf16_S128x4096_S128x128_0_0) (hM_whole.wordExact_slice rfl _ wordsbf16_S4096x128_S128x128_0_0)) (fun _ => k)

/-- Tile `i` of `w`, rounded. -/
abbrev roundW (v : Vec F S1x4096x512 .f32) : FVec F S4096x512 .bf16 := k0_pay3 v
/-- The product of the gathered rows by a tile. -/
abbrev prod (g : Vec F S128x4096 .bf16) (b : Vec F S4096x512 .bf16) : FVec F S128x512 .f32 := k0_pay4 g b
/-- The running maximum after a tile. -/
abbrev maxTile (acc : F .f32) (g : Vec F S128x4096 .bf16) (b : Vec F S4096x512 .bf16) : F .f32 := k0_pay8 acc g b

/-- Column tile `i`: wait for it, round it, multiply, store the product, take its largest absolute value along. -/
def tileStep (i : Fin 16) (acc : F .f32) (k : F .f32 → P F α) : P F α :=
  .op (.waitDma2 (wSemAt i) (wAt i) (fAt i) (View.wordExact_bits rfl) ((View.wordExact_bits rfl).reshape _ _)) (fun _ =>
  .op (.load fM (Rect.unit (s := S2x4096x512) ![i.val % 2, 0, 0] S1x4096x512.size (hslot i)).toLoadRect (View.loadsAt_vmem h_S1x4096x512)) (fun v : Vec F S1x4096x512 .f32 =>
  .op (.load bM (Rect.unit (s := S4096x512) ![0, 0] S4096x512.size inb_S4096x512_S4096x512_0_0).toLoadRect (View.loadsAt_vmem h_S4096x512)) (fun _ : Vec F S4096x512 .bf16 =>
  .op (.store bM (Rect.unit (s := S4096x512) ![0, 0] S4096x512.size inb_S4096x512_S4096x512_0_0) (roundW v) Finset.univ (View.stores_vmem h_S4096x512 (bM_whole.storeExact_slice rfl _ packedbf16_S4096x512_S4096x512_0_0) (fun _ => rfl)) (.inl rfl)) (fun _ =>
  .op (.load gM (Rect.unit (s := S128x4096) ![0, 0] S128x4096.size inb_S128x4096_S128x4096_0_0).toLoadRect (View.loadsAt_vmem h_S128x4096)) (fun g : Vec F S128x4096 .bf16 =>
  .op (.load bM (Rect.unit (s := S4096x512) ![0, 0] S4096x512.size inb_S4096x512_S4096x512_0_0).toLoadRect (View.loadsAt_vmem h_S4096x512)) (fun b : Vec F S4096x512 .bf16 =>
  .op (.load oM (Rect.unit (s := S128x8192) ![0, 512 * i.val] S128x512.size (hotile i)).toLoadRect (View.loadsAt_vmem h_S128x512)) (fun _ : Vec F S128x512 .f32 =>
  .op (.store oM (Rect.unit (s := S128x8192) ![0, 512 * i.val] S128x512.size (hotile i)) (prod g b) Finset.univ (View.stores_vmem_bits_univ h_S128x512 rfl) (.inl rfl)) (fun _ =>
    k (maxTile acc g b)))))))))

/-- One device's maximum, spread over its row. -/
def spread (m : F .f32) : FVec F S1x8x128 .f32 :=
  shapeCast S1x8x128 (broadcast S1x8x128 m) shapeCasts_S1x8x128_S1x8x128

/-- Write this device's maximum to its own row. -/
def amaxStep (d : Dev nD) (m : F .f32) (k : P F α) : P F α :=
  .op (.load aM (Rect.unit (s := S32x8x128) (k0_off6 d) S1x8x128.size (k0_off6_inb d)).toLoadRect (View.loadsAt_vmem h_S1x8x128)) (fun _ : Vec F S1x8x128 .f32 =>
  .op (.store aM (Rect.unit (s := S32x8x128) (k0_off6 d) S1x8x128.size (k0_off6_inb d)) (spread m) Finset.univ (View.stores_vmem_bits_univ h_S1x8x128 rfl) (.inl rfl)) (fun _ => k))

/-- Send the peer at distance `t + 1` this device's maximum. -/
def asendStep (d : Dev nD) (t : Fin 31) (k : P F α) : P F α :=
  .op (.enqueueDma (aOwnW d) (.remote (Dev.tc (peer d t)) (aOwnW d) (.dma (asendSemW d t))) (.dma (arecvSemW d))
    ((View.wordExact_bits rfl).reshape _ _) ((View.wordExact_bits rfl).reshape _ _) ⟨⟨rfl, Or.inl rfl⟩, trivial⟩) (fun _ => k)

/-- Wait for the maximum of device `j`, another one. -/
def arecvStep (v : BitVec 32) (j : Fin 32) (k : P F α) : P F α :=
  if _h : otherV v j = 1#1 then
    .op (.waitDma2 (arecvSemAt j) (aAt j) (aAt j) ((View.wordExact_bits rfl).reshape _ _) ((View.wordExact_bits rfl).reshape _ _)) (fun _ => k)
  else k

/-- Wait until the maximum sent to the peer at distance `t + 1` has left. -/
def asendWait (d : Dev nD) (t : Fin 31) (k : P F α) : P F α :=
  .op (.waitDma2 (asendSemW d t) (aOwnW d) (aOwnW d) ((View.wordExact_bits rfl).reshape _ _) ((View.wordExact_bits rfl).reshape _ _)) (fun _ => k)

/-- Scale, round and clip the product by the largest of the maxima. -/
def quantStep (k : P F α) : P F α :=
  .op (.load aM (Rect.unit (s := S32x8x128) ![0, 0, 0] S32x8x128.size inb_S32x8x128_S32x8x128_0_0_0).toLoadRect (View.loadsAt_vmem h_S32x8x128)) (fun a : Vec F S32x8x128 .f32 =>
  .op (.load oM (Rect.unit (s := S128x8192) ![0, 0] S128x8192.size inb_S128x8192_S128x8192_0_0).toLoadRect (View.loadsAt_vmem h_S128x8192)) (fun y : Vec F S128x8192 .f32 =>
  .op (.load oM (Rect.unit (s := S128x8192) ![0, 0] S128x8192.size inb_S128x8192_S128x8192_0_0).toLoadRect (View.loadsAt_vmem h_S128x8192)) (fun _ : Vec F S128x8192 .f32 =>
  .op (.store oM (Rect.unit (s := S128x8192) ![0, 0] S128x8192.size inb_S128x8192_S128x8192_0_0) (k0_pay1 a y) Finset.univ (View.stores_vmem_bits_univ h_S128x8192 rfl) (.inl rfl)) (fun _ => k))))

/-! ## The program -/

/-- After the tiles: exchange the maxima and quantise. -/
def phase4 (d : Dev nD) (k : P F α) : P F α :=
  stepsFrom 32 (arecvStep (meW d)) (stepsFrom 31 (asendWait d) (quantStep k) 31 (Nat.le_refl _)) 32 (Nat.le_refl _)

def phase3 (d : Dev nD) (m : F .f32) (k : P F α) : P F α :=
  amaxStep d m (stepsFrom 31 (asendStep d) (phase4 d k) 31 (Nat.le_refl _))

/-- The tiles: all but the last start the next one's fetch. -/
def tiles (k : F .f32 → P F α) : P F α :=
  loopFrom 15 (fun i acc k' => wStart ⟨i.val + 1, by omega⟩ (tileStep ⟨i.val, by omega⟩ acc k')) (fun acc => tileStep 15 acc k)
    15 (Nat.le_refl _) (Scalar.ofBits .f32 0x00000000#32)

def phase2 (d : Dev nD) (k : P F α) : P F α :=
  wStart 0 <| stepsFrom 32 (recvStep (meW d)) (ownWait d (stepsFrom 31 (sendWait d) (tiles fun m => phase3 d m k) 31 (Nat.le_refl _))) 32 (Nat.le_refl _)

def phase1 (d : Dev nD) (k : P F α) : P F α :=
  stepsFrom 31 (sigStep d) (barWait (roundStep (stepsFrom 31 (sendStep d) (ownStep d k) 31 (Nat.le_refl _)))) 31 (Nat.le_refl _)

/-- The kernel on device `d`. -/
def clean (d : Dev nD) : P F PUnit := phase1 d (phase2 d (.ret ⟨⟩))

end Cert.KernelIdeal.A2A

end
-- ==== Proof.PrintedA.lean ====
/- The printed body up to the sends and the waits of the rows. -/
module

public import proofs.«01_k».proof.Proof.Clean

@[expose] public section

noncomputable section

namespace Cert.KernelIdeal.A2A

open Idealize.ShloMosaic Idealize.ShloMosaic.TcCoe
open Idealize.SL.Sem
open Cert.KernelIdeal.Gen

variable {F : FTy → Type} [FloatOps F] {α : Type}

/-! ## The printed body is this program -/

section Printed

/-- `f lo`, …, `f (hi - 1)`, then `k`. -/
def between (f : Fin 32 → P F α → P F α) (k : P F α) : List (Fin 32) → P F α
  | [] => k
  | j :: js => f j (between f k js)

theorem recvStep_bind {β : Type} (d : BitVec 32) (j : Fin 32) (p : P F α) (k : α → P F β) :
    Prog.bind (recvStep d j p) k = recvStep d j (Prog.bind p k) := by
  unfold recvStep; split <;> rfl
theorem arecvStep_bind {β : Type} (d : BitVec 32) (j : Fin 32) (p : P F α) (k : α → P F β) :
    Prog.bind (arecvStep d j p) k = arecvStep d j (Prog.bind p k) := by
  unfold arecvStep; split <;> rfl

theorem between_recv_bind {β : Type} (d : BitVec 32) (p : P F α) (k : α → P F β) :
    ∀ js, Prog.bind (between (recvStep d) p js) k = between (recvStep d) (Prog.bind p k) js
  | [] => rfl
  | j :: js => (recvStep_bind d j _ k).trans (congrArg (recvStep d j) (between_recv_bind d p k js))
theorem between_arecv_bind {β : Type} (d : BitVec 32) (p : P F α) (k : α → P F β) :
    ∀ js, Prog.bind (between (arecvStep d) p js) k = between (arecvStep d) (Prog.bind p k) js
  | [] => rfl
  | j :: js => (arecvStep_bind d j _ k).trans (congrArg (arecvStep d j) (between_arecv_bind d p k js))

set_option maxRecDepth 65536 in
theorem part32_eq (v : BitVec 32) : k0_part32 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v = wStart 0 (between (recvStep v) (.ret 8#32) [0, 1, 2, 3, 4, 5, 6, 7]) := by chain_rfl
set_option maxRecDepth 65536 in
theorem part33_eq (v : BitVec 32) : k0_part33 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v 8#32 = between (recvStep v) (.ret 18#32) [8, 9, 10, 11, 12, 13, 14, 15, 16, 17] := by chain_rfl
set_option maxRecDepth 65536 in
theorem part34_eq (v : BitVec 32) : k0_part34 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v 18#32 = between (recvStep v) (.ret 28#32) [18, 19, 20, 21, 22, 23, 24, 25, 26, 27] := by chain_rfl
set_option maxRecDepth 65536 in
theorem part35_eq (d : Dev nD) (v : BitVec 32) : k0_part35 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d v 28#32 = between (recvStep v) (ownWait d (sendWait d 0 (.ret ⟨Scalar.addi v 2#32, 32#32, 0#32⟩))) [28, 29, 30, 31] := by chain_rfl

/-- The printed first half from its 36th part on. -/
def tail36 (d : Dev nD) (v1186 c32_i32_774 c0_i32_775 : BitVec 32) : P F (Σ' (_ : Dev nD) (_ : BitVec 32), F .f32) := do
  let ⟨v1218, v1219⟩ : Σ' (v1218 : BitVec 32), BitVec 32 ← k0_part36 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v1186 c32_i32_774 c0_i32_775
  let ⟨v1248, v1249, v1250, v1251⟩ : Σ' (v1248 : BitVec 32) (v1249 : BitVec 32) (v1250 : BitVec 1), BitVec 1 ← k0_part37 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v1218 v1219
  let ⟨v1278, v1279, v1284⟩ : Σ' (v1278 : BitVec 32) (v1279 : BitVec 32), BitVec 1 ← k0_part38 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v1248 v1249 v1250 v1251
  k0_part39 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v1278 v1279 v1284
  k0_part40 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d)
  k0_part41 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d)
  let ⟨v1411, c32_i32_954, c0_i32_955⟩ : Σ' (v1411 : BitVec 32) (c32_i32_954 : BitVec 32), BitVec 32 ← k0_part42 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d)
  let ⟨v1443, v1444⟩ : Σ' (v1443 : BitVec 32), BitVec 32 ← k0_part43 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v1411 c32_i32_954 c0_i32_955
  let ⟨v1473, v1474, v1475, v1476⟩ : Σ' (v1473 : BitVec 32) (v1474 : BitVec 32) (v1475 : BitVec 1), BitVec 1 ← k0_part44 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v1443 v1444
  let ⟨v1503, v1504, v1509⟩ : Σ' (v1503 : BitVec 32) (v1504 : BitVec 32), BitVec 1 ← k0_part45 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v1473 v1474 v1475 v1476
  k0_part46 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v1503 v1504 v1509
  k0_part47 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d)
  k0_part48 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d)
  k0_part49 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d)
  let v1661 : F .f32 ← k0_part50 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10
  let v1687 : F .f32 ← k0_part51 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1661
  let v1713 : F .f32 ← k0_part52 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1687
  let v1739 : F .f32 ← k0_part53 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1713
  let ⟨v1765, v1776⟩ : Σ' (v1765 : F .f32), Vec F S1x4096x512 .f32 ← k0_part54 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1739
  let ⟨v1791, v1804, v1805⟩ : Σ' (v1791 : F .f32) (v1804 : FVec F S4096x512 .bf16), Vec F S4096x512 .bf16 ← k0_part55 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1765 v1776
  let v1817 : F .f32 ← k0_part56 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1791 v1804 v1805
  let ⟨v1843, v1860, v1861, cst_1337⟩ : Σ' (v1843 : F .f32) (v1860 : Vec F S128x4096 .bf16) (v1861 : Vec F S4096x512 .bf16), FVec F S128x512 .f32 ← k0_part57 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1817
  let ⟨v1869, v1888⟩ : Σ' (v1869 : F .f32), FVec F S128x512 .f32 ← k0_part58 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1843 v1860 v1861 cst_1337
  let ⟨v1895, v1919⟩ : Σ' (v1895 : F .f32), FVec F S1x1x1 .f32 ← k0_part59 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1869 v1888
  let v1947 : F .f32 ← k0_part60 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1895 v1919
  pure ⟨d, (meW d), v1947⟩

/-- The printed first half from its 32nd part on. -/
def tail32 (d : Dev nD) : P F (Σ' (_ : Dev nD) (_ : BitVec 32), F .f32) := do
  let c8 ← k0_part32 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 (meW d)
  let c18 ← k0_part33 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 (meW d) c8
  let c28 ← k0_part34 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 (meW d) c18
  let ⟨a, b, c⟩ ← k0_part35 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) c28
  tail36 d a b c

set_option maxRecDepth 65536 in
theorem tail32_bind {β : Type} (d : Dev nD) (K : (Σ' (_ : Dev nD) (_ : BitVec 32), F .f32) → P F β) :
    Prog.bind (tail32 d) K = wStart 0 (stepsFrom 32 (recvStep (meW d)) (ownWait d (sendWait d 0
      (Prog.bind (tail36 d (Scalar.addi (meW d) 2#32) 32#32 0#32) K))) 32 (Nat.le_refl _)) := by
  have h : tail32 (F := F) d = wStart 0 (between (recvStep (meW d)) (between (recvStep (meW d)) (between (recvStep (meW d)) (between (recvStep (meW d))
      (ownWait d (sendWait d 0 (tail36 d (Scalar.addi (meW d) 2#32) 32#32 0#32))) [28, 29, 30, 31]) [18, 19, 20, 21, 22, 23, 24, 25, 26, 27]) [8, 9, 10, 11, 12, 13, 14, 15, 16, 17]) [0, 1, 2, 3, 4, 5, 6, 7]) := by
    show Prog.bind (k0_part32 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 (meW d)) (fun c8 => Prog.bind (k0_part33 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 (meW d) c8) (fun c18 => Prog.bind (k0_part34 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 (meW d) c18)
      (fun c28 => Prog.bind (k0_part35 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) c28) (fun x => match x with | ⟨a, b, c⟩ => tail36 d a b c)))) = _
    rw [part32_eq]
    show wStart 0 (Prog.bind (between (recvStep (meW d)) (.ret 8#32) [0, 1, 2, 3, 4, 5, 6, 7]) _) = _
    rw [between_recv_bind]
    show wStart 0 (between (recvStep (meW d)) (Prog.bind (k0_part33 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 (meW d) 8#32) _) [0, 1, 2, 3, 4, 5, 6, 7]) = _
    rw [part33_eq, between_recv_bind]
    show wStart 0 (between (recvStep (meW d)) (between (recvStep (meW d)) (Prog.bind (k0_part34 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 (meW d) 18#32) _) [8, 9, 10, 11, 12, 13, 14, 15, 16, 17]) [0, 1, 2, 3, 4, 5, 6, 7]) = _
    rw [part34_eq, between_recv_bind]
    show wStart 0 (between (recvStep (meW d)) (between (recvStep (meW d)) (between (recvStep (meW d)) (Prog.bind (k0_part35 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) 28#32) _) [18, 19, 20, 21, 22, 23, 24, 25, 26, 27]) [8, 9, 10, 11, 12, 13, 14, 15, 16, 17]) [0, 1, 2, 3, 4, 5, 6, 7]) = _
    rw [part35_eq, between_recv_bind]
    rfl
  rw [h]
  show wStart 0 (Prog.bind (between _ _ _) K) = _
  rw [between_recv_bind, between_recv_bind, between_recv_bind, between_recv_bind]
  chain_rfl

/-- What the printed body does after its first half. -/
def rest102 (x : Σ' (_ : Dev nD) (_ : BitVec 32), F .f32) : P F PUnit :=
  match x with
  | ⟨d0, v2, v1947⟩ => Prog.bind (k0_part102 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2 v1947) (fun _ => quantStep (.ret PUnit.unit))

set_option maxRecDepth 65536 in
theorem head_eq : cc0_body (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10
    = .op .deviceId (fun d => phase1 d (Prog.bind (tail32 d) rest102)) := by
  chain_rfl

end Printed
end Cert.KernelIdeal.A2A

end
-- ==== Proof.PrintedB.lean ====
/- The rest of the printed body. -/
module

public import proofs.«01_k».proof.Proof.PrintedA

@[expose] public section

noncomputable section

namespace Cert.KernelIdeal.A2A

open Idealize.ShloMosaic Idealize.ShloMosaic.TcCoe
open Idealize.SL.Sem
open Cert.KernelIdeal.Gen

variable {F : FTy → Type} [FloatOps F] {α : Type}

section Printed

set_option maxRecDepth 65536 in
theorem part82_eq (d : Dev nD) (v : BitVec 32) : k0_part82 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d v = asendStep d 29 (asendStep d 30 (between (arecvStep v) (.ret ⟨Scalar.extui (Scalar.cmpi .ne v 3#32), 0#32⟩) [0, 1, 2])) := by chain_rfl
set_option maxRecDepth 65536 in
theorem part83_eq (v : BitVec 32) : k0_part83 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v (Scalar.extui (Scalar.cmpi .ne v 3#32)) 0#32 = between (arecvStep v) (.ret ⟨Scalar.extui (Scalar.cmpi .ne v 13#32), 0#32⟩) [3, 4, 5, 6, 7, 8, 9, 10, 11, 12] := by chain_rfl
set_option maxRecDepth 65536 in
theorem part84_eq (v : BitVec 32) : k0_part84 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v (Scalar.extui (Scalar.cmpi .ne v 13#32)) 0#32 = between (arecvStep v) (.ret ⟨Scalar.extui (Scalar.cmpi .ne v 23#32), 0#32⟩) [13, 14, 15, 16, 17, 18, 19, 20, 21, 22] := by chain_rfl

/-- The printed second half from its 86th part on. -/
def tail86 (d : Dev nD) (v2801 v2802 : BitVec 32) (v2803 : BitVec 1) : P F PUnit := do
  let ⟨v2835, v2836, v2837⟩ : Σ' (v2835 : BitVec 32) (v2836 : BitVec 32), BitVec 1 ← k0_part86 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v2801 v2802 v2803
  let ⟨v2869, v2870, v2871⟩ : Σ' (v2869 : BitVec 32) (v2870 : BitVec 32), BitVec 1 ← k0_part87 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v2835 v2836 v2837
  let ⟨v2903, v2904, v2905⟩ : Σ' (v2903 : BitVec 32) (v2904 : BitVec 32), BitVec 1 ← k0_part88 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v2869 v2870 v2871
  let ⟨v2937, v2938, v2939⟩ : Σ' (v2937 : BitVec 32) (v2938 : BitVec 32), BitVec 1 ← k0_part89 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v2903 v2904 v2905
  let ⟨v2971, v2972, v2973⟩ : Σ' (v2971 : BitVec 32) (v2972 : BitVec 32), BitVec 1 ← k0_part90 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v2937 v2938 v2939
  let ⟨v3005, v3006, v3007⟩ : Σ' (v3005 : BitVec 32) (v3006 : BitVec 32), BitVec 1 ← k0_part91 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v2971 v2972 v2973
  let ⟨v3039, v3040, v3041⟩ : Σ' (v3039 : BitVec 32) (v3040 : BitVec 32), BitVec 1 ← k0_part92 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v3005 v3006 v3007
  let ⟨v3073, v3074, v3075⟩ : Σ' (v3073 : BitVec 32) (v3074 : BitVec 32), BitVec 1 ← k0_part93 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v3039 v3040 v3041
  let ⟨v3107, v3108, v3109⟩ : Σ' (v3107 : BitVec 32) (v3108 : BitVec 32), BitVec 1 ← k0_part94 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v3073 v3074 v3075
  let ⟨v3141, v3142, v3143⟩ : Σ' (v3141 : BitVec 32) (v3142 : BitVec 32), BitVec 1 ← k0_part95 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v3107 v3108 v3109
  let ⟨v3175, v3176, v3177⟩ : Σ' (v3175 : BitVec 32) (v3176 : BitVec 32), BitVec 1 ← k0_part96 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v3141 v3142 v3143
  let ⟨v3209, v3210, v3211⟩ : Σ' (v3209 : BitVec 32) (v3210 : BitVec 32), BitVec 1 ← k0_part97 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v3175 v3176 v3177
  let ⟨v3243, v3244, v3245⟩ : Σ' (v3243 : BitVec 32) (v3244 : BitVec 32), BitVec 1 ← k0_part98 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v3209 v3210 v3211
  let ⟨v3277, v3278, v3279⟩ : Σ' (v3277 : BitVec 32) (v3278 : BitVec 32), BitVec 1 ← k0_part99 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v3243 v3244 v3245
  let ⟨v3311, v3312, v3313⟩ : Σ' (v3311 : BitVec 32) (v3312 : BitVec 32), BitVec 1 ← k0_part100 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v3277 v3278 v3279
  let v3320 : DmaSems sig S1 := cc0_scratch8.slice (Rect.unit (s := S32) (k0_off1 d 31#32) S1.size (k0_off1_inb d 30))
  let v3321 : DmaSems sig S_ := v3320.squeeze S_ squeezes_S1_S_
  let v3322 : Memref sig .tc .vmem S1x8x128 .f32 := aM.slice (Rect.unit (s := S32x8x128) (k0_off7 d) S1x8x128.size (k0_off7_inb d)) (fun _ => rfl)
  let v3323 : Memref sig .tc .vmem S8x128 .f32 := v3322.squeeze S8x128 squeezes_S1x8x128_S8x128
  let v3324 : Memref sig .tc .vmem S1x8x128 .f32 := aM.slice (Rect.unit (s := S32x8x128) (k0_off7 d) S1x8x128.size (k0_off7_inb d)) (fun _ => rfl)
  let v3325 : Memref sig .tc .vmem S8x128 .f32 := v3324.squeeze S8x128 squeezes_S1x8x128_S8x128
  Prog.lift (.waitDma2 v3321.sem v3325 v3323 ((View.wordExact_bits rfl).reshape _ _) ((View.wordExact_bits rfl).reshape _ _))
  pure ⟨⟩

abbrev v85 (v : BitVec 32) : BitVec 32 := Scalar.remsi (Scalar.addi v 1#32) (Scalar.select (Scalar.cmpi .eq 32#32 0#32) 1#32 32#32)
set_option maxRecDepth 65536 in
theorem part85_eq (v : BitVec 32) : k0_part85 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v (Scalar.extui (Scalar.cmpi .ne v 23#32)) 0#32 = between (arecvStep v)
    (.ret ⟨Scalar.select (Scalar.cmpi .eq 32#32 0#32) 1#32 32#32, v85 v, Scalar.cmpi .ne (v85 v) 0#32⟩) [23, 24, 25, 26, 27, 28, 29, 30, 31] := by chain_rfl

/-- The printed second half from its 86th part on, after the waits. -/
abbrev tail86' (d : Dev nD) : P F PUnit :=
  tail86 d (Scalar.select (Scalar.cmpi .eq 32#32 0#32) 1#32 32#32) (v85 (meW d)) (Scalar.cmpi .ne (v85 (meW d)) 0#32)

theorem between_arecv_ret {A β : Type} (v : BitVec 32) (x : A) (k : A → P F β) (js : List (Fin 32)) :
    Prog.bind (between (arecvStep v) (.ret x) js) k = between (arecvStep v) (k x) js := between_arecv_bind v (.ret x) k js

/-- The printed second half from its 85th part on. -/
def tail85 (d : Dev nD) (a b : BitVec 32) : P F PUnit :=
  Prog.bind (k0_part85 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 (meW d) a b) (fun x => tail86 d x.1 x.2.1 x.2.2)

/-- From its 84th part on. -/
def tail84 (d : Dev nD) (a b : BitVec 32) : P F PUnit :=
  Prog.bind (k0_part84 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 (meW d) a b) (fun x => tail85 d x.1 x.2)

/-- From its 83rd part on. -/
def tail83 (d : Dev nD) (a b : BitVec 32) : P F PUnit :=
  Prog.bind (k0_part83 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 (meW d) a b) (fun x => tail84 d x.1 x.2)

/-- From its 82nd part on. -/
def tail82 (d : Dev nD) : P F PUnit :=
  Prog.bind (k0_part82 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d)) (fun x => tail83 d x.1 x.2)

theorem tail85_eq (d : Dev nD) : tail85 (F := F) d (Scalar.extui (Scalar.cmpi .ne (meW d) 23#32)) 0#32
    = between (arecvStep (meW d)) (tail86' d) [23, 24, 25, 26, 27, 28, 29, 30, 31] :=
  (congrArg (fun p => Prog.bind p _) (part85_eq (meW d))).trans (between_arecv_ret _ _ _ _)

theorem tail84_eq (d : Dev nD) : tail84 (F := F) d (Scalar.extui (Scalar.cmpi .ne (meW d) 13#32)) 0#32
    = between (arecvStep (meW d)) (between (arecvStep (meW d)) (tail86' d) [23, 24, 25, 26, 27, 28, 29, 30, 31]) [13, 14, 15, 16, 17, 18, 19, 20, 21, 22] :=
  ((congrArg (fun p => Prog.bind p _) (part84_eq (meW d))).trans (between_arecv_ret _ _ _ _)).trans
    (congrArg (fun p => between _ p _) (tail85_eq d))

theorem tail83_eq (d : Dev nD) : tail83 (F := F) d (Scalar.extui (Scalar.cmpi .ne (meW d) 3#32)) 0#32
    = between (arecvStep (meW d)) (between (arecvStep (meW d)) (between (arecvStep (meW d)) (tail86' d) [23, 24, 25, 26, 27, 28, 29, 30, 31]) [13, 14, 15, 16, 17, 18, 19, 20, 21, 22])
        [3, 4, 5, 6, 7, 8, 9, 10, 11, 12] :=
  ((congrArg (fun p => Prog.bind p _) (part83_eq (meW d))).trans (between_arecv_ret _ _ _ _)).trans
    (congrArg (fun p => between _ p _) (tail84_eq d))

theorem asendStep_bind {β : Type} (d : Dev nD) (t : Fin 31) (p : P F α) (k : α → P F β) :
    Prog.bind (asendStep d t p) k = asendStep d t (Prog.bind p k) := rfl

theorem tail82_eq (d : Dev nD) : tail82 (F := F) d = asendStep d 29 (asendStep d 30 (between (arecvStep (meW d))
    (between (arecvStep (meW d)) (between (arecvStep (meW d)) (between (arecvStep (meW d)) (tail86' d) [23, 24, 25, 26, 27, 28, 29, 30, 31]) [13, 14, 15, 16, 17, 18, 19, 20, 21, 22])
        [3, 4, 5, 6, 7, 8, 9, 10, 11, 12]) [0, 1, 2])) := by
  unfold tail82
  rw [part82_eq, asendStep_bind, asendStep_bind, between_arecv_ret]
  exact congrArg (fun p => asendStep d 29 (asendStep d 30 (between _ p _))) (tail83_eq d)

end Printed

end Cert.KernelIdeal.A2A

end
-- ==== Proof.PrintedC.lean ====
/- The printed body is the short program. -/
module

public import proofs.«01_k».proof.Proof.PrintedB

@[expose] public section

noncomputable section

namespace Cert.KernelIdeal.A2A

open Idealize.ShloMosaic Idealize.ShloMosaic.TcCoe
open Idealize.SL.Sem
open Cert.KernelIdeal.Gen

variable {F : FTy → Type} [FloatOps F] {α : Type}

/-! ### Putting pieces of a loop together -/

theorem between4 (f : Fin 32 → P F α → P F α) (k : P F α) :
    between f (between f (between f (between f k [23, 24, 25, 26, 27, 28, 29, 30, 31]) [13, 14, 15, 16, 17, 18, 19, 20, 21, 22]) [3, 4, 5, 6, 7, 8, 9, 10, 11, 12]) [0, 1, 2]
      = stepsFrom 32 f k 32 (Nat.le_refl _) := rfl

theorem steps_first (f : Fin 31 → P F α → P F α) (k : P F α) :
    f 0 (stepsFrom 31 f k 30 (by decide)) = stepsFrom 31 f k 31 (Nat.le_refl _) := rfl

theorem steps_last (f : Fin 31 → P F α → P F α) (k : P F α) :
    stepsFrom 29 (fun t => f ⟨t.val, by omega⟩) (f 29 (f 30 k)) 29 (Nat.le_refl _) = stepsFrom 31 f k 31 (Nat.le_refl _) := rfl

theorem loop_join {A : Type} (f : Fin 15 → A → (A → P F α) → P F α) (k : A → P F α) (a : A) :
    loopFrom 12 (fun i => f ⟨i.val, by omega⟩) (fun a => loopFrom 15 f k 3 (by decide) a) 12 (Nat.le_refl _) a
      = loopFrom 15 f k 15 (Nat.le_refl _) a := rfl

theorem tail82_bind {β : Type} (d : Dev nD) (K : PUnit → P F β) :
    Prog.bind (tail82 d) K = asendStep d 29 (asendStep d 30 (stepsFrom 32 (arecvStep (meW d)) (Prog.bind (tail86' d) K) 32 (Nat.le_refl _))) := by
  rw [tail82_eq, asendStep_bind, asendStep_bind, between_arecv_bind, between_arecv_bind, between_arecv_bind, between_arecv_bind, between4]

/-- The printed second half from its 65th to its 81st part, then `Z`. -/
def front65 (d0 : Dev nD) (v2 : BitVec 32) (Z : P F PUnit) : P F PUnit := do
  let ⟨v2097, v2102, v2103⟩ : Σ' (v2097 : BitVec 32) (v2102 : BitVec 1), BitVec 32 ← k0_part65 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2
  let ⟨v2136, v2138⟩ : Σ' (v2136 : BitVec 32), BitVec 32 ← k0_part66 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2 v2097 v2102 v2103
  k0_part67 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2 v2136 v2138
  k0_part68 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2
  let ⟨v2243, v2244, v2245, v2246⟩ : Σ' (v2243 : BitVec 32) (v2244 : BitVec 32) (v2245 : BitVec 1), BitVec 1 ← k0_part69 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2
  let v2283 : BitVec 32 ← k0_part70 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2 v2243 v2244 v2245 v2246
  k0_part71 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2 v2283
  let ⟨v2349, v2354, v2355⟩ : Σ' (v2349 : BitVec 32) (v2354 : BitVec 1), BitVec 32 ← k0_part72 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2
  let ⟨v2388, v2390⟩ : Σ' (v2388 : BitVec 32), BitVec 32 ← k0_part73 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2 v2349 v2354 v2355
  k0_part74 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2 v2388 v2390
  k0_part75 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2
  let ⟨v2495, v2496, v2497, v2498⟩ : Σ' (v2495 : BitVec 32) (v2496 : BitVec 32) (v2497 : BitVec 1), BitVec 1 ← k0_part76 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2
  let v2535 : BitVec 32 ← k0_part77 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2 v2495 v2496 v2497 v2498
  k0_part78 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2 v2535
  let ⟨v2601, v2606, v2607⟩ : Σ' (v2601 : BitVec 32) (v2606 : BitVec 1), BitVec 32 ← k0_part79 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2
  let ⟨v2640, v2642⟩ : Σ' (v2640 : BitVec 32), BitVec 32 ← k0_part80 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2 v2601 v2606 v2607
  k0_part81 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2 v2640 v2642
  Z

/-- The printed second half up to its 81st part, then `Z`. -/
def front61 (d0 : Dev nD) (v2 : BitVec 32) (v1947 : F .f32) (Z : P F PUnit) : P F PUnit := do
  let v1973 : F .f32 ← k0_part61 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1947
  let v1999 : F .f32 ← k0_part62 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1973
  let ⟨v2025, v2033⟩ : Σ' (v2025 : F .f32), FVec F S4096x512 .bf16 ← k0_part63 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1999
  k0_part64 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d0 v2 v2025 v2033
  front65 d0 v2 Z

set_option maxRecDepth 65536 in
theorem part102_split (d : Dev nD) (v : F .f32) : k0_part102 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 d (meW d) v = front61 d (meW d) v (tail82 d) := by
  rw [k0_part102_eq_skeleton]
  chain_rfl

/-- What follows the printed first half, with `Z` for its own last part. -/
def restZ (d : Dev nD) (Z : P F PUnit) (x : Σ' (_ : Dev nD) (_ : BitVec 32), F .f32) : P F PUnit :=
  match x with
  | ⟨_, _, m⟩ => Prog.bind (front61 d (meW d) m Z) (fun _ => quantStep (.ret PUnit.unit))

/-- The printed first half from its 50th part on. -/
def tail50 (d : Dev nD) : P F (Σ' (_ : Dev nD) (_ : BitVec 32), F .f32) := do
  let v1661 : F .f32 ← k0_part50 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10
  let v1687 : F .f32 ← k0_part51 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1661
  let v1713 : F .f32 ← k0_part52 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1687
  let v1739 : F .f32 ← k0_part53 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1713
  let ⟨v1765, v1776⟩ : Σ' (v1765 : F .f32), Vec F S1x4096x512 .f32 ← k0_part54 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1739
  let ⟨v1791, v1804, v1805⟩ : Σ' (v1791 : F .f32) (v1804 : FVec F S4096x512 .bf16), Vec F S4096x512 .bf16 ← k0_part55 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1765 v1776
  let v1817 : F .f32 ← k0_part56 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1791 v1804 v1805
  let ⟨v1843, v1860, v1861, cst_1337⟩ : Σ' (v1843 : F .f32) (v1860 : Vec F S128x4096 .bf16) (v1861 : Vec F S4096x512 .bf16), FVec F S128x512 .f32 ← k0_part57 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1817
  let ⟨v1869, v1888⟩ : Σ' (v1869 : F .f32), FVec F S128x512 .f32 ← k0_part58 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1843 v1860 v1861 cst_1337
  let ⟨v1895, v1919⟩ : Σ' (v1895 : F .f32), FVec F S1x1x1 .f32 ← k0_part59 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1869 v1888
  let v1947 : F .f32 ← k0_part60 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v1895 v1919
  pure ⟨d, (meW d), v1947⟩

/-- Round `i` of the tiles: start the next fetch, do this tile. -/
abbrev tileRound (i : Fin 15) (acc : F .f32) (k : F .f32 → P F α) : P F α :=
  wStart ⟨i.val + 1, by omega⟩ (tileStep ⟨i.val, by omega⟩ acc k)

set_option maxRecDepth 65536 in
theorem tail36_bind {β : Type} (d : Dev nD) (K : (Σ' (_ : Dev nD) (_ : BitVec 32), F .f32) → P F β) :
    Prog.bind (tail36 (F := F) d (Scalar.addi (meW d) 2#32) 32#32 0#32) K = stepsFrom 31 (sendWait d) (Prog.bind (tail50 d) K) 30 (by decide) := by
  chain_rfl

set_option maxRecDepth 65536 in
theorem tail50_bind {β : Type} (d : Dev nD) (K : (Σ' (_ : Dev nD) (_ : BitVec 32), F .f32) → P F β) :
    Prog.bind (tail50 (F := F) d) K = loopFrom 12 (fun i => tileRound ⟨i.val, by omega⟩) (fun acc => K ⟨d, meW d, acc⟩) 12 (Nat.le_refl _) (Scalar.ofBits .f32 0x00000000#32) := by
  chain_rfl

set_option maxRecDepth 65536 in
theorem front65_bind {β : Type} (d : Dev nD) (Z : P F PUnit) (K : PUnit → P F β) :
    Prog.bind (front65 d (meW d) Z) K = stepsFrom 29 (fun t => asendStep d ⟨t.val, by omega⟩) (Prog.bind Z K) 29 (Nat.le_refl _) := by
  chain_rfl

set_option maxRecDepth 65536 in
theorem front61_bind {β : Type} (d : Dev nD) (acc : F .f32) (Z : P F PUnit) (K : PUnit → P F β) :
    Prog.bind (front61 d (meW d) acc Z) K = loopFrom 15 tileRound (fun acc => tileStep 15 acc fun m =>
       amaxStep d m (Prog.bind (front65 d (meW d) Z) K)) 3 (by decide) acc := by
  chain_rfl

set_option maxRecDepth 65536 in
theorem last_eq (d : Dev nD) : Prog.bind (tail86' (F := F) d) (fun _ => quantStep (.ret PUnit.unit))
    = stepsFrom 31 (asendWait d) (quantStep (.ret PUnit.unit)) 31 (Nat.le_refl _) := by chain_rfl

set_option maxRecDepth 65536 in
/-- The printed body reads its device and runs the short program. -/
theorem body_eq : cc0_body (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 = .op .deviceId (fun d => clean d) := by
  rw [head_eq]
  refine congrArg (Prog.op _) (funext fun d => congrArg (phase1 d) ?_)
  show Prog.bind (tail32 d) rest102 = phase2 d (.ret PUnit.unit)
  rw [tail32_bind, tail36_bind, tail50_bind, steps_first (sendWait d)]
  simp only [rest102, part102_split, front61_bind, front65_bind, tail82_bind, last_eq, steps_last, loop_join]
  rfl

end Cert.KernelIdeal.A2A

end
-- ==== Proof.Cells.lean ====
/- The semaphores and views of the kernel in closed form: each name the text computes from a device's place is the
   semaphore or view of the peer it means. -/
module

public import proofs.«01_k».proof.Proof.PrintedC

@[expose] public section

noncomputable section

namespace Cert.KernelIdeal.A2A

open Idealize.ShloMosaic Idealize.ShloMosaic.TcCoe
open Idealize.SL.Sem
open Cert.KernelIdeal.Gen

/-! ## The peers -/

theorem peer_val (d : Dev nD) (t : Fin 31) : (peer d t).val = (d.val + (1 + t.val)) % 32 := devW_eq d t

theorem peer_ne (d : Dev nD) (t : Fin 31) : peer d t ≠ d := by
  intro h
  have := congrArg Fin.val h
  rw [peer_val] at this
  have h1 : d.val < 32 := d.isLt
  have h2 := t.isLt
  omega

theorem peer_injective (d : Dev nD) : Function.Injective (peer d) := by
  intro t t' h
  have := congrArg Fin.val h
  rw [peer_val, peer_val] at this
  have h1 : d.val < 32 := d.isLt
  have h2 := t.isLt
  have h3 := t'.isLt
  exact Fin.ext (by omega)

/-- Every device but `d` is one of its peers. -/
theorem exists_peer {d j : Dev nD} (h : j ≠ d) : ∃ t, peer d t = j := by
  have h1 : d.val < 32 := d.isLt
  have h2 : j.val < 32 := j.isLt
  have h3 : j.val ≠ d.val := fun e => h (Fin.ext e)
  refine ⟨⟨(j.val + 31 - d.val) % 32, by omega⟩, Fin.ext ?_⟩
  rw [peer_val]
  show (d.val + (1 + (j.val + 31 - d.val) % 32)) % 32 = j.val
  omega

/-- The peers, as a set. -/
theorem erase_eq_map (d : Dev nD) : (Finset.univ : Finset (Dev nD)).erase d = (Finset.univ : Finset (Fin 31)).map ⟨peer d, peer_injective d⟩ := by
  ext j
  rw [Finset.mem_erase, Finset.mem_map]
  constructor
  · rintro ⟨h, -⟩
    obtain ⟨t, ht⟩ := exists_peer h
    exact ⟨t, Finset.mem_univ _, ht⟩
  · rintro ⟨t, -, rfl⟩
    exact ⟨peer_ne d t, Finset.mem_univ _⟩

/-! ## The semaphores -/

abbrev sendSemAt (j : Fin 32) : DmaSem sig :=
  ((cc0_scratch5.slice (Rect.unit (s := S32) ![j.val] S1.size (hat32 j))).squeeze S_ squeezes_S1_S_).sem
abbrev asendSemAt (j : Fin 32) : DmaSem sig :=
  ((cc0_scratch8.slice (Rect.unit (s := S32) ![j.val] S1.size (hat32 j))).squeeze S_ squeezes_S1_S_).sem

theorem off1_eq : ∀ (d : Dev nD) (t : Fin 31), k0_off1 d (dist t) = ![(peer d t).val] := by decide +kernel
theorem off4_eq : ∀ (d : Dev nD) (t : Fin 31), k0_off4 d (dist t) = ![128 * (peer d t).val, 0] := by decide +kernel

theorem sendSemW_eq (d : Dev nD) (t : Fin 31) : sendSemW d t = sendSemAt (peer d t) := by
  unfold sendSemW sendSemAt
  rw [SemArray.slice_unit_congr _ (off1_eq d t) _ (hat32 _)]
theorem asendSemW_eq (d : Dev nD) (t : Fin 31) : asendSemW d t = asendSemAt (peer d t) := by
  unfold asendSemW asendSemAt
  rw [SemArray.slice_unit_congr _ (off1_eq d t) _ (hat32 _)]
theorem recvSemW_eq (d : Dev nD) : recvSemW d = recvSemAt d := by
  unfold recvSemW recvSemAt
  rw [SemArray.slice_unit_congr _ (k0_off2_eq d) _ (hat32 _)]
theorem arecvSemW_eq (d : Dev nD) : arecvSemW d = arecvSemAt d := by
  unfold arecvSemW arecvSemAt
  rw [SemArray.slice_unit_congr _ (k0_off2_eq d) _ (hat32 _)]

/-- Their numbers in the pool. -/
theorem sendSemAt_val : ∀ j : Fin 32, (sendSemAt j).val = 2 + j.val := by decide +kernel
theorem recvSemAt_val : ∀ j : Fin 32, (recvSemAt j).val = 34 + j.val := by decide +kernel
theorem ownSem_val : (cc0_scratch7.sem : DmaSem sig).val = 66 := by decide +kernel
theorem asendSemAt_val : ∀ j : Fin 32, (asendSemAt j).val = 67 + j.val := by decide +kernel
theorem arecvSemAt_val : ∀ j : Fin 32, (arecvSemAt j).val = 99 + j.val := by decide +kernel
theorem wSemAt_val : ∀ i : Fin 16, (wSemAt i).val = 131 + i.val % 2 := by decide +kernel

/-! ## The views -/

/-- Slices at equal offsets are equal. -/
theorem slice_off {κ : Kind} {sp : Space} {s : Shape} {e : EltTy} (m : Memref sig κ sp s e) {o o' size : Fin s.rank → Nat} (h : o = o')
    (p : ∀ a, o a + size a ≤ s.size a) (p' : ∀ a, o' a + size a ≤ s.size a) :
    m.slice (Rect.unit o size p) (fun _ => rfl) = m.slice (Rect.unit o' size p') (fun _ => rfl) := by
  subst h; rfl

theorem hPeerW_eq (d : Dev nD) (t : Fin 31) : hPeerW d t = hAt (peer d t) := slice_off _ (off4_eq d t) _ _
theorem hOwnW_eq (d : Dev nD) : hOwnW d = hAt d := slice_off _ (k0_off5_eq d) _ _
theorem gOwnW_eq (d : Dev nD) : gOwnW d = gAt d := slice_off _ (k0_off3_eq d) _ _
theorem aOwnW_eq (d : Dev nD) : aOwnW d = aAt d :=
  congrArg (fun m : Memref sig .tc .vmem S1x8x128 .f32 => m.squeeze S8x128 squeezes_S1x8x128_S8x128) (slice_off aM (k0_off7_eq d) _ _)

/-! ## What the transfers count -/

/-- A block of rows of `x`. -/
def NX : ℕ := (gAt 0).view.dmaCredit
/-- A device's maximum. -/
def NA : ℕ := (aAt 0).view.dmaCredit
/-- A tile of `w`. -/
def NW : ℕ := (fAt 0).view.dmaCredit

theorem credit_h (j : Fin 32) : (hAt j).view.dmaCredit = NX := rfl
theorem credit_g (j : Fin 32) : (gAt j).view.dmaCredit = NX := rfl
theorem credit_a (j : Fin 32) : (aAt j).view.dmaCredit = NA := rfl
theorem credit_f (i : Fin 16) : (fAt i).view.dmaCredit = NW := rfl
theorem NX_pos : 0 < NX := View.dmaCredit_pos _ (by decide)
theorem NA_pos : 0 < NA := View.dmaCredit_pos _ (by decide)
theorem NW_pos : 0 < NW := View.dmaCredit_pos _ (by decide)

/-- The kernel tests that `j` is another device. -/
theorem other_iff : ∀ (d : Dev nD) (j : Fin 32), otherV (meW d) j = 1#1 ↔ j ≠ d := by decide +kernel

end Cert.KernelIdeal.A2A

end
-- ==== Proof.Contents.lean ====
/- The views that cut the kernel's buffers into blocks, and what each buffer holds: the rounded block of `x`, the gathered
   rows, the products, the maxima. -/
module

public import proofs.«01_k».proof.Proof.Cells
public import Idealize.ShloMosaic.Lib.ValueLayout
public import Idealize.ShloMosaic.Lib.Ring
public import Idealize.ShloMosaic.Lib.Transfers
public import Idealize.ShloMosaic.Lib.Pipeline.Launch

@[expose] public section

noncomputable section

namespace Cert.KernelIdeal.A2A

open Idealize.ShloMosaic Idealize.ShloMosaic.TcCoe Idealize.ShloMosaic.ValueIdx
open Idealize.SL.Sem
open Cert.KernelIdeal.Gen

/-! ## The cuts -/

/-- The elements of each block. -/
abbrev gSet (j : Fin 32) : Finset S128x4096.Idx := (gAt j).view.set
abbrev hSet (j : Fin 32) : Finset S4096x128.Idx := (hAt j).view.set
abbrev wSet (i : Fin 16) : Finset S4096x8192.Idx := (wAt i).view.set
abbrev fSet (i : Fin 16) : Finset S2x4096x512.Idx := (fAt i).view.set
abbrev aSet (j : Fin 32) : Finset S32x8x128.Idx := (aAt j).view.set
/-- Where a store of tile `i` of the product goes. -/
abbrev oSet (i : Fin 16) : Finset S128x8192.Idx :=
  ((oM : Memref sig .tc .vmem S128x8192 .f32).access (Rect.unit (s := S128x8192) ![0, 512 * i.val] S128x512.size (hotile i))).set

/-- The rectangles the blocks are cut by. -/
abbrev gR (j : Fin 32) : Rect S128x4096 := Rect.unit (s := S128x4096) ![0, 128 * j.val] S128x128.size (hcol j)
abbrev hR (j : Fin 32) : Rect S4096x128 := Rect.unit (s := S4096x128) ![128 * j.val, 0] S128x128.size (hrow j)
abbrev wR (i : Fin 16) : Rect S4096x8192 := Rect.unit (s := S4096x8192) ![0, 512 * i.val] S4096x512.size (htile i)
abbrev fR (i : Fin 16) : Rect S2x4096x512 := Rect.unit (s := S2x4096x512) ![i.val % 2, 0, 0] S1x4096x512.size (hslot i)
abbrev aR (j : Fin 32) : Rect S32x8x128 := Rect.unit (s := S32x8x128) ![j.val, 0, 0] S1x8x128.size (harow j)
abbrev oR (i : Fin 16) : Rect S128x8192 := Rect.unit (s := S128x8192) ![0, 512 * i.val] S128x512.size (hotile i)

theorem gSet_eq (j : Fin 32) : gSet j = (gR j).set := View.set_slice_whole cc0_scratch1 (gR j)
theorem hSet_eq (j : Fin 32) : hSet j = (hR j).set := View.set_slice_whole cc0_scratch0 (hR j)
theorem wSet_eq (i : Fin 16) : wSet i = (wR i).set := View.set_slice_whole main_arg1 (wR i)
theorem fSet_eq (i : Fin 16) : fSet i = (fR i).set :=
  (View.set_reshape ((View.whole cc0_scratch2).slice (fR i)) _).trans (View.set_slice_whole cc0_scratch2 (fR i))
theorem aSet_eq (j : Fin 32) : aSet j = (aR j).set :=
  (View.set_reshape ((View.whole cc0_scratch4).slice (aR j)) _).trans (View.set_slice_whole cc0_scratch4 (aR j))
theorem oSet_eq (i : Fin 16) : oSet i = (oR i).set := View.set_slice_whole cc0_stg1_0 (oR i)

theorem mem_gAt (j : Fin 32) (i : S128x4096.Idx) :
    i ∈ gSet j ↔ 128 * j.val ≤ (i 1).val ∧ (i 1).val < 128 * j.val + 128 := by
  have h0 : (i 0).val < 128 := (i 0).isLt
  rw [gSet_eq, Rect.mem_set_unit]
  constructor
  · intro h; exact h 1
  · intro h a
    fin_cases a
    · exact ⟨Nat.zero_le _, by show (i 0).val < 0 + 128; omega⟩
    · exact h

theorem mem_hAt (j : Fin 32) (i : S4096x128.Idx) :
    i ∈ hSet j ↔ 128 * j.val ≤ (i 0).val ∧ (i 0).val < 128 * j.val + 128 := by
  have h0 : (i 1).val < 128 := (i 1).isLt
  rw [hSet_eq, Rect.mem_set_unit]
  constructor
  · intro h; exact h 0
  · intro h a
    fin_cases a
    · exact h
    · exact ⟨Nat.zero_le _, by show (i 1).val < 0 + 128; omega⟩

theorem mem_wAt (j : Fin 16) (i : S4096x8192.Idx) :
    i ∈ wSet j ↔ 512 * j.val ≤ (i 1).val ∧ (i 1).val < 512 * j.val + 512 := by
  have h0 : (i 0).val < 4096 := (i 0).isLt
  rw [wSet_eq, Rect.mem_set_unit]
  constructor
  · intro h; exact h 1
  · intro h a
    fin_cases a
    · exact ⟨Nat.zero_le _, by show (i 0).val < 0 + 4096; omega⟩
    · exact h

theorem mem_fAt (j : Fin 16) (i : S2x4096x512.Idx) :
    i ∈ fSet j ↔ (i 0).val = j.val % 2 := by
  have h1 : (i 1).val < 4096 := (i 1).isLt
  have h2 : (i 2).val < 512 := (i 2).isLt
  rw [fSet_eq, Rect.mem_set_unit]
  constructor
  · intro h
    have := h 0
    have h3 : j.val % 2 ≤ (i 0).val := this.1
    have h4 : (i 0).val < j.val % 2 + 1 := this.2
    omega
  · intro h a
    fin_cases a
    · exact ⟨by show j.val % 2 ≤ (i 0).val; omega, by show (i 0).val < j.val % 2 + 1; omega⟩
    · exact ⟨Nat.zero_le _, by show (i 1).val < 0 + 4096; omega⟩
    · exact ⟨Nat.zero_le _, by show (i 2).val < 0 + 512; omega⟩

theorem mem_aAt (j : Fin 32) (i : S32x8x128.Idx) :
    i ∈ aSet j ↔ (i 0).val = j.val := by
  have h1 : (i 1).val < 8 := (i 1).isLt
  have h2 : (i 2).val < 128 := (i 2).isLt
  rw [aSet_eq, Rect.mem_set_unit]
  constructor
  · intro h
    have := h 0
    have h3 : j.val ≤ (i 0).val := this.1
    have h4 : (i 0).val < j.val + 1 := this.2
    omega
  · intro h a
    fin_cases a
    · exact ⟨by show j.val ≤ (i 0).val; omega, by show (i 0).val < j.val + 1; omega⟩
    · exact ⟨Nat.zero_le _, by show (i 1).val < 0 + 8; omega⟩
    · exact ⟨Nat.zero_le _, by show (i 2).val < 0 + 128; omega⟩

theorem gAt_disjoint (j j' : Fin 32) (h : j ≠ j') :
    Disjoint (gSet j) (gSet j') := by
  rw [Finset.disjoint_left]; intro i hi hi'
  rw [mem_gAt] at hi hi'
  exact h (Fin.ext (by omega))
theorem hAt_disjoint (j j' : Fin 32) (h : j ≠ j') :
    Disjoint (hSet j) (hSet j') := by
  rw [Finset.disjoint_left]; intro i hi hi'
  rw [mem_hAt] at hi hi'
  exact h (Fin.ext (by omega))
theorem wAt_disjoint (j j' : Fin 16) (h : j ≠ j') :
    Disjoint (wSet j) (wSet j') := by
  rw [Finset.disjoint_left]; intro i hi hi'
  rw [mem_wAt] at hi hi'
  exact h (Fin.ext (by omega))
theorem aAt_disjoint (j j' : Fin 32) (h : j ≠ j') :
    Disjoint (aSet j) (aSet j') := by
  rw [Finset.disjoint_left]; intro i hi hi'
  rw [mem_aAt] at hi hi'
  exact h (Fin.ext (by omega))
/-- The two slots. -/
abbrev slot (s : Fin 2) : Fin 16 := ⟨s.val, by omega⟩
theorem fAt_disjoint (j j' : Fin 2) (h : j ≠ j') :
    Disjoint (fSet (slot j)) (fSet (slot j')) := by
  rw [Finset.disjoint_left]; intro i hi hi'
  rw [mem_fAt] at hi hi'
  exact h (Fin.ext (by dsimp only at hi hi'; omega))

theorem gAt_cover : (Finset.univ : Finset (Fin 32)).biUnion (fun j => gSet j) = Finset.univ := by
  ext i
  have h1 : (i 1).val < 4096 := (i 1).isLt
  simp only [Finset.mem_biUnion, Finset.mem_univ, true_and, iff_true]
  exact ⟨⟨(i 1).val / 128, by omega⟩, (mem_gAt _ _).mpr (by dsimp only; omega)⟩
theorem hAt_cover : (Finset.univ : Finset (Fin 32)).biUnion (fun j => hSet j) = Finset.univ := by
  ext i
  have h1 : (i 0).val < 4096 := (i 0).isLt
  simp only [Finset.mem_biUnion, Finset.mem_univ, true_and, iff_true]
  exact ⟨⟨(i 0).val / 128, by omega⟩, (mem_hAt _ _).mpr (by dsimp only; omega)⟩
theorem wAt_cover : (Finset.univ : Finset (Fin 16)).biUnion (fun j => wSet j) = Finset.univ := by
  ext i
  have h1 : (i 1).val < 8192 := (i 1).isLt
  simp only [Finset.mem_biUnion, Finset.mem_univ, true_and, iff_true]
  exact ⟨⟨(i 1).val / 512, by omega⟩, (mem_wAt _ _).mpr (by dsimp only; omega)⟩
theorem aAt_cover : (Finset.univ : Finset (Fin 32)).biUnion (fun j => aSet j) = Finset.univ := by
  ext i
  have h1 : (i 0).val < 32 := (i 0).isLt
  simp only [Finset.mem_biUnion, Finset.mem_univ, true_and, iff_true]
  exact ⟨⟨(i 0).val, by omega⟩, (mem_aAt _ _).mpr rfl⟩
theorem fAt_cover : (Finset.univ : Finset (Fin 2)).biUnion (fun j => fSet (slot j)) = Finset.univ := by
  ext i
  have h1 : (i 0).val < 2 := (i 0).isLt
  simp only [Finset.mem_biUnion, Finset.mem_univ, true_and, iff_true]
  exact ⟨⟨(i 0).val, by omega⟩, (mem_fAt _ _).mpr (by dsimp only; omega)⟩

/-- Tiles two apart share a slot. -/
theorem fAt_congr {i i' : Fin 16} (h : i.val % 2 = i'.val % 2) : fAt i = fAt i' :=
  congrArg (fun m : Memref sig .tc .vmem S1x4096x512 .f32 => m.squeeze S4096x512 squeezes_S1x4096x512_S4096x512)
    (slice_off fM (by rw [h]) _ _)

/-! ## Contents -/

variable {F : FTy → Type} [FloatOps F]
variable (m : (ℓ : Loc nD τ sig) → Buf (Elt F) ℓ)

/-- The block of `x` staged on device `c`. -/
def xstg (c : Dev nD) : Vec F S4096x128 .f32 := (win0_0.blk (0 : Fin 1)).view.read (Elt F) (m ((c : Thread nD τ).loc main_arg0))

/-- Device `c`'s `w`. -/
def warg (c : Dev nD) : Vec F S4096x8192 .f32 := m ((c : Thread nD τ).loc main_arg1)

/-- The rounded block of `x`. -/
def x16 (c : Dev nD) : Vec F S4096x128 .bf16 := k0_pay2 (xstg m c)

/-- The rows of `x` gathered on device `c`: column block `j` comes from device `j`. -/
def gat (c : Dev nD) : Vec F S128x4096 .bf16 := fun i =>
  x16 m (⟨(i 1).val / 128, Nat.div_lt_of_lt_mul (i 1).isLt⟩ : Fin 32)
    (ix2 (⟨128 * c.val + (i 0).val, by have h : c.val < 32 := c.isLt; have h' : (i 0).val < 128 := (i 0).isLt; omega⟩ : Fin 4096)
      (⟨(i 1).val % 128, Nat.mod_lt _ (by decide)⟩ : Fin 128))

/-- What a slot holds with tile `i` in it. -/
def ftile (c : Dev nD) (i : Fin 16) : Vec F S2x4096x512 .f32 := fun k =>
  warg m c (ix2 (⟨(k 1).val, (k 1).isLt⟩ : Fin 4096)
    (⟨512 * i.val + (k 2).val, by have h := i.isLt; have h' : (k 2).val < 512 := (k 2).isLt; omega⟩ : Fin 8192))

/-- Tile `i`, as loaded. -/
def wtile (c : Dev nD) (i : Fin 16) : Vec F S1x4096x512 .f32 :=
  (fM : Memref sig .tc .vmem S2x4096x512 .f32).view.readAt (Elt F) (Rect.unit (s := S2x4096x512) ![i.val % 2, 0, 0] S1x4096x512.size (hslot i)).toLoadRect (ftile m c i)

/-- Tile `i`, rounded. -/
def w16 (c : Dev nD) (i : Fin 16) : Vec F S4096x512 .bf16 := roundW (wtile m c i)

/-- The product by tile `i`. -/
def ytile (c : Dev nD) (i : Fin 16) : Vec F S128x512 .f32 := prod (gat m c) (w16 m c i)

/-- The running maximum after `i` tiles. -/
def acc (c : Dev nD) : ℕ → F .f32
  | 0 => Scalar.ofBits .f32 0x00000000#32
  | i + 1 => if h : i < 16 then maxTile (acc c i) (gat m c) (w16 m c ⟨i, h⟩) else acc c i

/-- Device `c`'s maximum. -/
def lmax (c : Dev nD) : F .f32 := acc m c 16

/-- Everyone's maxima. -/
def amaxAll : Vec F S32x8x128 .f32 := fun k =>
  spread (lmax m (⟨(k 0).val, (k 0).isLt⟩ : Fin 32)) (ix3 (0 : Fin 1) (⟨(k 1).val, (k 1).isLt⟩ : Fin 8) (⟨(k 2).val, (k 2).isLt⟩ : Fin 128))

/-- The whole product. -/
def yAll (c : Dev nD) : Vec F S128x8192 .f32 := fun k =>
  ytile m c (⟨(k 1).val / 512, Nat.div_lt_of_lt_mul (k 1).isLt⟩ : Fin 16)
    (ix2 (⟨(k 0).val, (k 0).isLt⟩ : Fin 128) (⟨(k 1).val % 512, Nat.mod_lt _ (by decide)⟩ : Fin 512))

/-- The result. -/
def outAt (c : Dev nD) : Vec F S128x8192 .f32 := k0_pay1 (amaxAll m) (yAll m c)

/-! ## What is written is what is held -/

omit [FloatOps F] in
/-- A write through a view leaves on it what the written values are read as. -/
theorem write_on {κ : Kind} {sp : Space} {s : Shape} {e : EltTy} (v : View sig κ sp s e) (f g : v.ty.Contents (Elt F))
    (w : s.Idx → Elt F e) (h : ∀ x, w x = v.read (Elt F) g x) : ∀ i ∈ v.set, v.write (Elt F) f w Finset.univ i = g i := by
  intro i hi
  obtain ⟨x, -, rfl⟩ := Finset.mem_map.mp hi
  rw [View.write_emb_of_mem _ _ (Finset.mem_univ x), h x, View.read_apply]
  simp

/-- A peer's send lands its part of the gathered rows. -/
theorem landed_g (c j : Dev nD) (f : Vec F S128x4096 .bf16) :
    ∀ i ∈ gSet c,
      (gAt c).view.write (Elt F) f ((hAt j).view.read (Elt F) (x16 m c)) Finset.univ i = gat m j i := by
  refine write_on (gAt c).view f (gat m j) _ fun x => ?_
  have h0 : (x 0).val < 128 := (x 0).isLt
  have h1 : (x 1).val < 128 := (x 1).isLt
  show x16 m c ((hAt j).view.emb x) = x16 m _ (ix2 _ _)
  have e0 : ((gAt c).view.emb x 0).val = (x 0).val := (Rect.emb_apply (gR c) x 0).trans (by show 0 + 1 * (x 0).val = _; omega)
  have e1 : ((gAt c).view.emb x 1).val = 128 * c.val + (x 1).val := (Rect.emb_apply (gR c) x 1).trans (by show 128 * c.val + 1 * (x 1).val = _; omega)
  congr 1
  · congr 1
    exact Fin.ext (by show c.val = ((gAt c).view.emb x 1).val / 128; omega)
  · funext a
    fin_cases a
    · exact Fin.ext ((Rect.emb_apply (hR j) x 0).trans (by show 128 * j.val + 1 * (x 0).val = 128 * j.val + ((gAt c).view.emb x 0).val; omega))
    · exact Fin.ext ((Rect.emb_apply (hR j) x 1).trans (by show 0 + 1 * (x 1).val = ((gAt c).view.emb x 1).val % 128; omega))

omit [FloatOps F] in
/-- A fetch lands a tile of `w`. -/
theorem landed_f (c : Dev nD) (i : Fin 16) (f : Vec F S2x4096x512 .f32) :
    ∀ k ∈ fSet i,
      (fAt i).view.write (Elt F) f ((wAt i).view.read (Elt F) (warg m c)) Finset.univ k = ftile m c i k := by
  refine write_on (fAt i).view f (ftile m c i) _ fun x => ?_
  rw [eq_ix2 x]
  generalize x 0 = a; generalize x 1 = b
  show warg m c ((wAt i).view.emb (ix2 a b)) = ftile m c i ((fAt i).view.emb (ix2 a b))
  have e : (fAt i).view.emb (ix2 a b) = (fR i).emb (ix3 (⟨0, Nat.one_pos⟩ : Fin 1) a b) := by
    exact congrArg (fR i).emb (reshapeEquiv_ix2_1ab (Shape.Squeezes.numel_eq squeezes_S1x4096x512_S4096x512) a b)
  rw [e]
  have ha : a.val < 4096 := a.isLt
  have hb : b.val < 512 := b.isLt
  show warg m c _ = warg m c (ix2 _ _)
  congr 1
  funext d
  fin_cases d
  · refine Fin.ext ((Rect.emb_apply (wR i) _ 0).trans ?_)
    refine Eq.trans ?_ (Rect.emb_apply (fR i) (ix3 (⟨0, Nat.one_pos⟩ : Fin 1) a b) 1).symm
    rfl
  · refine Fin.ext ((Rect.emb_apply (wR i) _ 1).trans ?_)
    refine Eq.trans ?_ (congrArg (512 * i.val + ·) (Rect.emb_apply (fR i) (ix3 (⟨0, Nat.one_pos⟩ : Fin 1) a b) 2).symm)
    show 512 * i.val + 1 * b.val = 512 * i.val + (0 + 1 * b.val); omega

/-- The view a store of tile `i` of the product goes through. -/
theorem mem_oTile (i : Fin 16) (k : S128x8192.Idx) :
    k ∈ oSet i
      ↔ 512 * i.val ≤ (k 1).val ∧ (k 1).val < 512 * i.val + 512 := by
  have h0 : (k 0).val < 128 := (k 0).isLt
  rw [oSet_eq, Rect.mem_set_unit]
  constructor
  · intro h; exact h 1
  · intro h a
    fin_cases a
    · exact ⟨Nat.zero_le _, by show (k 0).val < 0 + 128; omega⟩
    · exact h

/-- Storing tile `i` of the product extends the columns that are done. -/
theorem store_y (c : Dev nD) (i : Fin 16) (f : Vec F S128x8192 .f32) (h : ∀ k, (k 1).val < 512 * i.val → f k = yAll m c k)
    (k : S128x8192.Idx) (hk : (k 1).val < 512 * (i.val + 1)) :
    ((oM : Memref sig .tc .vmem S128x8192 .f32).access (Rect.unit (s := S128x8192) ![0, 512 * i.val] S128x512.size (hotile i))).write (Elt F) f (ytile m c i) Finset.univ k
      = yAll m c k := by
  by_cases hm : 512 * i.val ≤ (k 1).val
  · refine write_on ((oM : Memref sig .tc .vmem S128x8192 .f32).access (oR i)) f (yAll m c) _ (fun x => ?_) k ((mem_oTile i k).mpr ⟨hm, by omega⟩)
    have h0 : (x 0).val < 128 := (x 0).isLt
    have h1 : (x 1).val < 512 := (x 1).isLt
    show ytile m c i x = ytile m c _ (ix2 _ _)
    have e0 : ((oR i).emb x 0).val = (x 0).val :=
      (Rect.emb_apply (oR i) x 0).trans (by show 0 + 1 * (x 0).val = _; omega)
    have e1 : ((oR i).emb x 1).val = 512 * i.val + (x 1).val :=
      (Rect.emb_apply (oR i) x 1).trans (by show 512 * i.val + 1 * (x 1).val = _; omega)
    congr 1
    · exact Fin.ext (by show i.val = ((oR i).emb x 1).val / 512; omega)
    · funext a
      fin_cases a
      · exact Fin.ext (by show (x 0).val = ((oR i).emb x 0).val; omega)
      · exact Fin.ext (by show (x 1).val = ((oR i).emb x 1).val % 512; omega)
  · rw [View.write_of_not_mem _ _ _ (fun hk' => hm ((mem_oTile i k).mp hk').1)]
    exact h k (by omega)

/-- The view the store of a device's maximum goes through. -/
abbrev aStoreV (d : Dev nD) : View sig .tc .vmem S1x8x128 .f32 :=
  (aM : Memref sig .tc .vmem S32x8x128 .f32).access (Rect.unit (s := S32x8x128) (k0_off6 d) S1x8x128.size (k0_off6_inb d))

theorem aStoreV_set (d : Dev nD) : (aStoreV d).set = aSet d := by
  refine (View.set_slice_whole cc0_scratch4 (Rect.unit (s := S32x8x128) (k0_off6 d) S1x8x128.size (k0_off6_inb d))).trans ?_
  rw [aSet_eq]
  ext k
  rw [Rect.mem_set_unit, Rect.mem_set_unit, k0_off6_eq]
  exact Iff.rfl

/-- Where a coordinate of the maxima sits in its device's row. -/
theorem amaxAll_row (d : Dev nD) (k : S32x8x128.Idx) (x : S1x8x128.Idx) (h0 : (k 0).val = d.val) (h1 : (k 1).val = (x 1).val)
    (h2 : (k 2).val = (x 2).val) : spread (lmax m d) x = amaxAll m k := by
  have hx : (x 0).val < 1 := (x 0).isLt
  have e : (⟨(k 0).val, (k 0).isLt⟩ : Fin 32) = d := Fin.ext h0
  have ex : x = ix3 (0 : Fin 1) (⟨(k 1).val, (k 1).isLt⟩ : Fin 8) (⟨(k 2).val, (k 2).isLt⟩ : Fin 128) := by
    funext a
    fin_cases a
    · exact Fin.ext (by show (x 0).val = 0; omega)
    · exact Fin.ext h1.symm
    · exact Fin.ext h2.symm
  unfold amaxAll
  rw [e, ← ex]

theorem aStoreV_emb (d : Dev nD) (x : S1x8x128.Idx) (a : Fin 3) : ((aStoreV d).emb x a).val = (![d.val, 0, 0] : Fin 3 → Nat) a + 1 * (x a).val := by
  refine (Rect.emb_apply (Rect.unit (s := S32x8x128) (k0_off6 d) S1x8x128.size (k0_off6_inb d)) x a).trans ?_
  show k0_off6 d a + 1 * (x a).val = _
  rw [k0_off6_eq]

/-- It leaves the device's row of the maxima. -/
theorem store_a (d : Dev nD) (f : Vec F S32x8x128 .f32) :
    ∀ k ∈ (aStoreV d).set, (aStoreV d).write (Elt F) f (spread (lmax m d)) Finset.univ k = amaxAll m k :=
  write_on (aStoreV d) f (amaxAll m) (spread (lmax m d)) fun x => by
    have h0 : (x 0).val < 1 := (x 0).isLt
    refine amaxAll_row m d ((aStoreV d).emb x) x ?_ ?_ ?_
    · rw [aStoreV_emb d x 0]; show d.val + 1 * (x 0).val = d.val; omega
    · rw [aStoreV_emb d x 1]; show 0 + 1 * (x 1).val = (x 1).val; omega
    · rw [aStoreV_emb d x 2]; show 0 + 1 * (x 2).val = (x 2).val; omega

end Cert.KernelIdeal.A2A

end
-- ==== Proof.Sched.lean ====
/- The protocol of the exchange. Each semaphore of each device is a cell; what each of its rounds counts, and what each
   payment into it hands over:

   * a device's barrier is paid one unit by each of the 31 others, who hand over their landing block for that device's rows
     and their landing row for its maximum;
   * the receive semaphore for device `j` is paid by `j`'s transfer, with the block landed; the send semaphore for `j` comes
     back with the block sent; likewise for the maxima;
   * the two slots' semaphores go eight rounds each, a tile of `w` a round. -/
module

public import proofs.«01_k».proof.Proof.Contents
public import proofs.«01_k».proof.Proof.Gen.KernelIdeal.Launch
public import Idealize.ShloMosaic.Lib.Rounds
public import Idealize.ShloMosaic.Lib.Rounds.Family
public import Idealize.ShloMosaic.Lib.Pipeline.Kit
public import Idealize.ShloMosaic.Lib.Tactic

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

/-! ## The resources -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The kernel's own semaphores: send, receive, send and receive of the maxima, the own copy, the two slots. -/
abbrev OK : Type := Dev nD ⊕ Dev nD ⊕ Dev nD ⊕ Dev nD ⊕ Unit ⊕ Fin 2
/-- Those and the barrier. -/
abbrev CK : Type := OK ⊕ Unit

abbrev kS (j : Dev nD) : OK := .inl j
abbrev kR (j : Dev nD) : OK := .inr (.inl j)
abbrev kAS (j : Dev nD) : OK := .inr (.inr (.inl j))
abbrev kAR (j : Dev nD) : OK := .inr (.inr (.inr (.inl j)))
abbrev kOwn : OK := .inr (.inr (.inr (.inr (.inl ()))))
abbrev kW (s : Fin 2) : OK := .inr (.inr (.inr (.inr (.inr s))))

abbrev dsem : OK → DmaSem sig
  | .inl j => sendSemAt j
  | .inr (.inl j) => recvSemAt j
  | .inr (.inr (.inl j)) => asendSemAt j
  | .inr (.inr (.inr (.inl j))) => arecvSemAt j
  | .inr (.inr (.inr (.inr (.inl _)))) => cc0_scratch7.sem
  | .inr (.inr (.inr (.inr (.inr s)))) => wSemAt (slot s)

abbrev osem (k : OK) : SemLoc sig := .dma (dsem k)

abbrev csem : CK → SemLoc sig
  | .inl k => osem k
  | .inr _ => .reg barS

theorem dsem_ge (k : OK) : 2 ≤ (dsem k).val := by
  rcases k with j | j | j | j | u | s
  · show 2 ≤ (sendSemAt j).val; rw [sendSemAt_val]; omega
  · show 2 ≤ (recvSemAt j).val; rw [recvSemAt_val]; omega
  · show 2 ≤ (asendSemAt j).val; rw [asendSemAt_val]; omega
  · show 2 ≤ (arecvSemAt j).val; rw [arecvSemAt_val]; omega
  · show 2 ≤ (cc0_scratch7.sem : DmaSem sig).val; rw [ownSem_val]; omega
  · show 2 ≤ (wSemAt (slot s)).val; rw [wSemAt_val]; omega

/-- A semaphore's number among the kernel's own. -/
def num : OK → ℕ
  | .inl j => 2 + j.val
  | .inr (.inl j) => 34 + j.val
  | .inr (.inr (.inl j)) => 67 + j.val
  | .inr (.inr (.inr (.inl j))) => 99 + j.val
  | .inr (.inr (.inr (.inr (.inl _)))) => 66
  | .inr (.inr (.inr (.inr (.inr s)))) => 131 + s.val % 2

theorem dsem_val (k : OK) : (dsem k).val = num k := by
  rcases k with j | j | j | j | u | s
  · exact sendSemAt_val j
  · exact recvSemAt_val j
  · exact asendSemAt_val j
  · exact arecvSemAt_val j
  · exact ownSem_val
  · exact wSemAt_val (slot s)

theorem num_injective : Function.Injective num := by
  have hd : ∀ j : Dev nD, j.val < 32 := fun j => j.isLt
  intro k k' h
  rcases k with j | j | j | j | u | s <;> rcases k' with j' | j' | j' | j' | u' | s' <;> simp only [num] at h <;>
    first
    | (have h1 := hd j; have h2 := hd j'; first | omega | (have e : j = j' := Fin.ext (by omega); rw [e]))
    | (have h1 := hd j; have h2 := s'.isLt; omega)
    | (have h1 := hd j; omega)
    | (have h1 := s.isLt; have h2 := hd j'; omega)
    | (have h1 := hd j'; omega)
    | (have h1 := s.isLt; have h2 := s'.isLt; have e : s = s' := Fin.ext (by omega); rw [e])
    | (have h1 := s.isLt; omega)
    | (have h1 := s'.isLt; omega)
    | rfl

theorem dsem_injective : Function.Injective dsem := fun k k' h =>
  num_injective (by rw [← dsem_val, ← dsem_val, h])

theorem csem_injective : Function.Injective csem := by
  intro k k' h
  rcases k with k | u <;> rcases k' with k' | u'
  · have h' : osem k = osem k' := h
    rw [dsem_injective (SemLoc.dma.inj h')]
  · exact absurd (show osem k = .reg barS from h) (fun h => by cases h)
  · exact absurd (show SemLoc.reg barS = osem k' from h) (fun h => by cases h)
  · rfl

abbrev cell (c : Dev nD) (k : CK) : GSem nD τ sig := ((c : Thread nD τ), csem k)
/-- An own semaphore's cell. -/
abbrev oc (c : Dev nD) (k : OK) : GSem nD τ sig := ((c : Thread nD τ), osem k)
abbrev barC (c : Dev nD) : GSem nD τ sig := ((c : Thread nD τ), .reg barS)

open Classical in
/-- Which of the cells a semaphore is. -/
def kindOf (s : SemLoc sig) : Option CK := if h : ∃ k, csem k = s then some h.choose else none

theorem kindOf_csem (k : CK) : kindOf (csem k) = some k := by
  unfold kindOf
  rw [dif_pos ⟨k, rfl⟩]
  exact congrArg some (csem_injective (Exists.choose_spec (⟨k, rfl⟩ : ∃ k', csem k' = csem k)))

theorem kindOf_none (s : SemLoc sig) (h : ∀ k, csem k ≠ s) : kindOf s = none := by
  unfold kindOf
  rw [dif_neg (fun ⟨k, hk⟩ => h k hk)]

/-! ## What is held -/

/-- Device `c`'s block of the gathered rows for device `j`. -/
def gPts (c j : Dev nD) (f : Vec F S128x4096 .bf16) : sProp 𝕄 :=
  (gAt j).view.loc (c : Thread nD τ) ↦[(gAt j).view.set]{fullShare} f
/-- Device `c`'s block of rounded rows for device `j`. -/
def hPts (c j : Dev nD) (f : Vec F S4096x128 .bf16) : sProp 𝕄 :=
  (hAt j).view.loc (c : Thread nD τ) ↦[(hAt j).view.set]{fullShare} f
/-- Device `c`'s row for the maximum of device `j`. -/
def aPts (c j : Dev nD) (q : PosShare TreeShare) (f : Vec F S32x8x128 .f32) : sProp 𝕄 :=
  (aAt j).view.loc (c : Thread nD τ) ↦[(aAt j).view.set]{q} f
/-- Device `c`'s slot for tile `i`. -/
def fPts (c : Dev nD) (i : Fin 16) (f : Vec F S2x4096x512 .f32) : sProp 𝕄 :=
  (fAt i).view.loc (c : Thread nD τ) ↦[(fAt i).view.set]{fullShare} f
/-- Device `c`'s tile `i` of `w`. -/
def wPts (c : Dev nD) (i : Fin 16) : sProp 𝕄 :=
  (wAt i).view.loc (c : Thread nD τ) ↦[(wAt i).view.set]{fullShare} warg m c

/-- The share of its own row a device lends the transfer to device `j`. -/
abbrev aShare (j : Dev nD) : PosShare TreeShare := dealOf fullShare (Finset.univ : Finset (Dev nD)) j

/-- What device `j` lends device `c` when it has entered: the landing places of `c`'s rows and maximum. -/
def lend (c j : Dev nD) : sProp 𝕄 := iprop((∃ f, gPts (F := F) j c f) ∗ (∃ f, aPts (F := F) j c fullShare f))

/-- The tile a slot's round brings. -/
abbrev tileOf (s : Fin 2) (r : ℕ) : Fin 16 := ⟨(2 * r + s.val) % 16, Nat.mod_lt _ (by decide)⟩

/-! ## The schedule -/

def kduties (c : Dev nD) : CK → ℕ → Finset (Dev nD)
  | .inr _, r => if r = 0 then Finset.univ.erase c else ∅
  | .inl (.inl j), r => if r = 0 ∧ j ≠ c then {0} else ∅
  | .inl (.inr (.inl j)), r => if r = 0 ∧ j ≠ c then {0} else ∅
  | .inl (.inr (.inr (.inl j))), r => if r = 0 ∧ j ≠ c then {0} else ∅
  | .inl (.inr (.inr (.inr (.inl j)))), r => if r = 0 ∧ j ≠ c then {0} else ∅
  | .inl (.inr (.inr (.inr (.inr (.inl _))))), r => if r = 0 then {0} else ∅
  | .inl (.inr (.inr (.inr (.inr (.inr _))))), r => if r < 8 then {0} else ∅

def kamount : CK → ℕ
  | .inr _ => 1
  | .inl (.inl _) => NX
  | .inl (.inr (.inl _)) => NX
  | .inl (.inr (.inr (.inl _))) => NA
  | .inl (.inr (.inr (.inr (.inl _)))) => NA
  | .inl (.inr (.inr (.inr (.inr (.inl _))))) => NX
  | .inl (.inr (.inr (.inr (.inr (.inr _))))) => NW

def kpay (c : Dev nD) : CK → ℕ → Dev nD → sProp 𝕄
  | .inr _, _, d => lend c d
  | .inl (.inl j), _, _ => hPts c j (x16 m c)
  | .inl (.inr (.inl j)), _, _ => gPts c j (gat m c)
  | .inl (.inr (.inr (.inl j))), _, _ => aPts c c (aShare j) (amaxAll m)
  | .inl (.inr (.inr (.inr (.inl j)))), _, _ => aPts c j fullShare (amaxAll m)
  | .inl (.inr (.inr (.inr (.inr (.inl _))))), _, _ => iprop(gPts c c (gat m c) ∗ hPts c c (x16 m c))
  | .inl (.inr (.inr (.inr (.inr (.inr s))))), r, _ => iprop(fPts c (tileOf s r) (ftile m c (tileOf s r)) ∗ wPts m c (tileOf s r))

theorem kamount_pos (k : CK) : 0 < kamount k := by
  rcases k with (j | j | j | j | u | s) | u
  · exact NX_pos
  · exact NX_pos
  · exact NA_pos
  · exact NA_pos
  · exact NX_pos
  · exact NW_pos
  · exact Nat.one_pos

def Rd : Rounds.Schedule (GSem nD τ sig) (Dev nD) 𝕄 where
  duties g r := match kindOf g.2 with
    | some k => kduties g.1.1 k r
    | none => ∅
  unitless _ := False
  amount g _ _ := match kindOf g.2 with
    | some k => kamount k
    | none => 1
  payload g r d := match kindOf g.2 with
    | some k => kpay m g.1.1 k r d
    | none => iprop(emp)
  amount_pos g _ _ _ := by
    rcases kindOf g.2 with _ | k
    · exact Nat.one_pos
    · exact kamount_pos k

instance kpay_storable (c : Dev nD) (k : CK) (r : ℕ) (d : Dev nD) : BI.Storable (upEmb : UEmb _ 𝕄) (kpay m c k r d) := by
  rcases k with (j | j | j | j | u | s) | u <;> unfold kpay <;> dsimp only <;>
    (try unfold lend) <;> (try unfold gPts) <;> (try unfold hPts) <;> (try unfold aPts) <;> (try unfold fPts) <;> (try unfold wPts) <;> infer_instance

instance Rd_storable (g : GSem nD τ sig) (r : ℕ) (d : Dev nD) : BI.Storable (upEmb : UEmb _ 𝕄) ((Rd m).payload g r d) := by
  show BI.Storable upEmb (match kindOf g.2 with | some k => kpay m g.1.1 k r d | none => iprop(emp))
  rcases kindOf g.2 with _ | k <;> dsimp only <;> infer_instance

theorem Rd_duties (c : Dev nD) (k : CK) (r : ℕ) : (Rd m).duties (cell c k) r = kduties c k r := by
  show (match kindOf (csem k) with | some k => kduties c k r | none => ∅) = _
  rw [kindOf_csem]
theorem Rd_amount (c : Dev nD) (k : CK) (r : ℕ) (d : Dev nD) : (Rd m).amount (cell c k) r d = kamount k := by
  show (match kindOf (csem k) with | some k => kamount k | none => 1) = _
  rw [kindOf_csem]
theorem Rd_payload (c : Dev nD) (k : CK) (r : ℕ) (d : Dev nD) : (Rd m).payload (cell c k) r d = kpay m c k r d := by
  show (match kindOf (csem k) with | some k => kpay m c k r d | none => iprop(emp)) = _
  rw [kindOf_csem]

theorem Rd_expect (c : Dev nD) (k : CK) (r : ℕ) : (Rd m).expect (cell c k) r = (kduties c k r).card * kamount k := by
  unfold Schedule.expect Schedule.amountOf
  rw [Rd_duties, Finset.sum_congr rfl fun d _ => Rd_amount m c k r d, Finset.sum_const, smul_eq_mul]

theorem Rd_expect_one (c : Dev nD) (k : CK) (r : ℕ) (h : kduties c k r = {0}) : (Rd m).expect (cell c k) r = kamount k := by
  rw [Rd_expect, h, Finset.card_singleton, Nat.one_mul]

theorem Rd_expect_bar (c : Dev nD) : (Rd m).expect (barC c) 0 = 31 := by
  refine (Rd_expect m c (.inr ()) 0).trans ?_
  show (if (0 : ℕ) = 0 then Finset.univ.erase c else ∅).card * 1 = 31
  rw [if_pos rfl, Finset.card_erase_of_mem (Finset.mem_univ _)]
  rfl

/-- The round after a cell's last. -/
def kend (c : Dev nD) : CK → ℕ
  | .inr _ => 1
  | .inl (.inl j) => if j = c then 0 else 1
  | .inl (.inr (.inl j)) => if j = c then 0 else 1
  | .inl (.inr (.inr (.inl j))) => if j = c then 0 else 1
  | .inl (.inr (.inr (.inr (.inl j)))) => if j = c then 0 else 1
  | .inl (.inr (.inr (.inr (.inr (.inl _))))) => 1
  | .inl (.inr (.inr (.inr (.inr (.inr _))))) => 8

theorem kduties_end (c : Dev nD) (k : CK) (r : ℕ) (h : kend c k ≤ r) : kduties c k r = ∅ := by
  have hj : ∀ j : Dev nD, (if j = c then 0 else 1) ≤ r → ¬ (r = 0 ∧ j ≠ c) := fun j hr ⟨h0, hn⟩ => by
    rw [if_neg hn] at hr; omega
  rcases k with (j | j | j | j | u | s) | u
  · exact if_neg (hj j h)
  · exact if_neg (hj j h)
  · exact if_neg (hj j h)
  · exact if_neg (hj j h)
  · exact if_neg (by have : 1 ≤ r := h; omega)
  · exact if_neg (by have : 8 ≤ r := h; omega)
  · exact if_neg (by have : 1 ≤ r := h; omega)

/-! ## What is owed -/

/-- The indices from `n` on. -/
abbrev fromN (N n : ℕ) : Finset (Fin N) := Finset.univ.filter fun t => n ≤ t.val

theorem fromN_zero (N : ℕ) : fromN N 0 = Finset.univ := Finset.filter_true_of_mem fun _ _ => Nat.zero_le _
theorem fromN_end (N : ℕ) : fromN N N = ∅ := Finset.filter_false_of_mem fun t _ => by have := t.isLt; omega
theorem fromN_insert {N n : ℕ} (h : n < N) : fromN N n = insert (⟨n, h⟩ : Fin N) (fromN N (n + 1)) := by
  ext t
  simp only [Finset.mem_filter, Finset.mem_univ, true_and, Finset.mem_insert, Fin.ext_iff]
  omega
theorem fromN_notMem {N n : ℕ} (h : n < N) : (⟨n, h⟩ : Fin N) ∉ fromN N (n + 1) := by
  simp only [Finset.mem_filter, Finset.mem_univ, true_and]
  omega

/-- What is owed to the cells `g t`, `t ≥ n`. -/
def tal (g : Fin 31 → GSem nD τ sig) (N n : ℕ) : CellTallies nD τ sig Unit := ∑ t ∈ fromN 31 n, tallyAt (g t) () N

theorem tal_succ (g : Fin 31 → GSem nD τ sig) (N : ℕ) (t : Fin 31) : tal g N t.val = tal g N (t.val + 1) + tallyAt (g t) () N := by
  unfold tal
  rw [fromN_insert t.isLt, Finset.sum_insert (fromN_notMem t.isLt), add_comm]
theorem tal_end (g : Fin 31 → GSem nD τ sig) (N : ℕ) : tal g N 31 = 0 := by
  unfold tal
  rw [fromN_end, Finset.sum_empty]

theorem tal_pos {g : Fin 31 → GSem nD τ sig} {N n : ℕ} {g' : GSem nD τ sig} {u : Unit} (h : 0 < tal g N n g' u) : ∃ t, g' = g t := by
  unfold tal at h
  rw [Finset.sum_apply, Finsupp.finset_sum_apply] at h
  obtain ⟨t, -, ht⟩ := Finset.exists_ne_zero_of_sum_ne_zero (Nat.pos_iff_ne_zero.mp h)
  refine ⟨t, ?_⟩
  by_contra hn
  rw [tallyAt_apply, if_neg (fun h' => hn h'.1)] at ht
  exact ht rfl

abbrev owB (c : Dev nD) : ℕ → CellTallies nD τ sig Unit := tal (fun t => barC (peer c t)) 1
abbrev owR (c : Dev nD) : ℕ → CellTallies nD τ sig Unit := tal (fun t => oc (peer c t) (kR c)) NX
abbrev owA (c : Dev nD) : ℕ → CellTallies nD τ sig Unit := tal (fun t => oc (peer c t) (kAR c)) NA
/-- What device `c` owes at launch: a unit to each peer's barrier, its rows, its maximum. -/
def O₀ (c : Dev nD) : CellTallies nD τ sig Unit := owB c 0 + (owR c 0 + owA c 0)

/-! ## The levels -/

/-- Barriers below the rows' landings below the maxima's landings. -/
def klv : CK → ℕ
  | .inr _ => 1
  | .inl (.inr (.inl _)) => 2
  | .inl (.inr (.inr (.inr (.inl _)))) => 3
  | _ => 0

def lv (g : GSem nD τ sig) (_ : Unit) : ℕ := match kindOf g.2 with
  | some k => klv k
  | none => 0

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (k : CK) (u : Unit) : lv (cell c k) u = klv k := by
  show (match kindOf (csem k) with | some k => klv k | none => 0) = _
  rw [kindOf_csem]

omit [FloatOps F] in
/-- A wait below everything owed. -/
theorem mayWait (c : Dev nD) (sm : SemLoc sig) (n : ℕ) (hsm : lv ((c : Thread nD τ), sm) () ≤ n) (O : CellTallies nD τ sig Unit)
    (hO : ∀ g u, 0 < O g u → ∃ (d : Dev nD) (k : CK), g = cell d k ∧ n < klv k) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact hsm)
    (fun g u hg => by obtain ⟨d, k, rfl, hk⟩ := hO g u hg; rw [lv_cell]; exact hk)

theorem pos_A {c : Dev nD} {n a : ℕ} (ha : a < 3) (g : GSem nD τ sig) (u : Unit) (h : 0 < owA c n g u) :
    ∃ (d : Dev nD) (k : CK), g = cell d k ∧ a < klv k := by
  obtain ⟨t, rfl⟩ := tal_pos h
  exact ⟨peer c t, .inl (kAR c), rfl, ha⟩
theorem pos_RA {c : Dev nD} {n n' a : ℕ} (ha : a < 2) (g : GSem nD τ sig) (u : Unit) (h : 0 < (owR c n + owA c n') g u) :
    ∃ (d : Dev nD) (k : CK), g = cell d k ∧ a < klv k := by
  rw [Pi.add_apply, Finsupp.add_apply] at h
  rcases Nat.eq_zero_or_pos (owR c n g u) with h0 | h0
  · exact pos_A (by omega) g u (by rwa [h0, Nat.zero_add] at h)
  · obtain ⟨t, rfl⟩ := tal_pos h0
    exact ⟨peer c t, .inl (kR c), rfl, ha⟩
theorem pos_O₀ {c : Dev nD} (g : GSem nD τ sig) (u : Unit) (h : 0 < O₀ c g u) :
    ∃ (d : Dev nD) (k : CK), g = cell d k ∧ 0 < klv k := by
  unfold O₀ at h
  rw [Pi.add_apply, Finsupp.add_apply] at h
  rcases Nat.eq_zero_or_pos (owB c 0 g u) with h0 | h0
  · exact pos_RA (n := 0) (n' := 0) (by omega) g u (by rwa [h0, Nat.zero_add] at h)
  · obtain ⟨t, rfl⟩ := tal_pos h0
    exact ⟨peer c t, .inr (), rfl, Nat.one_pos⟩

/-! ## The names of the invariants -/

/-- Every cell's invariant, that it has begun, and the levels: what every device knows. -/
def recs (K : Dev nD × CK → ℕ) : sProp 𝕄 :=
  iprop((bigSep Finset.univ fun ck : Dev nD × CK => cellInv ER (Rd m) (K ck) (cell ck.1 ck.2))
    ∗ (bigSep Finset.univ fun ck : Dev nD × CK => reached ER (cell ck.1 ck.2) 0) ∗ (levAts L lv : sProp 𝕄))

instance : DecidableEq CK := instDecidableEqSum

instance recs_persistent (K : Dev nD × CK → ℕ) : BI.Persistent (recs m K) := by unfold recs; infer_instance

theorem inv_at (K : Dev nD × CK → ℕ) (ck : Dev nD × CK) :
    (bigSep Finset.univ fun ck : Dev nD × CK => (cellInv ER (Rd m) (K ck) (cell ck.1 ck.2) : sProp 𝕄)) ⊢ cellInv ER (Rd m) (K ck) (cell ck.1 ck.2) :=
  bigSep_elim (Finset.mem_univ ck)
omit [FloatOps F] in
theorem reached_at (ck : Dev nD × CK) :
    (bigSep Finset.univ fun ck : Dev nD × CK => (reached ER (cell ck.1 ck.2) 0 : sProp 𝕄)) ⊢ reached ER (cell ck.1 ck.2) 0 :=
  bigSep_elim (Finset.mem_univ ck)

theorem recs_inv (K : Dev nD × CK → ℕ) (c : Dev nD) (k : CK) : recs m K ⊢ cellInv ER (Rd m) (K (c, k)) (cell c k) := by
  unfold recs
  iintro ⟨H, -, -⟩
  iapply (inv_at m K (c, k)); iexact H
theorem recs_reached (K : Dev nD × CK → ℕ) (c : Dev nD) (k : CK) : recs m K ⊢ reached ER (cell c k) 0 := by
  unfold recs
  iintro ⟨-, H, -⟩
  iapply (reached_at (F := F) (c, k)); iexact H
/-- The device owes `O`. -/
def ow (c : Dev nD) (O : CellTallies nD τ sig Unit) : sProp 𝕄 := iprop(∃ W, owes (c : Thread nD τ) O W)

end Cert.KernelIdeal.A2A

end
-- ==== Proof.Steps.lean ====
/- The kernel's steps, one rule each: what a step takes and what it gives back. -/
module

public import proofs.«01_k».proof.Proof.Sched

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ)

abbrev 𝒱₀ : Variants := Variants.none

/-- What device `c` needs to run `p`. -/
abbrev WP (c : Dev nD) {α : Type} (p : P F α) (Q : α → sProp 𝕄) : sProp 𝕄 :=
  wp frame (wpE (defs₀ (F := F)) 𝒱₀ (c : Thread nD τ) none) Set.univ p Q

variable {α : Type}

/-! ## Loops -/

theorem wp_stepsFrom {Q : α → sProp 𝕄} (c : Dev nD) {n : ℕ} (f : Fin n → P F α → P F α) (k : P F α) (Inv : ℕ → sProp 𝕄) (A B : Fin n → sProp 𝕄)
    (h : ∀ (i : Fin n) (k' : P F α), iprop(Inv i.val ∗ A i) ⊢ iprop(((Inv (i.val + 1) ∗ B i) -∗ WP c k' Q) -∗ WP c (f i k') Q)) :
    ∀ (r : ℕ) (hr : r ≤ n), iprop(Inv (n - r) ∗ bigSep (fromN n (n - r)) A)
      ⊢ iprop(((Inv n ∗ bigSep (fromN n (n - r)) B) -∗ WP c k Q) -∗ WP c (stepsFrom n f k r hr) Q) := by
  intro r
  induction r with
  | zero =>
    intro hr
    rw [Nat.sub_zero, fromN_end]
    show iprop(Inv n ∗ bigSep ∅ A) ⊢ iprop(((Inv n ∗ bigSep ∅ B) -∗ WP c k Q) -∗ WP c k Q)
    iintro ⟨HI, -⟩ Hk
    iapply Hk
    isplitl [HI]; · iexact HI
    iapply (Entails.of_eq (bigSep_empty (Φ := B)).symm)
    iempintro
  | succ r ih =>
    intro hr
    have hlt : n - (r + 1) < n := by omega
    have e : n - (r + 1) + 1 = n - r := by omega
    have hA : bigSep (fromN n (n - (r + 1))) A = iprop(A ⟨n - (r + 1), hlt⟩ ∗ bigSep (fromN n (n - r)) A) := by
      rw [fromN_insert hlt, bigSep_insert (fromN_notMem hlt), e]; rfl
    have hB : bigSep (fromN n (n - (r + 1))) B = iprop(B ⟨n - (r + 1), hlt⟩ ∗ bigSep (fromN n (n - r)) B) := by
      rw [fromN_insert hlt, bigSep_insert (fromN_notMem hlt), e]; rfl
    rw [hA, hB]
    show _ ⊢ iprop(_ -∗ WP c (f ⟨n - (r + 1), hlt⟩ (stepsFrom n f k r (by omega))) Q)
    iintro ⟨HI, HA, HAs⟩ Hk
    iapply (h ⟨n - (r + 1), hlt⟩ _) $$ [HI HA]
    · isplitl [HI] <;> iassumption
    iintro ⟨HI, HB⟩
    ihave HI' := (Entails.of_eq (congrArg Inv e)) $$ HI
    iapply (ih (Nat.le_of_succ_le hr)) $$ [HI' HAs]
    · isplitl [HI'] <;> iassumption
    iintro ⟨HI, HBs⟩
    iapply Hk
    isplitl [HI]; · iexact HI
    isplitl [HB] <;> iassumption

/-- A loop of `n` steps, each taking an invariant and `A i` to the next and `B i`. -/
theorem wp_steps {Q : α → sProp 𝕄} (c : Dev nD) {n : ℕ} (f : Fin n → P F α → P F α) (k : P F α) (Inv : ℕ → sProp 𝕄) (A B : Fin n → sProp 𝕄)
    (h : ∀ (i : Fin n) (k' : P F α), iprop(Inv i.val ∗ A i) ⊢ iprop(((Inv (i.val + 1) ∗ B i) -∗ WP c k' Q) -∗ WP c (f i k') Q)) :
    iprop(Inv 0 ∗ bigSep Finset.univ A)
      ⊢ iprop(((Inv n ∗ bigSep Finset.univ B) -∗ WP c k Q) -∗ WP c (stepsFrom n f k n (Nat.le_refl _)) Q) := by
  have := wp_stepsFrom (Q := Q) c f k Inv A B h n (Nat.le_refl _)
  rwa [Nat.sub_self, fromN_zero] at this

theorem wp_loopFrom {Q : α → sProp 𝕄} (c : Dev nD) {n : ℕ} {V : Type} (f : Fin n → V → (V → P F α) → P F α) (k : V → P F α) (val : ℕ → V)
    (Inv : ℕ → sProp 𝕄) (A B : Fin n → sProp 𝕄)
    (h : ∀ (i : Fin n) (k' : V → P F α), iprop(Inv i.val ∗ A i)
      ⊢ iprop(((Inv (i.val + 1) ∗ B i) -∗ WP c (k' (val (i.val + 1))) Q) -∗ WP c (f i (val i.val) k') Q)) :
    ∀ (r : ℕ) (hr : r ≤ n), iprop(Inv (n - r) ∗ bigSep (fromN n (n - r)) A)
      ⊢ iprop(((Inv n ∗ bigSep (fromN n (n - r)) B) -∗ WP c (k (val n)) Q) -∗ WP c (loopFrom n f k r hr (val (n - r))) Q) := by
  intro r
  induction r with
  | zero =>
    intro hr
    rw [Nat.sub_zero, fromN_end]
    show iprop(Inv n ∗ bigSep ∅ A) ⊢ iprop(((Inv n ∗ bigSep ∅ B) -∗ WP c (k (val n)) Q) -∗ WP c (k (val n)) Q)
    iintro ⟨HI, -⟩ Hk
    iapply Hk
    isplitl [HI]; · iexact HI
    iapply (Entails.of_eq (bigSep_empty (Φ := B)).symm)
    iempintro
  | succ r ih =>
    intro hr
    have hlt : n - (r + 1) < n := by omega
    have e : n - (r + 1) + 1 = n - r := by omega
    have hA : bigSep (fromN n (n - (r + 1))) A = iprop(A ⟨n - (r + 1), hlt⟩ ∗ bigSep (fromN n (n - r)) A) := by
      rw [fromN_insert hlt, bigSep_insert (fromN_notMem hlt), e]; rfl
    have hB : bigSep (fromN n (n - (r + 1))) B = iprop(B ⟨n - (r + 1), hlt⟩ ∗ bigSep (fromN n (n - r)) B) := by
      rw [fromN_insert hlt, bigSep_insert (fromN_notMem hlt), e]; rfl
    have h' := h ⟨n - (r + 1), hlt⟩ (fun v => loopFrom n f k r (by omega) v)
    dsimp only at h'
    rw [e] at h'
    rw [hA, hB]
    show _ ⊢ iprop(_ -∗ WP c (f ⟨n - (r + 1), hlt⟩ (val (n - (r + 1))) (fun v => loopFrom n f k r (by omega) v)) Q)
    iintro ⟨HI, HA, HAs⟩ Hk
    iapply h' $$ [HI HA]
    · isplitl [HI] <;> iassumption
    iintro ⟨HI, HB⟩
    iapply (ih (Nat.le_of_succ_le hr)) $$ [HI HAs]
    · isplitl [HI] <;> iassumption
    iintro ⟨HI, HBs⟩
    iapply Hk
    isplitl [HI]; · iexact HI
    isplitl [HB] <;> iassumption

/-- The same with a value carried, which is `val i` before step `i`. -/
theorem wp_loop {Q : α → sProp 𝕄} (c : Dev nD) {n : ℕ} {V : Type} (f : Fin n → V → (V → P F α) → P F α) (k : V → P F α) (val : ℕ → V)
    (Inv : ℕ → sProp 𝕄) (A B : Fin n → sProp 𝕄)
    (h : ∀ (i : Fin n) (k' : V → P F α), iprop(Inv i.val ∗ A i)
      ⊢ iprop(((Inv (i.val + 1) ∗ B i) -∗ WP c (k' (val (i.val + 1))) Q) -∗ WP c (f i (val i.val) k') Q)) :
    iprop(Inv 0 ∗ bigSep Finset.univ A)
      ⊢ iprop(((Inv n ∗ bigSep Finset.univ B) -∗ WP c (k (val n)) Q) -∗ WP c (loopFrom n f k n (Nat.le_refl _) (val 0)) Q) := by
  have := wp_loopFrom (Q := Q) c f k val Inv A B h n (Nat.le_refl _)
  rwa [Nat.sub_self, fromN_zero] at this

/-! ## Waits -/

variable (K : Dev nD × CK → ℕ)

theorem recs_may (c : Dev nD) (k : CK) (O : CellTallies nD τ sig Unit)
    (hO : ∀ g u, 0 < O g u → ∃ (d : Dev nD) (k' : CK), g = cell d k' ∧ klv k < klv k') :
    recs m K ⊢ MayWait (c : Thread nD τ) (csem k) () O := by
  unfold recs
  iintro ⟨-, -, H⟩
  iapply (mayWait (F := F) c (csem k) (klv k) (le_of_eq (lv_cell c k ())) O hO)
  iexact H

theorem rest_one (c : Dev nD) (k : CK) (r : ℕ) (hd : kduties c k r = {0}) :
    bigSep ((Rd m).duties (cell c k) r \ ∅) (fun d => (Rd m).payload (cell c k) r d) = kpay m c k r 0 := by
  rw [Finset.sdiff_empty, Rd_duties, hd, bigSep_singleton, Rd_payload]

/-- A wait for a round of one of the kernel's own cells: its payload. -/
theorem wp_wait {Q : α → sProp 𝕄} (c : Dev nD) (k : OK) (r : ℕ) (hd : kduties c (.inl k) r = {0}) (O : CellTallies nD τ sig Unit)
    (hO : ∀ g u, 0 < O g u → ∃ (d : Dev nD) (k' : CK), g = cell d k' ∧ klv (.inl k) < klv k')
    {s s' : Shape} {e e' : EltTy} {sp sp' : Space} {src : Memref sig .tc sp s e} {dst : Memref sig .tc sp' s' e'} {sm : DmaSem sig}
    {h₁ : src.view.WordExact} {h₂ : dst.view.WordExact}
    (hs : sm = dsem k) (N : ℕ) (hN : dst.view.dmaCredit = N) (hk : kamount (.inl k) = N) (R : sProp 𝕄) (hR : kpay m c (.inl k) r 0 = R) (k' : P F α) :
    iprop(recs m K ∗ ow c O ∗ cred (tallyAt (oc c k) () N) ∗ atPos ER (oc c k) r ∅ 0)
      ⊢ iprop(((ow c O ∗ atPos ER (oc c k) (r + 1) ∅ 0 ∗ reached ER (oc c k) (r + 1) ∗ R) -∗ WP c k' Q)
        -∗ WP c (.op (.waitDma2 sm src dst h₁ h₂) (fun _ => k')) Q) := by
  subst hs hR hN
  unfold ow
  iintro ⟨#HR, ⟨%W, HO⟩, Hc, Hat⟩ Hk
  iapply (Rounds.wp_wait_rest_token 𝒱₀ ER (Rd m) (c : Thread nD τ) none (κ := K (c, .inl k))
      (wpE_waitDma2_eq 𝒱₀ (c : Thread nD τ) none Set.univ) (Set.mem_univ _) () (O := O) (W := W) (R := r) (m := 0) (T := ∅)
      (by rw [Nat.zero_add]; exact hk.symm.trans (Rd_expect_one m c (.inl k) r hd).symm)) $$ [HO Hc Hat]
  · isplitr; · iapply (recs_inv m K c (.inl k)); iexact HR
    isplitl [Hc]; · iexact Hc
    isplitl [HO]; · iexact HO
    isplitr
    · iapply (recs_may m K c (.inl k) O hO); iexact HR
    iexact Hat
  iintro ⟨HO, Hat, Hr, Hp⟩
  iapply Hk
  isplitl [HO]; · iexists _; iexact HO
  isplitl [Hat]; · iexact Hat
  isplitl [Hr]; · iexact Hr
  ihave Hp' := (Entails.of_eq (rest_one m c (.inl k) r hd)) $$ Hp
  iexact Hp'

end Cert.KernelIdeal.A2A

end
-- ==== Proof.Rules.lean ====
/- The rules of the kernel's steps that signal, wait and transfer. -/
module

public import proofs.«01_k».proof.Proof.Steps

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ) (K : Dev nD × CK → ℕ)
variable {α : Type}

/-! ## The duties of each cell -/

theorem du_own (c : Dev nD) : kduties c (.inl kOwn) 0 = {0} := by
  show (if (0 : ℕ) = 0 then ({0} : Finset (Dev nD)) else ∅) = {0}
  exact if_pos rfl
theorem du_S {c j : Dev nD} (h : j ≠ c) : kduties c (.inl (kS j)) 0 = {0} := if_pos ⟨rfl, h⟩
theorem du_R {c j : Dev nD} (h : j ≠ c) : kduties c (.inl (kR j)) 0 = {0} := if_pos ⟨rfl, h⟩
theorem du_AS {c j : Dev nD} (h : j ≠ c) : kduties c (.inl (kAS j)) 0 = {0} := if_pos ⟨rfl, h⟩
theorem du_AR {c j : Dev nD} (h : j ≠ c) : kduties c (.inl (kAR j)) 0 = {0} := if_pos ⟨rfl, h⟩
theorem du_W (c : Dev nD) (s : Fin 2) {r : ℕ} (h : r < 8) : kduties c (.inl (kW s)) r = {0} := if_pos h

theorem du_bar (c : Dev nD) : kduties c (.inr ()) 0 = Finset.univ.erase c := by
  show (if (0 : ℕ) = 0 then Finset.univ.erase c else ∅) = _
  exact if_pos rfl

theorem mem_du (c : Dev nD) (k : CK) (r : ℕ) (h : kduties c k r = {0}) : (0 : Dev nD) ∈ (Rd m).duties (cell c k) r := by
  rw [Rd_duties, h]; exact Finset.mem_singleton_self _

/-! ## The barrier -/

theorem pay_bar (c j : Dev nD) : (Rd m).payload (barC c) 0 j = lend c j := Rd_payload m c (.inr ()) 0 j

theorem wp_sig {Q : α → sProp 𝕄} (c : Dev nD) (O : CellTallies nD τ sig Unit) (t : Fin 31) (k' : P F α) :
    iprop((recs m K ∗ ow c (owB c t.val + O)) ∗ (dutyTok ER (barC (peer c t)) 0 c ∗ lend (F := F) (peer c t) c))
      ⊢ iprop((((recs m K ∗ ow c (owB c (t.val + 1) + O)) ∗ emp) -∗ WP c k' Q) -∗ WP c (sigStep c t k') Q) := by
  unfold sigStep ow
  iintro ⟨⟨#HR, ⟨%W, HO⟩⟩, Ht, Hl⟩ Hk
  iapply (Rounds.wp_signal 𝒱₀ ER (Rd m) (c : Thread nD τ) none (dst := (peer c t : Thread nD τ)) (κ := K (peer c t, .inr ()))
      (d := c) (by rw [Rd_duties m (peer c t) (.inr ()), du_bar]; exact Finset.mem_erase.mpr ⟨(peer_ne c t).symm, Finset.mem_univ _⟩)
      (show (Rd m).amount (barC (peer c t)) 0 c = 1 from Rd_amount m (peer c t) (.inr ()) 0 c) () (owB c (t.val + 1) + O)
      (show owB c t.val + O = owB c (t.val + 1) + O + tallyAt (barC (peer c t)) () 1 by rw [show owB c t.val = _ from tal_succ _ 1 t, add_right_comm]))
    $$ [HO Ht Hl]
  · isplitr; · iapply (recs_inv m K (peer c t) (.inr ())); iexact HR
    isplitl [HO]; · iexact HO
    isplitl [Ht]; · iexact Ht
    isplitl [Hl]; · iapply (Entails.of_eq (pay_bar m (peer c t) c).symm); iexact Hl
    iapply (recs_reached m K (peer c t) (.inr ())); iexact HR
  iintro HO
  iapply Hk
  isplitl [HO]
  · isplitr; · iexact HR
    iexists W; iexact HO
  iempintro

theorem bar_rest (c : Dev nD) :
    bigSep ((Rd m).duties (barC c) 0 \ ∅) (fun d => (Rd m).payload (barC c) 0 d) = bigSep Finset.univ (fun t => lend (F := F) c (peer c t)) := by
  rw [Finset.sdiff_empty, show (Rd m).duties (barC c) 0 = Finset.univ.erase c from (Rd_duties m c (.inr ()) 0).trans (du_bar c), erase_eq_map, bigSep_map]
  exact bigSep_congr fun t _ => Rd_payload m c (.inr ()) 0 _

theorem wp_bar {Q : α → sProp 𝕄} (c : Dev nD) (k' : P F α) :
    iprop(recs m K ∗ ow c (owR c 0 + owA c 0) ∗ cred (tallyAt (barC c) () 31) ∗ atPos ER (barC c) 0 ∅ 0)
      ⊢ iprop(((ow c (owR c 0 + owA c 0) ∗ atPos ER (barC c) 1 ∅ 0 ∗ bigSep Finset.univ (fun t => lend (F := F) c (peer c t))) -∗ WP c k' Q)
        -∗ WP c (barWait k') Q) := by
  unfold barWait ow
  iintro ⟨#HR, ⟨%W, HO⟩, Hc, Hat⟩ Hk
  iapply (Rounds.wp_wait_rest_token 𝒱₀ ER (Rd m) (c : Thread nD τ) none (κ := K (c, .inr ()))
      (wpE_semWait_eq 𝒱₀ (c : Thread nD τ) none Set.univ) (Set.mem_univ _) () (O := owR c 0 + owA c 0) (W := W) (R := 0) (m := 0) (T := ∅)
      ((Rd_expect_bar m c).symm)) $$ [HO Hc Hat]
  · isplitr; · iapply (recs_inv m K c (.inr ())); iexact HR
    isplitl [Hc]; · iexact Hc
    isplitl [HO]; · iexact HO
    isplitr
    · iapply (recs_may m K c (.inr ()) (owR c 0 + owA c 0) (pos_RA (a := 1) (by decide))); iexact HR
    iexact Hat
  iintro ⟨HO, Hat, -, Hp⟩
  ihave Hp' := (Entails.of_eq (bar_rest m c)) $$ Hp
  iapply Hk
  isplitl [HO]; · iexists _; iexact HO
  isplitl [Hat] <;> iassumption

/-! ## Transfers -/

/-- A transfer to a peer: the source goes to this device's send cell, the landing to the peer's receive cell. -/
theorem wp_sendTo {Q : α → sProp 𝕄} (c p : Dev nD) (k₁ k₂ : OK) (h₁ : kduties c (.inl k₁) 0 = {0}) (h₂ : kduties p (.inl k₂) 0 = {0})
    {s : Shape} {e : EltTy} {src src' : Memref sig .tc .vmem s e} {dst dst' : Memref sig .tc .vmem s e} (es : src = src') (ed : dst = dst')
    {sS sR : DmaSem sig} (eS : sS = dsem k₁) (eR : sR = dsem k₂) (N : ℕ) (hN : dst'.view.dmaCredit = N) (hk₁ : kamount (.inl k₁) = N) (hk₂ : kamount (.inl k₂) = N)
    {hsc : (dst : Memref sig (Dev.tc p : Thread nD τ).2.kind .vmem s e).view.ref.isScScratch = false} {w₁ : src.view.WordExact} {w₂ : dst.view.WordExact}
    {ht : DmaTarget.Typed .vmem (.dma sR) (.remote (Dev.tc p : Thread nD τ) dst (.dma sS) hsc)}
    (O : CellTallies nD τ sig Unit) {q : PosShare TreeShare} {fs : Buf (Elt F) (src'.view.loc (c : Thread nD τ))} (fd : Buf (Elt F) (dst'.view.loc (p : Thread nD τ)))
    (hp₁ : (src'.view.loc (c : Thread nD τ) ↦[src'.view.set]{q} fs : sProp 𝕄) ⊢ kpay m c (.inl k₁) 0 0)
    (hp₂ : (dst'.view.loc (p : Thread nD τ) ↦[dst'.view.set]{fullShare} (dst'.view.write (Elt F) fd (src'.view.read (Elt F) fs) Finset.univ) : sProp 𝕄) ⊢ kpay m p (.inl k₂) 0 0)
    (k' : P F α) :
    iprop(recs m K ∗ ow c (O + tallyAt (oc p k₂) () N) ∗ (src'.view.loc (c : Thread nD τ) ↦[src'.view.set]{q} fs) ∗ (dst'.view.loc (p : Thread nD τ) ↦[dst'.view.set]{fullShare} fd)
        ∗ dutyTok ER (oc c k₁) 0 0 ∗ dutyTok ER (oc p k₂) 0 0)
      ⊢ iprop(((ow c O ∗ cred (tallyAt (oc c k₁) () N)) -∗ WP c k' Q)
        -∗ WP c (.op (.enqueueDma src (.remote (Dev.tc p : Thread nD τ) dst (.dma sS) hsc) (.dma sR) w₁ w₂ ht) (fun _ => k')) Q) := by
  subst es ed eS eR
  unfold ow
  iintro ⟨#HR, ⟨%W, HO⟩, Hs, Hd, Ht₁, Ht₂⟩ Hk
  iapply (Rounds.wp_send_pointsTo 𝒱₀ ER (Rd m) (c : Thread nD τ) none (κ₁ := K (c, .inl k₁)) (κ₂ := K (p, .inl k₂))
      (r₁ := 0) (r₂ := 0) (d₁ := 0) (d₂ := 0) (fd := fd) (mem_du m c (.inl k₁) 0 h₁) (mem_du m p (.inl k₂) 0 h₂) () () N hN
      ((Rd_amount m c (.inl k₁) 0 0).trans hk₁) ((Rd_amount m p (.inl k₂) 0 0).trans hk₂) O rfl (W := W)
      (hp₁.trans (Entails.of_eq (Rd_payload m c (.inl k₁) 0 0).symm)) (hp₂.trans (Entails.of_eq (Rd_payload m p (.inl k₂) 0 0).symm)))
    $$ [HO Hs Hd Ht₁ Ht₂]
  · isplitr; · iapply (recs_inv m K c (.inl k₁)); iexact HR
    isplitr; · iapply (recs_inv m K p (.inl k₂)); iexact HR
    isplitl [Hs]; · iexact Hs
    isplitl [Hd]; · iexact Hd
    isplitl [HO]; · iexact HO
    isplitl [Ht₁]; · iexact Ht₁
    isplitr; · iapply (recs_reached m K c (.inl k₁)); iexact HR
    isplitl [Ht₂]; · iexact Ht₂
    iapply (recs_reached m K p (.inl k₂)); iexact HR
  iintro ⟨Hc, HO⟩
  iapply Hk
  isplitl [HO]; · iexists W; iexact HO
  iexact Hc

/-- A copy on the device: source and landing go to the cell it counts on. -/
theorem wp_copyTo {Q : α → sProp 𝕄} (c : Dev nD) (k : OK) (r : ℕ) (h : kduties c (.inl k) r = {0})
    {s : Shape} {e : EltTy} {sp sp' : Space} {src src' : Memref sig .tc sp s e} {dst dst' : Memref sig .tc sp' s e} (es : src = src') (ed : dst = dst')
    {sR : DmaSem sig} (eR : sR = dsem k) (N : ℕ) (hN : dst'.view.dmaCredit = N) (hk : kamount (.inl k) = N)
    {w₁ : src.view.WordExact} {w₂ : dst.view.WordExact} {ht : DmaTarget.Typed (nD := nD) (p := (Proc.tc : Proc τ)) sp (.dma sR) (.here dst)}
    {q : PosShare TreeShare} {fs : Buf (Elt F) (src'.view.loc (c : Thread nD τ))} (fd : Buf (Elt F) (dst'.view.loc (c : Thread nD τ)))
    (hp : iprop((dst'.view.loc (c : Thread nD τ) ↦[dst'.view.set]{fullShare} (dst'.view.write (Elt F) fd (src'.view.read (Elt F) fs) Finset.univ))
      ∗ (src'.view.loc (c : Thread nD τ) ↦[src'.view.set]{q} fs) : sProp 𝕄) ⊢ kpay m c (.inl k) r 0)
    (k' : P F α) :
    iprop(recs m K ∗ (src'.view.loc (c : Thread nD τ) ↦[src'.view.set]{q} fs) ∗ (dst'.view.loc (c : Thread nD τ) ↦[dst'.view.set]{fullShare} fd)
        ∗ dutyTok ER (oc c k) r 0 ∗ reached ER (oc c k) r)
      ⊢ iprop((cred (tallyAt (oc c k) () N) -∗ WP c k' Q)
        -∗ WP c (.op (.enqueueDma src (.here dst) (.dma sR) w₁ w₂ ht) (fun _ => k')) Q) := by
  subst es ed eR
  iintro ⟨#HR, Hs, Hd, Ht, Hr⟩ Hk
  iapply (Rounds.wp_copy_pointsTo 𝒱₀ ER (Rd m) (c : Thread nD τ) none (κ := K (c, .inl k)) (fd := fd) (mem_du m c (.inl k) r h) () N hN
      ((Rd_amount m c (.inl k) r 0).trans hk) (hp.trans (Entails.of_eq (Rd_payload m c (.inl k) r 0).symm))) $$ [Hs Hd Ht Hr]
  · isplitr; · iapply (recs_inv m K c (.inl k)); iexact HR
    isplitl [Hs]; · iexact Hs
    isplitl [Hd]; · iexact Hd
    isplitl [Ht] <;> iassumption
  iintro Hc
  iapply Hk; iexact Hc

end Cert.KernelIdeal.A2A

end
-- ==== Proof.Moves.lean ====
/- One rule for each of the kernel's transfers and of its waits for them. -/
module

public import proofs.«01_k».proof.Proof.Rules

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ) (K : Dev nD × CK → ℕ)
variable {α : Type}

/-! ## Rows -/

/-- Pay one peer off what is owed. -/
theorem ow_succ (c : Dev nD) (g : Fin 31 → GSem nD τ sig) (N : ℕ) (t : Fin 31) (O : CellTallies nD τ sig Unit) :
    (ow c (tal g N t.val + O) : sProp 𝕄) = ow c ((tal g N (t.val + 1) + O) + tallyAt (g t) () N) := by
  rw [tal_succ, add_right_comm]

theorem wp_sendStep {Q : α → sProp 𝕄} (c : Dev nD) (O : CellTallies nD τ sig Unit) (t : Fin 31) (k' : P F α) :
    iprop((recs m K ∗ ow c (owR c t.val + O)) ∗ (hPts c (peer c t) (x16 m c) ∗ (∃ f, gPts (F := F) (peer c t) c f)
        ∗ dutyTok ER (oc c (kS (peer c t))) 0 0 ∗ dutyTok ER (oc (peer c t) (kR c)) 0 0))
      ⊢ iprop((((recs m K ∗ ow c (owR c (t.val + 1) + O)) ∗ cred (tallyAt (oc c (kS (peer c t))) () NX)) -∗ WP c k' Q) -∗ WP c (sendStep c t k') Q) := by
  unfold sendStep
  iintro ⟨⟨#HR, HO⟩, Hs, ⟨%fd, Hd⟩, Ht₁, Ht₂⟩ Hk
  ihave HO' := (Entails.of_eq (ow_succ (F := F) c (fun t => oc (peer c t) (kR c)) NX t O)) $$ HO
  iapply (wp_sendTo m K c (peer c t) (kS (peer c t)) (kR c) (du_S (peer_ne c t)) (du_R (peer_ne c t).symm) (hPeerW_eq c t) (gOwnW_eq c)
    (sendSemW_eq c t) (recvSemW_eq c) NX (credit_g c) rfl rfl (owR c (t.val + 1) + O) (fs := x16 m c) fd
    (Entails.refl (hPts c (peer c t) (x16 m c))) (Entails.of_eq (pointsTo_congr (landed_g m c (peer c t) fd))) k') $$ [HO' Hs Hd Ht₁ Ht₂]
  · isplitr; · iexact HR
    isplitl [HO']; · iexact HO'
    isplitl [Hs]; · unfold hPts; iexact Hs
    isplitl [Hd]; · unfold gPts; iexact Hd
    isplitl [Ht₁] <;> iassumption
  iintro ⟨HO, Hc⟩
  iapply Hk
  isplitl [HO]
  · isplitr; · iexact HR
    iexact HO
  iexact Hc

theorem wp_ownStep {Q : α → sProp 𝕄} (c : Dev nD) (k' : P F α) :
    iprop(recs m K ∗ hPts c c (x16 m c) ∗ (∃ f, gPts (F := F) c c f) ∗ dutyTok ER (oc c kOwn) 0 0)
      ⊢ iprop((cred (tallyAt (oc c kOwn) () NX) -∗ WP c k' Q) -∗ WP c (ownStep c k') Q) := by
  unfold ownStep
  iintro ⟨#HR, Hs, ⟨%fd, Hd⟩, Ht⟩ Hk
  iapply (wp_copyTo m K c kOwn 0 (du_own c) (hOwnW_eq c) (gOwnW_eq c) rfl NX (credit_g c) rfl (fs := x16 m c) fd
    (sep_mono_left (Entails.of_eq (pointsTo_congr (landed_g m c c fd)))) k') $$ [Hs Hd Ht]
  · isplitr; · iexact HR
    isplitl [Hs]; · unfold hPts; iexact Hs
    isplitl [Hd]; · unfold gPts; iexact Hd
    isplitl [Ht]; · iexact Ht
    iapply (recs_reached m K c (.inl kOwn)); iexact HR
  iintro Hc
  iapply Hk; iexact Hc

/-- Nothing owed is above everything. -/
theorem pos_zero {a : ℕ} (g : GSem nD τ sig) (u : Unit) (h : 0 < (0 : CellTallies nD τ sig Unit) g u) :
    ∃ (d : Dev nD) (k : CK), g = cell d k ∧ a < klv k := absurd h (Nat.lt_irrefl 0)

theorem wp_recvStep {Q : α → sProp 𝕄} (c j : Dev nD) (k' : P F α) :
    iprop((recs m K ∗ ow c (owA c 0)) ∗ (atPos ER (oc c (kR j)) 0 ∅ 0 ∗ (if j = c then iprop(emp) else cred (tallyAt (oc c (kR j)) () NX))))
      ⊢ iprop((((recs m K ∗ ow c (owA c 0)) ∗ (atPos ER (oc c (kR j)) (kend c (.inl (kR j))) ∅ 0 ∗ (if j = c then iprop(emp) else gPts c j (gat m c)))) -∗ WP c k' Q)
        -∗ WP c (recvStep (meW c) j k') Q) := by
  unfold recvStep
  by_cases h : j = c
  · rw [dif_neg (fun h' => (other_iff c j).mp h' h), if_pos h, if_pos h, show kend c (.inl (kR j)) = 0 from if_pos h]
    iintro H Hk
    iapply Hk; iexact H
  · rw [dif_pos ((other_iff c j).mpr h), if_neg h, if_neg h, show kend c (.inl (kR j)) = 1 from if_neg h]
    iintro ⟨⟨#HR, HO⟩, Hat, Hc⟩ Hk
    iapply (wp_wait m K c (kR j) 0 (du_R h) (owA c 0) (pos_A (a := 2) (by decide)) rfl NX (credit_g j) rfl (gPts c j (gat m c)) rfl k') $$ [HO Hat Hc]
    · isplitr; · iexact HR
      isplitl [HO]; · iexact HO
      isplitl [Hc] <;> iassumption
    iintro ⟨HO, Hat, -, Hp⟩
    iapply Hk
    isplitl [HO]
    · isplitr; · iexact HR
      iexact HO
    isplitl [Hat]; · iexact Hat
    iexact Hp

theorem wp_ownWait {Q : α → sProp 𝕄} (c : Dev nD) (k' : P F α) :
    iprop(recs m K ∗ ow c (owA c 0) ∗ cred (tallyAt (oc c kOwn) () NX) ∗ atPos ER (oc c kOwn) 0 ∅ 0)
      ⊢ iprop(((ow c (owA c 0) ∗ atPos ER (oc c kOwn) 1 ∅ 0 ∗ gPts c c (gat m c) ∗ hPts c c (x16 m c)) -∗ WP c k' Q)
        -∗ WP c (ownWait c k') Q) := by
  unfold ownWait
  iintro ⟨#HR, HO, Hc, Hat⟩ Hk
  iapply (wp_wait m K c kOwn 0 (du_own c) (owA c 0) (pos_A (a := 0) (by decide)) rfl NX ((congrArg (fun v : Memref sig .tc .vmem S128x128 .bf16 => v.view.dmaCredit) (gOwnW_eq c)).trans (credit_g c)) rfl (iprop(gPts c c (gat m c) ∗ hPts c c (x16 m c))) rfl k') $$ [HO Hat Hc]
  · isplitr; · iexact HR
    isplitl [HO]; · iexact HO
    isplitl [Hc] <;> iassumption
  iintro ⟨HO, Hat, -, Hp⟩
  iapply Hk
  isplitl [HO]; · iexact HO
  isplitl [Hat]; · iexact Hat
  iexact Hp

theorem wp_sendWait {Q : α → sProp 𝕄} (c : Dev nD) (t : Fin 31) (k' : P F α) :
    iprop((recs m K ∗ ow c (owA c 0)) ∗ (cred (tallyAt (oc c (kS (peer c t))) () NX) ∗ atPos ER (oc c (kS (peer c t))) 0 ∅ 0))
      ⊢ iprop((((recs m K ∗ ow c (owA c 0)) ∗ (atPos ER (oc c (kS (peer c t))) 1 ∅ 0 ∗ hPts c (peer c t) (x16 m c))) -∗ WP c k' Q)
        -∗ WP c (sendWait c t k') Q) := by
  unfold sendWait
  iintro ⟨⟨#HR, HO⟩, Hc, Hat⟩ Hk
  iapply (wp_wait m K c (kS (peer c t)) 0 (du_S (peer_ne c t)) (owA c 0) (pos_A (a := 0) (by decide)) (sendSemW_eq c t) NX (credit_h 0) rfl (hPts c (peer c t) (x16 m c)) rfl k') $$ [HO Hat Hc]
  · isplitr; · iexact HR
    isplitl [HO]; · iexact HO
    isplitl [Hc] <;> iassumption
  iintro ⟨HO, Hat, -, Hp⟩
  iapply Hk
  isplitl [HO]
  · isplitr; · iexact HR
    iexact HO
  isplitl [Hat]; · iexact Hat
  iexact Hp

/-! ## Maxima -/

theorem landed_a (c p : Dev nD) (f : Vec F S32x8x128 .f32) :
    ∀ i ∈ aSet c, (aAt c).view.write (Elt F) f ((aAt c).view.read (Elt F) (amaxAll m)) Finset.univ i = amaxAll m i :=
  write_on (aAt c).view f (amaxAll m) _ fun _ => rfl

theorem wp_asendStep {Q : α → sProp 𝕄} (c : Dev nD) (O : CellTallies nD τ sig Unit) (t : Fin 31) (k' : P F α) :
    iprop((recs m K ∗ ow c (owA c t.val + O)) ∗ (aPts c c (aShare (peer c t)) (amaxAll m) ∗ (∃ f, aPts (F := F) (peer c t) c fullShare f)
        ∗ dutyTok ER (oc c (kAS (peer c t))) 0 0 ∗ dutyTok ER (oc (peer c t) (kAR c)) 0 0))
      ⊢ iprop((((recs m K ∗ ow c (owA c (t.val + 1) + O)) ∗ cred (tallyAt (oc c (kAS (peer c t))) () NA)) -∗ WP c k' Q) -∗ WP c (asendStep c t k') Q) := by
  unfold asendStep
  iintro ⟨⟨#HR, HO⟩, Hs, ⟨%fd, Hd⟩, Ht₁, Ht₂⟩ Hk
  ihave HO' := (Entails.of_eq (ow_succ (F := F) c (fun t => oc (peer c t) (kAR c)) NA t O)) $$ HO
  iapply (wp_sendTo m K c (peer c t) (kAS (peer c t)) (kAR c) (du_AS (peer_ne c t)) (du_AR (peer_ne c t).symm) (aOwnW_eq c) (aOwnW_eq c)
    (asendSemW_eq c t) (arecvSemW_eq c) NA (credit_a c) rfl rfl (owA c (t.val + 1) + O) (q := aShare (peer c t)) (fs := amaxAll m) fd
    (Entails.refl (aPts c c (aShare (peer c t)) (amaxAll m))) (Entails.of_eq (pointsTo_congr (landed_a m c (peer c t) fd))) k') $$ [HO' Hs Hd Ht₁ Ht₂]
  · isplitr; · iexact HR
    isplitl [HO']; · iexact HO'
    isplitl [Hs]; · unfold aPts; iexact Hs
    isplitl [Hd]; · unfold aPts; iexact Hd
    isplitl [Ht₁] <;> iassumption
  iintro ⟨HO, Hc⟩
  iapply Hk
  isplitl [HO]
  · isplitr; · iexact HR
    iexact HO
  iexact Hc

theorem wp_arecvStep {Q : α → sProp 𝕄} (c j : Dev nD) (k' : P F α) :
    iprop((recs m K ∗ ow c 0) ∗ (atPos ER (oc c (kAR j)) 0 ∅ 0 ∗ (if j = c then iprop(emp) else cred (tallyAt (oc c (kAR j)) () NA))))
      ⊢ iprop((((recs m K ∗ ow c 0) ∗ (atPos ER (oc c (kAR j)) (kend c (.inl (kAR j))) ∅ 0 ∗ (if j = c then iprop(emp) else aPts c j fullShare (amaxAll m)))) -∗ WP c k' Q)
        -∗ WP c (arecvStep (meW c) j k') Q) := by
  unfold arecvStep
  by_cases h : j = c
  · rw [dif_neg (fun h' => (other_iff c j).mp h' h), if_pos h, if_pos h, show kend c (.inl (kAR j)) = 0 from if_pos h]
    iintro H Hk
    iapply Hk; iexact H
  · rw [dif_pos ((other_iff c j).mpr h), if_neg h, if_neg h, show kend c (.inl (kAR j)) = 1 from if_neg h]
    iintro ⟨⟨#HR, HO⟩, Hat, Hc⟩ Hk
    iapply (wp_wait m K c (kAR j) 0 (du_AR h) 0 pos_zero rfl NA (credit_a j) rfl (aPts c j fullShare (amaxAll m)) rfl k') $$ [HO Hat Hc]
    · isplitr; · iexact HR
      isplitl [HO]; · iexact HO
      isplitl [Hc] <;> iassumption
    iintro ⟨HO, Hat, -, Hp⟩
    iapply Hk
    isplitl [HO]
    · isplitr; · iexact HR
      iexact HO
    isplitl [Hat]; · iexact Hat
    iexact Hp

theorem wp_asendWait {Q : α → sProp 𝕄} (c : Dev nD) (t : Fin 31) (k' : P F α) :
    iprop((recs m K ∗ ow c 0) ∗ (cred (tallyAt (oc c (kAS (peer c t))) () NA) ∗ atPos ER (oc c (kAS (peer c t))) 0 ∅ 0))
      ⊢ iprop((((recs m K ∗ ow c 0) ∗ (atPos ER (oc c (kAS (peer c t))) 1 ∅ 0 ∗ aPts c c (aShare (peer c t)) (amaxAll m))) -∗ WP c k' Q)
        -∗ WP c (asendWait c t k') Q) := by
  unfold asendWait
  iintro ⟨⟨#HR, HO⟩, Hc, Hat⟩ Hk
  iapply (wp_wait m K c (kAS (peer c t)) 0 (du_AS (peer_ne c t)) 0 pos_zero (asendSemW_eq c t) NA
    ((congrArg (fun v : Memref sig .tc .vmem S8x128 .f32 => v.view.dmaCredit) (aOwnW_eq c)).trans (credit_a c)) rfl (aPts c c (aShare (peer c t)) (amaxAll m)) rfl k') $$ [HO Hat Hc]
  · isplitr; · iexact HR
    isplitl [HO]; · iexact HO
    isplitl [Hc] <;> iassumption
  iintro ⟨HO, Hat, -, Hp⟩
  iapply Hk
  isplitl [HO]
  · isplitr; · iexact HR
    iexact HO
  isplitl [Hat]; · iexact Hat
  iexact Hp

end Cert.KernelIdeal.A2A

end
-- ==== Proof.Blocks.lean ====
/- The kernel's buffers, whole and cut into their blocks. -/
module

public import proofs.«01_k».proof.Proof.Sched

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type}

local notation "𝕄" => MT nD τ sig Unit (Elt F) ℕ UU ℕ

/-- Device `c`'s buffer `b` at contents `f`. -/
abbrev whole (c : Dev nD) (b : Ref sig .tc) (f : Buf (Elt F) ((c : Thread nD τ).loc b)) : sProp 𝕄 := ((c : Thread nD τ).loc b) ↦{fullShare} f

/-- Sets that cover a shape. -/
theorem cover_of {ι A : Type} [Fintype ι] [Fintype A] [DecidableEq A] {I : ι → Finset A} (h : ∀ a, ∃ i, a ∈ I i) : Finset.univ.biUnion I = Finset.univ := by
  ext a
  simp only [Finset.mem_biUnion, Finset.mem_univ, true_and, iff_true]
  exact h a

theorem bigSep_mono' {ι : Type} [Fintype ι] {Φ Ψ : ι → sProp 𝕄} (h : ∀ j, Φ j ⊢ Ψ j) : bigSep Finset.univ Φ ⊢ bigSep Finset.univ Ψ :=
  bigSep_mono fun j _ => h j

theorem bigSep_ex {ι A : Type} [Fintype ι] (Φ : ι → A → sProp 𝕄) (f : A) : bigSep Finset.univ (fun j => Φ j f) ⊢ bigSep Finset.univ (fun j => iprop(∃ f, Φ j f)) :=
  bigSep_mono' fun j => by iintro H; iexists f; iexact H

/-- A family over the devices is the one at `c` and those at its peers. -/
theorem bigSep_peers (c : Dev nD) (Φ : Dev nD → sProp 𝕄) : bigSep Finset.univ Φ = iprop(Φ c ∗ bigSep Finset.univ (fun t => Φ (peer c t))) := by
  rw [bigSep_erase (Finset.mem_univ c), erase_eq_map, bigSep_map]; rfl

/-- A family that is `emp` at `c` is the family over `c`'s peers. -/
theorem bigSep_others (c : Dev nD) (Φ : Dev nD → sProp 𝕄) :
    bigSep Finset.univ (fun j => if j = c then iprop(emp) else Φ j) = bigSep Finset.univ (fun t => Φ (peer c t)) := by
  rw [bigSep_peers c, if_pos rfl, bigSep_congr (Ψ := fun t => Φ (peer c t)) fun t _ => if_neg (peer_ne c t)]
  exact Idealize.SL.BI.equiv_iff.mp emp_sep

theorem bigSep_zip {ι : Type} [Fintype ι] (Φ Ψ : ι → sProp 𝕄) :
    bigSep Finset.univ (fun i => iprop(Φ i ∗ Ψ i)) = iprop(bigSep Finset.univ Φ ∗ bigSep Finset.univ Ψ) := bigSep_sep _ _ _

/-! ### The rounded rows -/

theorem h_ex (k : S4096x128.Idx) : ∃ j : Dev nD, k ∈ hSet j := by
  obtain ⟨j, -, hj⟩ := Finset.mem_biUnion.mp ((Finset.ext_iff.mp hAt_cover k).mpr (Finset.mem_univ _))
  exact ⟨j, hj⟩

theorem h_cut (c : Dev nD) (f : Vec F S4096x128 .bf16) : (whole c cc0_scratch0 f : sProp 𝕄) = bigSep Finset.univ (fun j : Dev nD => hPts c j f) := by
  have hd : ∀ b b' : Dev nD, b ≠ b' → Disjoint (hSet b : Finset (Idx ((c : Thread nD τ).loc cc0_scratch0))) (hSet b') := hAt_disjoint
  have hc : Finset.univ.biUnion (fun j : Dev nD => (hSet j : Finset (Idx ((c : Thread nD τ).loc cc0_scratch0)))) = Finset.univ := cover_of h_ex
  have h := Ring.pointsTo_blocks (Ix := Unit) (Val := Elt F) (Name := ℕ) (U := UU) (Lvl := ℕ) (ℓ := (c : Thread nD τ).loc cc0_scratch0) (fun j : Dev nD => hSet j) hd hc (q := fullShare) f
  exact h

theorem h_open (c : Dev nD) : (iprop(∃ f, whole c cc0_scratch0 f) : sProp 𝕄) ⊢ bigSep Finset.univ (fun j : Dev nD => iprop(∃ f, hPts c j (F := F) f)) := by
  iintro ⟨%f, H⟩
  ihave H' := (Entails.of_eq (h_cut c f)) $$ H
  iapply (bigSep_ex (fun (j : Dev nD) f => hPts c j (F := F) f) f)
  iexact H'

theorem h_join (c : Dev nD) (f₀ : Vec F S4096x128 .bf16) : bigSep Finset.univ (fun j : Dev nD => iprop(∃ f, hPts c j (F := F) f)) ⊢ (iprop(∃ f, whole c cc0_scratch0 f) : sProp 𝕄) := by
  have hd : ∀ b b' : Dev nD, b ≠ b' → Disjoint (hSet b : Finset (Idx ((c : Thread nD τ).loc cc0_scratch0))) (hSet b') := hAt_disjoint
  have hc : Finset.univ.biUnion (fun j : Dev nD => (hSet j : Finset (Idx ((c : Thread nD τ).loc cc0_scratch0)))) = Finset.univ := cover_of h_ex
  have h := Ring.pointsTo_blocks_join_exists (Ix := Unit) (Val := Elt F) (Name := ℕ) (U := UU) (Lvl := ℕ) (ℓ := (c : Thread nD τ).loc cc0_scratch0) (fun j : Dev nD => hSet j) hd hc (q := fullShare) f₀
  exact h

/-! ### The gathered rows -/

theorem g_ex (k : S128x4096.Idx) : ∃ j : Dev nD, k ∈ gSet j := by
  obtain ⟨j, -, hj⟩ := Finset.mem_biUnion.mp ((Finset.ext_iff.mp gAt_cover k).mpr (Finset.mem_univ _))
  exact ⟨j, hj⟩

theorem g_cut (c : Dev nD) (f : Vec F S128x4096 .bf16) : (whole c cc0_scratch1 f : sProp 𝕄) = bigSep Finset.univ (fun j : Dev nD => gPts c j f) := by
  have hd : ∀ b b' : Dev nD, b ≠ b' → Disjoint (gSet b : Finset (Idx ((c : Thread nD τ).loc cc0_scratch1))) (gSet b') := gAt_disjoint
  have hc : Finset.univ.biUnion (fun j : Dev nD => (gSet j : Finset (Idx ((c : Thread nD τ).loc cc0_scratch1)))) = Finset.univ := cover_of g_ex
  have h := Ring.pointsTo_blocks (Ix := Unit) (Val := Elt F) (Name := ℕ) (U := UU) (Lvl := ℕ) (ℓ := (c : Thread nD τ).loc cc0_scratch1) (fun j : Dev nD => gSet j) hd hc (q := fullShare) f
  exact h

theorem g_open (c : Dev nD) : (iprop(∃ f, whole c cc0_scratch1 f) : sProp 𝕄) ⊢ bigSep Finset.univ (fun j : Dev nD => iprop(∃ f, gPts c j (F := F) f)) := by
  iintro ⟨%f, H⟩
  ihave H' := (Entails.of_eq (g_cut c f)) $$ H
  iapply (bigSep_ex (fun (j : Dev nD) f => gPts c j (F := F) f) f)
  iexact H'

theorem g_join (c : Dev nD) (f₀ : Vec F S128x4096 .bf16) : bigSep Finset.univ (fun j : Dev nD => iprop(∃ f, gPts c j (F := F) f)) ⊢ (iprop(∃ f, whole c cc0_scratch1 f) : sProp 𝕄) := by
  have hd : ∀ b b' : Dev nD, b ≠ b' → Disjoint (gSet b : Finset (Idx ((c : Thread nD τ).loc cc0_scratch1))) (gSet b') := gAt_disjoint
  have hc : Finset.univ.biUnion (fun j : Dev nD => (gSet j : Finset (Idx ((c : Thread nD τ).loc cc0_scratch1)))) = Finset.univ := cover_of g_ex
  have h := Ring.pointsTo_blocks_join_exists (Ix := Unit) (Val := Elt F) (Name := ℕ) (U := UU) (Lvl := ℕ) (ℓ := (c : Thread nD τ).loc cc0_scratch1) (fun j : Dev nD => gSet j) hd hc (q := fullShare) f₀
  exact h

/-! ### The slots -/

theorem f_ex (k : S2x4096x512.Idx) : ∃ j : Fin 2, k ∈ fSet (slot j) := by
  obtain ⟨j, -, hj⟩ := Finset.mem_biUnion.mp ((Finset.ext_iff.mp fAt_cover k).mpr (Finset.mem_univ _))
  exact ⟨j, hj⟩

theorem f_cut (c : Dev nD) (f : Vec F S2x4096x512 .f32) : (whole c cc0_scratch2 f : sProp 𝕄) = bigSep Finset.univ (fun j : Fin 2 => fPts c (slot j) f) := by
  have hd : ∀ b b' : Fin 2, b ≠ b' → Disjoint (fSet (slot b) : Finset (Idx ((c : Thread nD τ).loc cc0_scratch2))) (fSet (slot b')) := fAt_disjoint
  have hc : Finset.univ.biUnion (fun j : Fin 2 => (fSet (slot j) : Finset (Idx ((c : Thread nD τ).loc cc0_scratch2)))) = Finset.univ := cover_of f_ex
  have h := Ring.pointsTo_blocks (Ix := Unit) (Val := Elt F) (Name := ℕ) (U := UU) (Lvl := ℕ) (ℓ := (c : Thread nD τ).loc cc0_scratch2) (fun j : Fin 2 => fSet (slot j)) hd hc (q := fullShare) f
  exact h

theorem f_open (c : Dev nD) : (iprop(∃ f, whole c cc0_scratch2 f) : sProp 𝕄) ⊢ bigSep Finset.univ (fun j : Fin 2 => iprop(∃ f, fPts c (slot j) (F := F) f)) := by
  iintro ⟨%f, H⟩
  ihave H' := (Entails.of_eq (f_cut c f)) $$ H
  iapply (bigSep_ex (fun (j : Fin 2) f => fPts c (slot j) (F := F) f) f)
  iexact H'

theorem f_join (c : Dev nD) (f₀ : Vec F S2x4096x512 .f32) : bigSep Finset.univ (fun j : Fin 2 => iprop(∃ f, fPts c (slot j) (F := F) f)) ⊢ (iprop(∃ f, whole c cc0_scratch2 f) : sProp 𝕄) := by
  have hd : ∀ b b' : Fin 2, b ≠ b' → Disjoint (fSet (slot b) : Finset (Idx ((c : Thread nD τ).loc cc0_scratch2))) (fSet (slot b')) := fAt_disjoint
  have hc : Finset.univ.biUnion (fun j : Fin 2 => (fSet (slot j) : Finset (Idx ((c : Thread nD τ).loc cc0_scratch2)))) = Finset.univ := cover_of f_ex
  have h := Ring.pointsTo_blocks_join_exists (Ix := Unit) (Val := Elt F) (Name := ℕ) (U := UU) (Lvl := ℕ) (ℓ := (c : Thread nD τ).loc cc0_scratch2) (fun j : Fin 2 => fSet (slot j)) hd hc (q := fullShare) f₀
  exact h

/-! ### The maxima -/

theorem a_ex (k : S32x8x128.Idx) : ∃ j : Dev nD, k ∈ aSet j := by
  obtain ⟨j, -, hj⟩ := Finset.mem_biUnion.mp ((Finset.ext_iff.mp aAt_cover k).mpr (Finset.mem_univ _))
  exact ⟨j, hj⟩

theorem a_cut (c : Dev nD) (f : Vec F S32x8x128 .f32) : (whole c cc0_scratch4 f : sProp 𝕄) = bigSep Finset.univ (fun j : Dev nD => aPts c j fullShare f) := by
  have hd : ∀ b b' : Dev nD, b ≠ b' → Disjoint (aSet b : Finset (Idx ((c : Thread nD τ).loc cc0_scratch4))) (aSet b') := aAt_disjoint
  have hc : Finset.univ.biUnion (fun j : Dev nD => (aSet j : Finset (Idx ((c : Thread nD τ).loc cc0_scratch4)))) = Finset.univ := cover_of a_ex
  have h := Ring.pointsTo_blocks (Ix := Unit) (Val := Elt F) (Name := ℕ) (U := UU) (Lvl := ℕ) (ℓ := (c : Thread nD τ).loc cc0_scratch4) (fun j : Dev nD => aSet j) hd hc (q := fullShare) f
  exact h

theorem a_open (c : Dev nD) : (iprop(∃ f, whole c cc0_scratch4 f) : sProp 𝕄) ⊢ bigSep Finset.univ (fun j : Dev nD => iprop(∃ f, aPts c j fullShare (F := F) f)) := by
  iintro ⟨%f, H⟩
  ihave H' := (Entails.of_eq (a_cut c f)) $$ H
  iapply (bigSep_ex (fun (j : Dev nD) f => aPts c j fullShare (F := F) f) f)
  iexact H'

theorem a_join (c : Dev nD) (f₀ : Vec F S32x8x128 .f32) : bigSep Finset.univ (fun j : Dev nD => iprop(∃ f, aPts c j fullShare (F := F) f)) ⊢ (iprop(∃ f, whole c cc0_scratch4 f) : sProp 𝕄) := by
  have hd : ∀ b b' : Dev nD, b ≠ b' → Disjoint (aSet b : Finset (Idx ((c : Thread nD τ).loc cc0_scratch4))) (aSet b') := aAt_disjoint
  have hc : Finset.univ.biUnion (fun j : Dev nD => (aSet j : Finset (Idx ((c : Thread nD τ).loc cc0_scratch4)))) = Finset.univ := cover_of a_ex
  have h := Ring.pointsTo_blocks_join_exists (Ix := Unit) (Val := Elt F) (Name := ℕ) (U := UU) (Lvl := ℕ) (ℓ := (c : Thread nD τ).loc cc0_scratch4) (fun j : Dev nD => aSet j) hd hc (q := fullShare) f₀
  exact h

/-! ### The tiles of `w` -/

theorem w_ex (k : S4096x8192.Idx) : ∃ j : Fin 16, k ∈ wSet j := by
  obtain ⟨j, -, hj⟩ := Finset.mem_biUnion.mp ((Finset.ext_iff.mp wAt_cover k).mpr (Finset.mem_univ _))
  exact ⟨j, hj⟩

theorem w_cut (c : Dev nD) (m : (ℓ : Loc nD τ sig) → Buf (Elt F) ℓ) : (whole c main_arg1 (warg m c) : sProp 𝕄) = bigSep Finset.univ (fun j : Fin 16 => wPts m c j) := by
  have hd : ∀ b b' : Fin 16, b ≠ b' → Disjoint (wSet b : Finset (Idx ((c : Thread nD τ).loc main_arg1))) (wSet b') := wAt_disjoint
  have hc : Finset.univ.biUnion (fun j : Fin 16 => (wSet j : Finset (Idx ((c : Thread nD τ).loc main_arg1)))) = Finset.univ := cover_of w_ex
  have h := Ring.pointsTo_blocks (Ix := Unit) (Val := Elt F) (Name := ℕ) (U := UU) (Lvl := ℕ) (ℓ := (c : Thread nD τ).loc main_arg1) (fun j : Fin 16 => wSet j) hd hc (q := fullShare) (warg m c)
  exact h

end Cert.KernelIdeal.A2A

end
-- ==== Proof.Vectors.lean ====
/- One rule for each of the kernel's vector steps: rounding, a column tile, the maximum, the scaling. -/
module

public import proofs.«01_k».proof.Proof.Moves
public import proofs.«01_k».proof.Proof.Blocks

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ) (K : Dev nD × CK → ℕ)
variable {α : Type}

theorem hz2 : (![0, 0] : Fin 2 → Nat) = fun _ => 0 := by funext a; fin_cases a <;> rfl
theorem hz3 : (![0, 0, 0] : Fin 3 → Nat) = fun _ => 0 := by funext a; fin_cases a <;> rfl

/-! ## Rounding -/

omit [FloatOps F] in
theorem read_x (f : Vec F S4096x128 .f32) :
    (xM : Memref sig .tc .vmem S4096x128 .f32).view.readAt (Elt F) (Rect.unit (s := S4096x128) ![0, 0] S4096x128.size inb_S4096x128_S4096x128_0_0).toLoadRect f = f :=
  Memref.readAt_unit_zero (Elt F) cc0_stg0_0 hz2 _ f
omit [FloatOps F] in
theorem write_h (f w : Vec F S4096x128 .bf16) :
    ((hM : Memref sig .tc .vmem S4096x128 .bf16).access (Rect.unit (s := S4096x128) ![0, 0] S4096x128.size inb_S4096x128_S4096x128_0_0) : View sig .tc _ _ _).write (Elt F) f w Finset.univ = w :=
  Memref.write_access_unit_zero_univ (Elt F) cc0_scratch0 hz2 _ f w

theorem wp_round {Q : α → sProp 𝕄} (c : Dev nD) (k' : P F α) :
    iprop(whole c cc0_stg0_0 (xstg m c) ∗ (∃ f, whole (F := F) c cc0_scratch0 f))
      ⊢ iprop(((whole c cc0_stg0_0 (xstg m c) ∗ bigSep Finset.univ (fun j : Dev nD => hPts c j (x16 m c))) -∗ WP c k' Q) -∗ WP c (roundStep k') Q) := by
  unfold roundStep
  iintro ⟨Hx, ⟨%f, Hh⟩⟩ Hk
  iapply (wp_load 𝒱₀ (c : Thread nD τ) none Set.univ (m := xM) (Finset.subset_univ _)) $$ Hx; iintro Hx
  rw [read_x]
  iapply (wp_load 𝒱₀ (c : Thread nD τ) none Set.univ (m := hM) (Finset.subset_univ _)) $$ Hh; iintro Hh
  iapply (wp_store 𝒱₀ (c : Thread nD τ) none Set.univ (m := hM) (r := Rect.unit (s := S4096x128) ![0, 0] S4096x128.size inb_S4096x128_S4096x128_0_0) (Mk := Finset.univ) (Finset.subset_univ _)) $$ Hh; iintro Hh
  rw [write_h]
  iapply Hk
  isplitl [Hx]; · iexact Hx
  iapply (Entails.of_eq (h_cut c (x16 m c))); iexact Hh

/-! ## Tiles -/

/-- The slot of tile `i`. -/
abbrev sl (i : Fin 16) : Fin 2 := ⟨i.val % 2, Nat.mod_lt _ (by decide)⟩

theorem tileOf_sl (i : Fin 16) : tileOf (sl i) (i.val / 2) = i := Fin.ext (by show (2 * (i.val / 2) + i.val % 2) % 16 = i.val; omega)

theorem wSem_eq (i : Fin 16) : wSemAt i = dsem (kW (sl i)) := by
  show wSemAt i = wSemAt (slot (sl i))
  unfold wSemAt
  rw [SemArray.slice_unit_congr _ (show (![i.val % 2] : Fin 1 → Nat) = ![(slot (sl i)).val % 2] by rw [show (slot (sl i)).val % 2 = i.val % 2 from Nat.mod_mod _ _]) _ (hat2 _)]

theorem pay_W (c : Dev nD) (i : Fin 16) : kpay m c (.inl (kW (sl i))) (i.val / 2) 0 = iprop(fPts c i (ftile m c i) ∗ wPts m c i) := by
  show iprop(fPts c (tileOf (sl i) (i.val / 2)) (ftile m c (tileOf (sl i) (i.val / 2))) ∗ wPts m c (tileOf (sl i) (i.val / 2))) = _
  rw [tileOf_sl]

theorem wp_wStart {Q : α → sProp 𝕄} (c : Dev nD) (i : Fin 16) (k' : P F α) :
    iprop(recs m K ∗ wPts m c i ∗ (∃ f, fPts (F := F) c i f) ∗ dutyTok ER (oc c (kW (sl i))) (i.val / 2) 0 ∗ reached ER (oc c (kW (sl i))) (i.val / 2))
      ⊢ iprop((cred (tallyAt (oc c (kW (sl i))) () NW) -∗ WP c k' Q) -∗ WP c (wStart i k') Q) := by
  unfold wStart
  iintro ⟨#HR, Hs, ⟨%fd, Hd⟩, Ht, Hr⟩ Hk
  iapply (wp_copyTo m K c (kW (sl i)) (i.val / 2) (du_W c (sl i) (by omega)) (src' := wAt i) (dst' := fAt i) rfl rfl (wSem_eq i) NW (credit_f i) rfl (fs := warg m c) fd
    ((sep_mono_left (Entails.of_eq (pointsTo_congr (landed_f m c i fd)))).trans (Entails.of_eq (pay_W m c i).symm)) k') $$ [Hs Hd Ht Hr]
  · isplitr; · iexact HR
    isplitl [Hs]; · unfold wPts; iexact Hs
    isplitl [Hd]; · unfold fPts; iexact Hd
    isplitl [Ht] <;> iassumption
  iintro Hc
  iapply Hk; iexact Hc

omit [FloatOps F] in
theorem read_b (f : Vec F S4096x512 .bf16) :
    (bM : Memref sig .tc .vmem S4096x512 .bf16).view.readAt (Elt F) (Rect.unit (s := S4096x512) ![0, 0] S4096x512.size inb_S4096x512_S4096x512_0_0).toLoadRect f = f :=
  Memref.readAt_unit_zero (Elt F) cc0_scratch3 hz2 _ f
omit [FloatOps F] in
theorem write_b (f w : Vec F S4096x512 .bf16) :
    ((bM : Memref sig .tc .vmem S4096x512 .bf16).access (Rect.unit (s := S4096x512) ![0, 0] S4096x512.size inb_S4096x512_S4096x512_0_0) : View sig .tc _ _ _).write (Elt F) f w Finset.univ = w :=
  Memref.write_access_unit_zero_univ (Elt F) cc0_scratch3 hz2 _ f w
omit [FloatOps F] in
theorem read_g (f : Vec F S128x4096 .bf16) :
    (gM : Memref sig .tc .vmem S128x4096 .bf16).view.readAt (Elt F) (Rect.unit (s := S128x4096) ![0, 0] S128x4096.size inb_S128x4096_S128x4096_0_0).toLoadRect f = f :=
  Memref.readAt_unit_zero (Elt F) cc0_scratch1 hz2 _ f

theorem acc_succ (c : Dev nD) (i : Fin 16) : acc m c (i.val + 1) = maxTile (acc m c i.val) (gat m c) (w16 m c i) := dif_pos i.isLt

theorem f_sub (i : Fin 16) : (fM : Memref sig .tc .vmem S2x4096x512 .f32).view.setOn (fR i).toLoadRect.set ⊆ fSet i := by
  rw [show fSet i = ((View.whole cc0_scratch2).slice (fR i)).set from View.set_reshape _ _, View.set_slice]
  exact Finset.Subset.refl _

/-- The products of the tiles before the `n`-th are in place. -/
def yPts (c : Dev nD) (n : ℕ) : sProp 𝕄 :=
  iprop(∃ f : Vec F S128x8192 .f32, ⌜∀ k, (k 1).val < 512 * n → f k = yAll m c k⌝ ∗ whole c cc0_stg1_0 f)

theorem wp_tileStep {Q : α → sProp 𝕄} (c : Dev nD) (i : Fin 16) (k' : F .f32 → P F α) :
    iprop(recs m K ∗ ow c (owA c 0) ∗ cred (tallyAt (oc c (kW (sl i))) () NW) ∗ atPos ER (oc c (kW (sl i))) (i.val / 2) ∅ 0
        ∗ (∃ f, whole (F := F) c cc0_scratch3 f) ∗ whole c cc0_scratch1 (gat m c) ∗ yPts m c i.val)
      ⊢ iprop(((ow c (owA c 0) ∗ atPos ER (oc c (kW (sl i))) (i.val / 2 + 1) ∅ 0 ∗ reached ER (oc c (kW (sl i))) (i.val / 2 + 1)
          ∗ fPts c i (ftile m c i) ∗ wPts m c i ∗ (∃ f, whole (F := F) c cc0_scratch3 f) ∗ whole c cc0_scratch1 (gat m c) ∗ yPts m c (i.val + 1))
            -∗ WP c (k' (acc m c (i.val + 1))) Q)
        -∗ WP c (tileStep i (acc m c i.val) k') Q) := by
  unfold tileStep yPts
  iintro ⟨#HR, HO, Hc, Hat, ⟨%fb, Hb⟩, Hg, ⟨%fy, %hy, Hy⟩⟩ Hk
  iapply (wp_wait m K c (kW (sl i)) (i.val / 2) (du_W c (sl i) (by omega)) (owA c 0) (pos_A (a := 0) (by decide)) (wSem_eq i) NW (credit_f i) rfl _ (pay_W m c i) _) $$ [HO Hat Hc]
  · isplitr; · iexact HR
    isplitl [HO]; · iexact HO
    isplitl [Hc] <;> iassumption
  iintro ⟨HO, Hat, Hr, Hf, Hw⟩
  unfold fPts
  iapply (wp_load 𝒱₀ (c : Thread nD τ) none Set.univ (m := fM) (f_sub i)) $$ Hf; iintro Hf
  iapply (wp_load 𝒱₀ (c : Thread nD τ) none Set.univ (m := bM) (Finset.subset_univ _)) $$ Hb; iintro Hb
  iapply (wp_store 𝒱₀ (c : Thread nD τ) none Set.univ (m := bM) (r := Rect.unit (s := S4096x512) ![0, 0] S4096x512.size inb_S4096x512_S4096x512_0_0) (Mk := Finset.univ) (Finset.subset_univ _)) $$ Hb; iintro Hb
  rw [write_b]
  iapply (wp_load 𝒱₀ (c : Thread nD τ) none Set.univ (m := gM) (Finset.subset_univ _)) $$ Hg; iintro Hg
  rw [read_g]
  iapply (wp_load 𝒱₀ (c : Thread nD τ) none Set.univ (m := bM) (Finset.subset_univ _)) $$ Hb; iintro Hb
  rw [read_b]
  iapply (wp_load 𝒱₀ (c : Thread nD τ) none Set.univ (m := oM) (Finset.subset_univ _)) $$ Hy; iintro Hy
  iapply (wp_store 𝒱₀ (c : Thread nD τ) none Set.univ (m := oM) (r := oR i) (Mk := Finset.univ) (Finset.subset_univ _)) $$ Hy; iintro Hy
  rw [show maxTile (acc m c i.val) (gat m c) (roundW ((fM : Memref sig .tc .vmem S2x4096x512 .f32).view.readAt (Elt F) (fR i).toLoadRect (ftile m c i))) = acc m c (i.val + 1) from (acc_succ m c i).symm]
  iapply Hk
  isplitl [HO]; · iexact HO
  isplitl [Hat]; · iexact Hat
  isplitl [Hr]; · iexact Hr
  isplitl [Hf]; · iexact Hf
  isplitl [Hw]; · iexact Hw
  isplitl [Hb]; · iexists _; iexact Hb
  isplitl [Hg]; · iexact Hg
  iexists _
  isplitr
  · ipureintro; exact fun k hk => store_y m c i fy hy k hk
  iexact Hy

/-! ## The maximum and the scaling -/

theorem wp_amaxStep {Q : α → sProp 𝕄} (c : Dev nD) (k' : P F α) :
    iprop(∃ f, aPts (F := F) c c fullShare f)
      ⊢ iprop((aPts c c fullShare (amaxAll m) -∗ WP c k' Q) -∗ WP c (amaxStep c (lmax m c) k') Q) := by
  unfold amaxStep aPts
  iintro ⟨%f, Ha⟩ Hk
  iapply (wp_load_rect 𝒱₀ (c : Thread nD τ) none Set.univ (m := aM) (Finset.Subset.antisymm_iff.mp (aStoreV_set c)).1) $$ Ha; iintro Ha
  iapply (wp_store 𝒱₀ (c : Thread nD τ) none Set.univ (m := aM) (r := Rect.unit (s := S32x8x128) (k0_off6 c) S1x8x128.size (k0_off6_inb c)) (Mk := Finset.univ) (Finset.Subset.antisymm_iff.mp (aStoreV_set c)).1) $$ Ha; iintro Ha
  iapply Hk
  iapply (Entails.of_eq (pointsTo_congr fun k hk => store_a m c f k ((aStoreV_set c).symm ▸ hk))); iexact Ha

omit [FloatOps F] in
theorem read_a (f : Vec F S32x8x128 .f32) :
    (aM : Memref sig .tc .vmem S32x8x128 .f32).view.readAt (Elt F) (Rect.unit (s := S32x8x128) ![0, 0, 0] S32x8x128.size inb_S32x8x128_S32x8x128_0_0_0).toLoadRect f = f :=
  Memref.readAt_unit_zero (Elt F) cc0_scratch4 hz3 _ f
omit [FloatOps F] in
theorem read_o (f : Vec F S128x8192 .f32) :
    (oM : Memref sig .tc .vmem S128x8192 .f32).view.readAt (Elt F) (Rect.unit (s := S128x8192) ![0, 0] S128x8192.size inb_S128x8192_S128x8192_0_0).toLoadRect f = f :=
  Memref.readAt_unit_zero (Elt F) cc0_stg1_0 hz2 _ f
omit [FloatOps F] in
theorem write_o (f w : Vec F S128x8192 .f32) :
    ((oM : Memref sig .tc .vmem S128x8192 .f32).access (Rect.unit (s := S128x8192) ![0, 0] S128x8192.size inb_S128x8192_S128x8192_0_0) : View sig .tc _ _ _).write (Elt F) f w Finset.univ = w :=
  Memref.write_access_unit_zero_univ (Elt F) cc0_stg1_0 hz2 _ f w

theorem wp_quant {Q : α → sProp 𝕄} (c : Dev nD) (k' : P F α) :
    iprop(whole c cc0_scratch4 (amaxAll m) ∗ whole c cc0_stg1_0 (yAll m c))
      ⊢ iprop(((whole c cc0_scratch4 (amaxAll m) ∗ whole c cc0_stg1_0 (outAt m c)) -∗ WP c k' Q) -∗ WP c (quantStep k') Q) := by
  unfold quantStep
  iintro ⟨Ha, Hy⟩ Hk
  iapply (wp_load 𝒱₀ (c : Thread nD τ) none Set.univ (m := aM) (Finset.subset_univ _)) $$ Ha; iintro Ha
  rw [read_a]
  iapply (wp_load 𝒱₀ (c : Thread nD τ) none Set.univ (m := oM) (Finset.subset_univ _)) $$ Hy; iintro Hy
  rw [read_o]
  iapply (wp_load 𝒱₀ (c : Thread nD τ) none Set.univ (m := oM) (Finset.subset_univ _)) $$ Hy; iintro Hy
  iapply (wp_store 𝒱₀ (c : Thread nD τ) none Set.univ (m := oM) (r := Rect.unit (s := S128x8192) ![0, 0] S128x8192.size inb_S128x8192_S128x8192_0_0) (Mk := Finset.univ) (Finset.subset_univ _)) $$ Hy; iintro Hy
  rw [write_o]
  iapply Hk
  isplitl [Ha]; · iexact Ha
  iexact Hy

end Cert.KernelIdeal.A2A

end
-- ==== Proof.Phases.lean ====
/- The kernel in four stretches, each from what it takes to what it leaves. -/
module

public import proofs.«01_k».proof.Proof.Vectors

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ) (K : Dev nD × CK → ℕ)
variable {α : Type}

/-! ## Entry, rounding, sending the rows -/

theorem wp_phase1 {Q : α → sProp 𝕄} (c : Dev nD) (k' : P F α) :
    iprop(recs m K ∗ ow c (O₀ c)
        ∗ (bigSep Finset.univ fun t : Fin 31 => dutyTok ER (barC (peer c t)) 0 c)
        ∗ cred (tallyAt (barC c) () 31) ∗ atPos ER (barC c) 0 ∅ 0
        ∗ (bigSep Finset.univ fun t : Fin 31 => iprop(dutyTok ER (oc c (kS (peer c t))) 0 0 ∗ dutyTok ER (oc (peer c t) (kR c)) 0 0))
        ∗ dutyTok ER (oc c kOwn) 0 0
        ∗ whole c cc0_stg0_0 (xstg m c) ∗ (∃ f, whole (F := F) c cc0_scratch0 f) ∗ (∃ f, whole (F := F) c cc0_scratch1 f) ∗ (∃ f, whole (F := F) c cc0_scratch4 f))
      ⊢ iprop(((ow c (owA c 0) ∗ atPos ER (barC c) 1 ∅ 0 ∗ whole c cc0_stg0_0 (xstg m c)
          ∗ cred (tallyAt (oc c kOwn) () NX)
          ∗ (bigSep Finset.univ fun t : Fin 31 => cred (tallyAt (oc c (kS (peer c t))) () NX))
          ∗ (bigSep Finset.univ fun t : Fin 31 => iprop(∃ f, aPts (F := F) (peer c t) c fullShare f))
          ∗ (∃ f, aPts (F := F) c c fullShare f)) -∗ WP c k' Q)
        -∗ WP c (phase1 c k') Q) := by
  unfold phase1 O₀
  iintro ⟨#HR, HO, Hsig, Hcb, Hab, Hts, Hto, Hx, Hh, Hg, Ha⟩ Hk
  ihave Hg := (g_open (F := F) c) $$ Hg
  ihave Hg := (Entails.of_eq (bigSep_peers c (fun j => iprop(∃ f, gPts (F := F) c j f)))) $$ Hg
  icases Hg with ⟨Hgo, Hgs⟩
  ihave Ha := (a_open (F := F) c) $$ Ha
  ihave Ha := (Entails.of_eq (bigSep_peers c (fun j => iprop(∃ f, aPts (F := F) c j fullShare f)))) $$ Ha
  icases Ha with ⟨Hao, Has⟩
  iapply (wp_steps c (sigStep c) _ (fun n => iprop(recs m K ∗ ow c (owB c n + (owR c 0 + owA c 0))))
    (fun t => iprop(dutyTok ER (barC (peer c t)) 0 c ∗ lend (F := F) (peer c t) c)) (fun _ => iprop(emp))
    (fun t k' => wp_sig m K c (owR c 0 + owA c 0) t k')) $$ [HO Hsig Hgs Has]
  · isplitl [HO]
    · isplitr; · iexact HR
      iexact HO
    iapply (Entails.of_eq (bigSep_zip (F := F) _ _).symm)
    isplitl [Hsig]; · iexact Hsig
    unfold lend
    iapply (Entails.of_eq (bigSep_zip (F := F) _ _).symm)
    isplitl [Hgs]; · iexact Hgs
    iexact Has
  iintro ⟨⟨-, HO⟩, -⟩
  ihave HO := (Entails.of_eq (show (ow c (owB c 31 + (owR c 0 + owA c 0)) : sProp 𝕄) = ow c (owR c 0 + owA c 0) by rw [show owB c 31 = 0 from tal_end _ 1, zero_add])) $$ HO
  iapply (wp_bar m K c _) $$ [HO Hcb Hab]
  · isplitr; · iexact HR
    isplitl [HO]; · iexact HO
    isplitl [Hcb] <;> iassumption
  iintro ⟨HO, Hab, Hl⟩
  unfold lend
  ihave Hl := (Entails.of_eq (bigSep_zip (F := F) (fun t : Fin 31 => iprop(∃ f, gPts (F := F) (peer c t) c f)) (fun t : Fin 31 => iprop(∃ f, aPts (F := F) (peer c t) c fullShare f)))) $$ Hl
  icases Hl with ⟨Hgp, Hap⟩
  iapply (wp_round m c _) $$ [Hx Hh]
  · isplitl [Hx] <;> iassumption
  iintro ⟨Hx, Hh⟩
  ihave Hh := (Entails.of_eq (bigSep_peers c (fun j => hPts c j (x16 m c)))) $$ Hh
  icases Hh with ⟨Hho, Hhs⟩
  iapply (wp_steps c (sendStep c) _ (fun n => iprop(recs m K ∗ ow c (owR c n + owA c 0)))
    (fun t => iprop(hPts c (peer c t) (x16 m c) ∗ (∃ f, gPts (F := F) (peer c t) c f)
        ∗ dutyTok ER (oc c (kS (peer c t))) 0 0 ∗ dutyTok ER (oc (peer c t) (kR c)) 0 0)) (fun t => cred (tallyAt (oc c (kS (peer c t))) () NX))
    (fun t k' => wp_sendStep m K c (owA c 0) t k')) $$ [HO Hhs Hgp Hts]
  · isplitl [HO]
    · isplitr; · iexact HR
      iexact HO
    iapply (Entails.of_eq (bigSep_zip (F := F) _ _).symm)
    isplitl [Hhs]; · iexact Hhs
    iapply (Entails.of_eq (bigSep_zip (F := F) _ _).symm)
    isplitl [Hgp] <;> iassumption
  iintro ⟨⟨-, HO⟩, Hcs⟩
  ihave HO := (Entails.of_eq (show (ow c (owR c 31 + owA c 0) : sProp 𝕄) = ow c (owA c 0) by rw [show owR c 31 = 0 from tal_end _ NX, zero_add])) $$ HO
  iapply (wp_ownStep m K c _) $$ [Hho Hgo Hto]
  · isplitr; · iexact HR
    isplitl [Hho]; · iexact Hho
    isplitl [Hgo] <;> iassumption
  iintro Hco
  iapply Hk
  isplitl [HO]; · iexact HO
  isplitl [Hab]; · iexact Hab
  isplitl [Hx]; · iexact Hx
  isplitl [Hco]; · iexact Hco
  isplitl [Hcs]; · iexact Hcs
  isplitl [Hap] <;> iassumption

end Cert.KernelIdeal.A2A

end
-- ==== Proof.Tiles.lean ====
/- The sixteen column tiles, and the arrival of the rows before them. -/
module

public import proofs.«01_k».proof.Proof.Vectors

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ) (K : Dev nD × CK → ℕ)
variable {α : Type}

/-! ## The rows arrive -/

theorem wp_rows {Q : α → sProp 𝕄} (c : Dev nD) (k' : P F α) :
    iprop(recs m K ∗ ow c (owA c 0)
        ∗ (bigSep Finset.univ fun j : Dev nD => atPos ER (oc c (kR j)) 0 ∅ 0)
        ∗ (bigSep Finset.univ fun j : Dev nD => if j = c then iprop(emp) else cred (tallyAt (oc c (kR j)) () NX))
        ∗ cred (tallyAt (oc c kOwn) () NX) ∗ atPos ER (oc c kOwn) 0 ∅ 0
        ∗ (bigSep Finset.univ fun t : Fin 31 => cred (tallyAt (oc c (kS (peer c t))) () NX))
        ∗ (bigSep Finset.univ fun t : Fin 31 => atPos ER (oc c (kS (peer c t))) 0 ∅ 0))
      ⊢ iprop(((ow c (owA c 0)
          ∗ (bigSep Finset.univ fun j : Dev nD => atPos ER (oc c (kR j)) (kend c (.inl (kR j))) ∅ 0)
          ∗ atPos ER (oc c kOwn) 1 ∅ 0
          ∗ (bigSep Finset.univ fun t : Fin 31 => atPos ER (oc c (kS (peer c t))) 1 ∅ 0)
          ∗ whole c cc0_scratch0 (x16 m c) ∗ whole c cc0_scratch1 (gat m c)) -∗ WP c k' Q)
        -∗ WP c (stepsFrom 32 (recvStep (meW c)) (ownWait c (stepsFrom 31 (sendWait c) k' 31 (Nat.le_refl _))) 32 (Nat.le_refl _)) Q) := by
  iintro ⟨#HR, HO, Har, Hcr, Hco, Hao, Hcs, Has⟩ Hk
  iapply (wp_steps c (recvStep (meW c)) _ (fun _ => iprop(recs m K ∗ ow c (owA c 0)))
    (fun j : Dev nD => iprop(atPos ER (oc c (kR j)) 0 ∅ 0 ∗ (if j = c then iprop(emp) else cred (tallyAt (oc c (kR j)) () NX))))
    (fun j : Dev nD => iprop(atPos ER (oc c (kR j)) (kend c (.inl (kR j))) ∅ 0 ∗ (if j = c then iprop(emp) else gPts c j (gat m c))))
    (fun j k' => wp_recvStep m K c j k')) $$ [HO Har Hcr]
  · isplitl [HO]
    · isplitr; · iexact HR
      iexact HO
    iapply (Entails.of_eq (bigSep_zip (F := F) _ _).symm)
    isplitl [Har] <;> iassumption
  iintro ⟨⟨-, HO⟩, H⟩
  ihave H := (Entails.of_eq (bigSep_zip (F := F) (fun j : Dev nD => atPos ER (oc c (kR j)) (kend c (.inl (kR j))) ∅ 0) (fun j : Dev nD => if j = c then iprop(emp) else gPts c j (gat m c)))) $$ H
  icases H with ⟨Har, Hg⟩
  ihave Hg := (Entails.of_eq (bigSep_others (F := F) c (fun j => gPts c j (gat m c)))) $$ Hg
  iapply (wp_ownWait m K c _) $$ [HO Hco Hao]
  · isplitr; · iexact HR
    isplitl [HO]; · iexact HO
    isplitl [Hco] <;> iassumption
  iintro ⟨HO, Hao, Hgo, Hho⟩
  iapply (wp_steps c (sendWait c) _ (fun _ => iprop(recs m K ∗ ow c (owA c 0)))
    (fun t => iprop(cred (tallyAt (oc c (kS (peer c t))) () NX) ∗ atPos ER (oc c (kS (peer c t))) 0 ∅ 0))
    (fun t => iprop(atPos ER (oc c (kS (peer c t))) 1 ∅ 0 ∗ hPts c (peer c t) (x16 m c)))
    (fun t k' => wp_sendWait m K c t k')) $$ [HO Hcs Has]
  · isplitl [HO]
    · isplitr; · iexact HR
      iexact HO
    iapply (Entails.of_eq (bigSep_zip (F := F) _ _).symm)
    isplitl [Hcs] <;> iassumption
  iintro ⟨⟨-, HO⟩, H⟩
  ihave H := (Entails.of_eq (bigSep_zip (F := F) (fun t : Fin 31 => atPos ER (oc c (kS (peer c t))) 1 ∅ 0) (fun t : Fin 31 => hPts c (peer c t) (x16 m c)))) $$ H
  icases H with ⟨Has, Hh⟩
  iapply Hk
  isplitl [HO]; · iexact HO
  isplitl [Har]; · iexact Har
  isplitl [Hao]; · iexact Hao
  isplitl [Has]; · iexact Has
  isplitl [Hho Hh]
  · iapply (Entails.of_eq ((h_cut c (x16 m c)).trans (bigSep_peers c (fun j => hPts c j (x16 m c)))).symm)
    isplitl [Hho] <;> iassumption
  iapply (Entails.of_eq ((g_cut c (gat m c)).trans (bigSep_peers c (fun j => gPts c j (gat m c)))).symm)
  isplitl [Hgo] <;> iassumption

/-! ## The tiles -/

/-- The slot of the `n`-th tile. -/
abbrev slN (n : ℕ) : Fin 2 := ⟨n % 2, Nat.mod_lt _ (by decide)⟩

theorem slN_two (n : ℕ) : slN (n + 1 + 1) = slN n := Fin.ext (by show (n + 1 + 1) % 2 = n % 2; omega)

omit [FloatOps F] in
theorem fPts_slot (c : Dev nD) (i : Fin 16) (f : Vec F S2x4096x512 .f32) : fPts c i f = fPts c (slot (sl i)) f := by
  have h : fSet i = fSet (slot (sl i)) := Finset.ext fun k => by
    rw [mem_fAt, mem_fAt]
    show _ = i.val % 2 ↔ _ = (i.val % 2) % 2
    rw [Nat.mod_mod]
  exact congrArg (fun S : Finset (Idx ((c : Thread nD τ).loc cc0_scratch2)) => (((c : Thread nD τ).loc cc0_scratch2) ↦[S]{fullShare} f : sProp 𝕄)) h

/-- Between tiles: the next tile is on its way into its slot, the other slot is free. -/
def tInv (c : Dev nD) (n : ℕ) : sProp 𝕄 :=
  iprop((recs m K ∗ ow c (owA c 0)) ∗ cred (tallyAt (oc c (kW (slN n))) () NW) ∗ atPos ER (oc c (kW (slN n))) (n / 2) ∅ 0
    ∗ (∃ f, fPts (F := F) c (slot (slN (n + 1))) f) ∗ atPos ER (oc c (kW (slN (n + 1)))) ((n + 1) / 2) ∅ 0
    ∗ reached ER (oc c (kW (slN (n + 1)))) ((n + 1) / 2)
    ∗ (∃ f, whole (F := F) c cc0_scratch3 f) ∗ whole c cc0_scratch1 (gat m c) ∗ yPts m c n)

theorem wp_tile {Q : α → sProp 𝕄} (c : Dev nD) (i : Fin 15) (k' : F .f32 → P F α) :
    iprop(tInv m K c i.val ∗ (dutyTok ER (oc c (kW (sl i.succ))) (i.succ.val / 2) 0 ∗ wPts m c i.succ))
      ⊢ iprop(((tInv m K c (i.val + 1) ∗ wPts m c i.castSucc) -∗ WP c (k' (acc m c (i.val + 1))) Q)
        -∗ WP c (wStart ⟨i.val + 1, by omega⟩ (tileStep ⟨i.val, by omega⟩ (acc m c i.val) k')) Q) := by
  unfold tInv
  rw [slN_two, show (i.val + 1 + 1) / 2 = i.val / 2 + 1 by omega]
  iintro ⟨⟨⟨#HR, HO⟩, Hc, Hat, ⟨%ff, Hf⟩, Hat', Hr', Hb, Hg, Hy⟩, Ht, Hw⟩ Hk
  iapply (wp_wStart m K c i.succ _) $$ [Hw Hf Ht Hr']
  · isplitr; · iexact HR
    isplitl [Hw]; · iexact Hw
    isplitl [Hf]
    · iexists ff
      iapply (Entails.of_eq (fPts_slot c i.succ ff).symm); iexact Hf
    isplitl [Ht]; · iexact Ht
    iexact Hr'
  iintro Hc'
  iapply (wp_tileStep m K c i.castSucc k') $$ [HO Hc Hat Hb Hg Hy]
  · isplitr; · iexact HR
    isplitl [HO]; · iexact HO
    isplitl [Hc]; · iexact Hc
    isplitl [Hat]; · iexact Hat
    isplitl [Hb]; · iexact Hb
    isplitl [Hg]; · iexact Hg
    iexact Hy
  iintro ⟨HO, Hat, Hr, Hf, Hw, Hb, Hg, Hy⟩
  iapply Hk
  isplitr [Hw]
  · isplitl [HO]
    · isplitr; · iexact HR
      iexact HO
    isplitl [Hc']; · iexact Hc'
    isplitl [Hat']; · iexact Hat'
    isplitl [Hf]
    · iexists (ftile m c i.castSucc)
      iapply (Entails.of_eq (fPts_slot c i.castSucc (ftile m c i.castSucc))); iexact Hf
    isplitl [Hat]; · iexact Hat
    isplitl [Hr]; · iexact Hr
    isplitl [Hb]; · iexact Hb
    isplitl [Hg]; · iexact Hg
    iexact Hy
  iexact Hw

theorem bigSep_first {n : ℕ} (Φ : Fin (n + 1) → sProp 𝕄) : bigSep Finset.univ Φ = iprop(Φ 0 ∗ bigSep Finset.univ (fun i : Fin n => Φ i.succ)) := by
  rw [Fin.univ_succ, Finset.cons_eq_insert, bigSep_insert (by simp), bigSep_map]; rfl
theorem bigSep_last {n : ℕ} (Φ : Fin (n + 1) → sProp 𝕄) : bigSep Finset.univ Φ = iprop(Φ (Fin.last n) ∗ bigSep Finset.univ (fun i : Fin n => Φ i.castSucc)) := by
  rw [Fin.univ_castSuccEmb, Finset.cons_eq_insert, bigSep_insert (by simp), bigSep_map]; rfl

theorem yPts_all (c : Dev nD) : yPts m c 16 ⊢ whole c cc0_stg1_0 (yAll m c) := by
  unfold yPts
  iintro ⟨%f, %hf, H⟩
  ihave H' := (Entails.of_eq (congrArg (fun g => (whole c cc0_stg1_0 g : sProp 𝕄)) (funext fun k => hf k (k 1).isLt : f = yAll m c))) $$ H
  iexact H'

/-- The tiles, the first of which has been asked for. -/
theorem wp_tiles {Q : α → sProp 𝕄} (c : Dev nD) (k' : F .f32 → P F α) :
    iprop(tInv m K c 0 ∗ (bigSep Finset.univ fun i : Fin 15 => dutyTok ER (oc c (kW (sl i.succ))) (i.succ.val / 2) 0)
        ∗ (bigSep Finset.univ fun i : Fin 15 => wPts m c i.succ))
      ⊢ iprop(((ow c (owA c 0) ∗ (bigSep Finset.univ fun s : Fin 2 => atPos ER (oc c (kW s)) 8 ∅ 0)
          ∗ (∃ f, whole (F := F) c cc0_scratch2 f) ∗ (∃ f, whole (F := F) c cc0_scratch3 f) ∗ whole c cc0_scratch1 (gat m c)
          ∗ whole c main_arg1 (warg m c) ∗ whole c cc0_stg1_0 (yAll m c)) -∗ WP c (k' (lmax m c)) Q)
        -∗ WP c (tiles k') Q) := by
  show _ ⊢ iprop(_ -∗ WP c (loopFrom 15 (fun i acc k' => wStart ⟨i.val + 1, by omega⟩ (tileStep ⟨i.val, by omega⟩ acc k'))
    (fun acc => tileStep 15 acc k') 15 (Nat.le_refl _) (acc m c 0)) Q)
  iintro ⟨HI, Ht, Hw⟩ Hk
  iapply (wp_loop c _ _ (acc m c) (tInv m K c)
    (fun i : Fin 15 => iprop(dutyTok ER (oc c (kW (sl i.succ))) (i.succ.val / 2) 0 ∗ wPts m c i.succ)) (fun i : Fin 15 => wPts m c i.castSucc)
    (fun i k' => wp_tile m K c i k')) $$ [HI Ht Hw]
  · isplitl [HI]; · iexact HI
    iapply (Entails.of_eq (bigSep_zip (F := F) _ _).symm)
    isplitl [Ht] <;> iassumption
  unfold tInv
  iintro ⟨⟨⟨#HR, HO⟩, Hc, Hat, ⟨%ff, Hf⟩, Hat', -, Hb, Hg, Hy⟩, Hw⟩
  iapply (wp_tileStep m K c (Fin.last 15) k') $$ [HO Hc Hat Hb Hg Hy]
  · isplitr; · iexact HR
    isplitl [HO]; · iexact HO
    isplitl [Hc]; · iexact Hc
    isplitl [Hat]; · iexact Hat
    isplitl [Hb]; · iexact Hb
    isplitl [Hg]; · iexact Hg
    iexact Hy
  iintro ⟨HO, Hat, -, Hf', Hw', Hb, Hg, Hy⟩
  iapply Hk
  isplitl [HO]; · iexact HO
  isplitl [Hat Hat']
  · iapply (Entails.of_eq (bigSep_first (F := F) (fun s : Fin 2 => atPos ER (oc c (kW s)) 8 ∅ 0)).symm)
    isplitl [Hat']; · iexact Hat'
    iapply (Entails.of_eq (bigSep_univ_of_subsingleton (Φ := fun s : Fin 1 => atPos ER (oc c (kW s.succ)) 8 ∅ 0) 0).symm)
    iexact Hat
  isplitl [Hf Hf']
  · iapply (f_join c ff)
    iapply (Entails.of_eq (bigSep_first (F := F) (fun s : Fin 2 => iprop(∃ f, fPts (F := F) c (slot s) f))).symm)
    isplitl [Hf]; · iexists ff; iexact Hf
    iapply (Entails.of_eq (bigSep_univ_of_subsingleton (Φ := fun s : Fin 1 => iprop(∃ f, fPts (F := F) c (slot s.succ) f)) 0).symm)
    iexists (ftile m c (Fin.last 15))
    iapply (Entails.of_eq (fPts_slot c (Fin.last 15) (ftile m c (Fin.last 15)))); iexact Hf'
  isplitl [Hb]; · iexact Hb
  isplitl [Hg]; · iexact Hg
  isplitl [Hw Hw']
  · iapply (Entails.of_eq ((w_cut c m).trans (bigSep_last (fun j : Fin 16 => wPts m c j))).symm)
    isplitl [Hw'] <;> iassumption
  iapply (yPts_all m c); iexact Hy

end Cert.KernelIdeal.A2A

end
-- ==== Proof.Maxima.lean ====
/- The exchange of the maxima and the quantisation. -/
module

public import proofs.«01_k».proof.Proof.Vectors

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ) (K : Dev nD × CK → ℕ)
variable {α : Type}

/-- The shares of the own row, all together. -/
theorem a_deal (c : Dev nD) (f : Vec F S32x8x128 .f32) :
    (aPts c c fullShare f : sProp 𝕄) = iprop(aPts c c (aShare c) f ∗ bigSep Finset.univ (fun t : Fin 31 => aPts c c (aShare (peer c t)) f)) := by
  rw [← bigSep_peers c (fun j => aPts c c (aShare j) f)]
  unfold aPts
  exact pointsTo_deal Finset.univ ⟨c, Finset.mem_univ c⟩ fullShare

theorem wp_phase3 {Q : α → sProp 𝕄} (c : Dev nD) (k' : P F α) :
    iprop(recs m K ∗ ow c (owA c 0) ∗ (∃ f, aPts (F := F) c c fullShare f)
        ∗ (bigSep Finset.univ fun t : Fin 31 => iprop(∃ f, aPts (F := F) (peer c t) c fullShare f))
        ∗ (bigSep Finset.univ fun t : Fin 31 => iprop(dutyTok ER (oc c (kAS (peer c t))) 0 0 ∗ dutyTok ER (oc (peer c t) (kAR c)) 0 0))
        ∗ (bigSep Finset.univ fun j : Dev nD => atPos ER (oc c (kAR j)) 0 ∅ 0)
        ∗ (bigSep Finset.univ fun j : Dev nD => if j = c then iprop(emp) else cred (tallyAt (oc c (kAR j)) () NA))
        ∗ (bigSep Finset.univ fun t : Fin 31 => atPos ER (oc c (kAS (peer c t))) 0 ∅ 0)
        ∗ whole c cc0_stg1_0 (yAll m c))
      ⊢ iprop(((ow c 0
          ∗ (bigSep Finset.univ fun j : Dev nD => atPos ER (oc c (kAR j)) (kend c (.inl (kAR j))) ∅ 0)
          ∗ (bigSep Finset.univ fun t : Fin 31 => atPos ER (oc c (kAS (peer c t))) 1 ∅ 0)
          ∗ whole c cc0_scratch4 (amaxAll m) ∗ whole c cc0_stg1_0 (outAt m c)) -∗ WP c k' Q)
        -∗ WP c (phase3 c (lmax m c) k') Q) := by
  unfold phase3 phase4
  iintro ⟨#HR, HO, Ha, Hap, Ht, Har, Hcr, Has, Hy⟩ Hk
  iapply (wp_amaxStep m c _) $$ Ha
  iintro Ha
  ihave Ha := (Entails.of_eq (a_deal c (amaxAll m))) $$ Ha
  icases Ha with ⟨Hao, Hash⟩
  ihave HO := (Entails.of_eq (congrArg (fun O => (ow c O : sProp 𝕄)) (add_zero (owA c 0)).symm)) $$ HO
  iapply (wp_steps c (asendStep c) _ (fun n => iprop(recs m K ∗ ow c (owA c n + 0)))
    (fun t => iprop(aPts c c (aShare (peer c t)) (amaxAll m) ∗ (∃ f, aPts (F := F) (peer c t) c fullShare f)
        ∗ dutyTok ER (oc c (kAS (peer c t))) 0 0 ∗ dutyTok ER (oc (peer c t) (kAR c)) 0 0)) (fun t => cred (tallyAt (oc c (kAS (peer c t))) () NA))
    (fun t k' => wp_asendStep m K c 0 t k')) $$ [HO Hash Hap Ht]
  · isplitl [HO]
    · isplitr; · iexact HR
      iexact HO
    iapply (Entails.of_eq (bigSep_zip (F := F) _ _).symm)
    isplitl [Hash]; · iexact Hash
    iapply (Entails.of_eq (bigSep_zip (F := F) _ _).symm)
    isplitl [Hap] <;> iassumption
  iintro ⟨⟨-, HO⟩, Hcs⟩
  ihave HO := (Entails.of_eq (show (ow c (owA c 31 + 0) : sProp 𝕄) = ow c 0 by rw [show owA c 31 = 0 from tal_end _ NA, zero_add])) $$ HO
  iapply (wp_steps c (arecvStep (meW c)) _ (fun _ => iprop(recs m K ∗ ow c 0))
    (fun j : Dev nD => iprop(atPos ER (oc c (kAR j)) 0 ∅ 0 ∗ (if j = c then iprop(emp) else cred (tallyAt (oc c (kAR j)) () NA))))
    (fun j : Dev nD => iprop(atPos ER (oc c (kAR j)) (kend c (.inl (kAR j))) ∅ 0 ∗ (if j = c then iprop(emp) else aPts c j fullShare (amaxAll m))))
    (fun j k' => wp_arecvStep m K c j k')) $$ [HO Har Hcr]
  · isplitl [HO]
    · isplitr; · iexact HR
      iexact HO
    iapply (Entails.of_eq (bigSep_zip (F := F) _ _).symm)
    isplitl [Har] <;> iassumption
  iintro ⟨⟨-, HO⟩, H⟩
  ihave H := (Entails.of_eq (bigSep_zip (F := F) (fun j : Dev nD => atPos ER (oc c (kAR j)) (kend c (.inl (kAR j))) ∅ 0) (fun j : Dev nD => if j = c then iprop(emp) else aPts c j fullShare (amaxAll m)))) $$ H
  icases H with ⟨Har, Hg⟩
  ihave Hg := (Entails.of_eq (bigSep_others (F := F) c (fun j => aPts c j fullShare (amaxAll m)))) $$ Hg
  iapply (wp_steps c (asendWait c) _ (fun _ => iprop(recs m K ∗ ow c 0))
    (fun t => iprop(cred (tallyAt (oc c (kAS (peer c t))) () NA) ∗ atPos ER (oc c (kAS (peer c t))) 0 ∅ 0))
    (fun t => iprop(atPos ER (oc c (kAS (peer c t))) 1 ∅ 0 ∗ aPts c c (aShare (peer c t)) (amaxAll m)))
    (fun t k' => wp_asendWait m K c t k')) $$ [HO Hcs Has]
  · isplitl [HO]
    · isplitr; · iexact HR
      iexact HO
    iapply (Entails.of_eq (bigSep_zip (F := F) _ _).symm)
    isplitl [Hcs] <;> iassumption
  iintro ⟨⟨-, HO⟩, H⟩
  ihave H := (Entails.of_eq (bigSep_zip (F := F) (fun t : Fin 31 => atPos ER (oc c (kAS (peer c t))) 1 ∅ 0) (fun t : Fin 31 => aPts c c (aShare (peer c t)) (amaxAll m)))) $$ H
  icases H with ⟨Has, Hsh⟩
  iapply (wp_quant m c k') $$ [Hao Hsh Hg Hy]
  · isplitr [Hy]
    · iapply (Entails.of_eq ((a_cut c (amaxAll m)).trans (bigSep_peers c (fun j => aPts c j fullShare (amaxAll m)))).symm)
      isplitl [Hao Hsh]
      · iapply (Entails.of_eq (a_deal c (amaxAll m)).symm)
        isplitl [Hao] <;> iassumption
      iexact Hg
    iexact Hy
  iintro ⟨Ha, Hy⟩
  iapply Hk
  isplitl [HO]; · iexact HO
  isplitl [Har]; · iexact Har
  isplitl [Has]; · iexact Has
  isplitl [Ha] <;> iassumption

end Cert.KernelIdeal.A2A

end
-- ==== Proof.Body.lean ====
/- The kernel's body on one device: what it starts from, what it leaves, and that it runs from the one to the other. -/
module

public import proofs.«01_k».proof.Proof.Phases
public import proofs.«01_k».proof.Proof.Tiles
public import proofs.«01_k».proof.Proof.Maxima
public import proofs.«01_k».proof.Proof.PrintedC
public import Idealize.ShloMosaic.Lib.Pipeline.Launch

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ) (K : Dev nD × CK → ℕ)

/-! ## A device's cells -/

/-- The cells kind by kind. -/
theorem bigSep_cells (Φ : CK → sProp 𝕄) : bigSep Finset.univ Φ =
    iprop(((bigSep Finset.univ fun j : Dev nD => Φ (.inl (kS j))) ∗ (bigSep Finset.univ fun j : Dev nD => Φ (.inl (kR j)))
      ∗ (bigSep Finset.univ fun j : Dev nD => Φ (.inl (kAS j))) ∗ (bigSep Finset.univ fun j : Dev nD => Φ (.inl (kAR j)))
      ∗ Φ (.inl kOwn) ∗ (bigSep Finset.univ fun s : Fin 2 => Φ (.inl (kW s)))) ∗ Φ (.inr ())) := by
  rw [bigSep_univ_sum, bigSep_univ_sum, bigSep_univ_sum, bigSep_univ_sum, bigSep_univ_sum, bigSep_univ_sum,
    bigSep_univ_of_subsingleton (Φ := fun b : Unit => Φ (.inr b)) (), bigSep_univ_of_subsingleton (Φ := fun b : Unit => Φ (.inl (.inr (.inr (.inr (.inr (.inl b))))))) ()]
  rfl

/-- The end of a family of semaphores one for each peer: the device's own was never used. -/
theorem ends_peers (c : Dev nD) (g : Dev nD → GSem nD τ sig) :
    (iprop(atPos ER (g c) 0 ∅ 0 ∗ bigSep Finset.univ (fun t : Fin 31 => atPos ER (g (peer c t)) 1 ∅ 0)) : sProp 𝕄)
      = bigSep Finset.univ (fun j : Dev nD => atPos ER (g j) (if j = c then 0 else 1) ∅ 0) := by
  rw [bigSep_peers c (fun j : Dev nD => atPos ER (g j) (if j = c then 0 else 1) ∅ 0), if_pos rfl]
  exact congrArg (fun X => iprop(atPos ER (g c) 0 ∅ 0 ∗ X)) (bigSep_congr fun t _ => by rw [if_neg (peer_ne c t)])

/-- Every cell at its end is closed, and its counter reads zero. -/
theorem close_all (c : Dev nD) :
    iprop(recs m K ∗ bigSep Finset.univ fun k : CK => atPos ER (cell c k) (kend c k) ∅ 0)
      ⊢ (|={Set.univ}=> bigSep Finset.univ fun k : CK => semVal (cell c k) 0 : sProp 𝕄) := by
  iintro ⟨#HR, Hat⟩
  iapply (cells_close ER (Rd m) Finset.univ (fun k : CK => cell c k) (fun k => K (c, k)) (fun k _ => Set.mem_univ _) (fun _ _ h => h) (kend c)
    (fun k _ r hr => (Rd_duties m c k r).trans (kduties_end c k r hr)))
  iapply (Entails.of_eq (bigSep_zip (F := F) (fun k : CK => cellInv ER (Rd m) (K (c, k)) (cell c k)) (fun k : CK => atPos ER (cell c k) (kend c k) ∅ 0)).symm)
  isplitr
  · iapply ((bigSep_of_persistent (Finset.univ : Finset CK) (recs m K)).trans (bigSep_mono' fun k => recs_inv m K c k)); iexact HR
  iexact Hat

/-! ## The pipeline's data -/

variable (ρ : Dev nD → PrngReg)

/-- The tokens of the payments device `c` makes. -/
def payToks (c : Dev nD) : sProp 𝕄 :=
  iprop((bigSep Finset.univ fun t : Fin 31 => dutyTok ER (barC (peer c t)) 0 c)
    ∗ (bigSep Finset.univ fun t : Fin 31 => iprop(dutyTok ER (oc c (kS (peer c t))) 0 0 ∗ dutyTok ER (oc (peer c t) (kR c)) 0 0))
    ∗ (bigSep Finset.univ fun t : Fin 31 => iprop(dutyTok ER (oc c (kAS (peer c t))) 0 0 ∗ dutyTok ER (oc (peer c t) (kAR c)) 0 0))
    ∗ dutyTok ER (oc c kOwn) 0 0
    ∗ (bigSep Finset.univ fun i : Fin 16 => dutyTok ER (oc c (kW (sl i))) (i.val / 2) 0))

/-- The credits device `c` is launched with: what its peers owe it. -/
def credits (c : Dev nD) : sProp 𝕄 :=
  iprop(cred (tallyAt (barC c) () 31)
    ∗ (bigSep Finset.univ fun j : Dev nD => if j = c then iprop(emp) else cred (tallyAt (oc c (kR j)) () NX))
    ∗ (bigSep Finset.univ fun j : Dev nD => if j = c then iprop(emp) else cred (tallyAt (oc c (kAR j)) () NA)))

/-- The positions and tokens device `c` starts from. -/
def own (c : Dev nD) : sProp 𝕄 := iprop((bigSep Finset.univ fun k : CK => atPos ER (cell c k) 0 ∅ 0) ∗ payToks c)

/-- What device `c`'s body starts from. -/
def start (c : Dev nD) : sProp 𝕄 := iprop((∃ K, recs m K ∗ own (F := F) c) ∗ credits (F := F) c ∗ whole c main_arg1 (warg m c))

/-- The scratch buffers, at any contents. -/
def scratch (c : Dev nD) : sProp 𝕄 :=
  iprop((∃ f, whole (F := F) c cc0_scratch0 f) ∗ (∃ f, whole (F := F) c cc0_scratch1 f) ∗ (∃ f, whole (F := F) c cc0_scratch2 f)
    ∗ (∃ f, whole (F := F) c cc0_scratch3 f) ∗ (∃ f, whole (F := F) c cc0_scratch4 f))

def Φ₀ (c : Dev nD) : sProp 𝕄 := iprop(start m c ∗ scratch (F := F) c)
def Φ₁ (c : Dev nD) : sProp 𝕄 := iprop((whole c main_arg1 (warg m c) ∗ bigSep Finset.univ fun k : CK => semVal (cell c k) 0) ∗ scratch (F := F) c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

/-- The body, from what it starts from to what it leaves. -/
theorem wp_clean (c : Dev nD) (Q : PUnit → sProp 𝕄) :
    iprop(recs m K ∗ own (F := F) c ∗ credits (F := F) c ∗ whole c main_arg1 (warg m c) ∗ scratch (F := F) c ∗ ow c (O₀ c)
        ∗ whole c cc0_stg0_0 (xstg m c) ∗ (∃ f, whole (F := F) c cc0_stg1_0 f))
      ⊢ iprop(((Φ₁ m c ∗ ow c 0 ∗ whole c cc0_stg0_0 (xstg m c) ∗ whole c cc0_stg1_0 (outAt m c)) -∗ Q ⟨⟩) -∗ WP c (clean c) Q) := by
  unfold own payToks credits scratch Φ₁ clean phase2
  rw [bigSep_cells, bigSep_peers c (fun j => atPos ER (cell c (.inl (kS j))) 0 ∅ 0), bigSep_peers c (fun j => atPos ER (cell c (.inl (kAS j))) 0 ∅ 0),
    bigSep_first (fun s : Fin 2 => atPos ER (cell c (.inl (kW s))) 0 ∅ 0), bigSep_univ_of_subsingleton (Φ := fun s : Fin 1 => atPos ER (cell c (.inl (kW s.succ))) 0 ∅ 0) 0,
    bigSep_first (fun i : Fin 16 => dutyTok ER (oc c (kW (sl i))) (i.val / 2) 0)]
  iintro ⟨#HR, ⟨⟨⟨⟨HaS0, HaS⟩, HaR, ⟨HaAS0, HaAS⟩, HaAR, HaO, HaW0, HaW1⟩, HaB⟩, HtB, HtX, HtA, HtO, HtW0, HtW⟩, ⟨HcB, HcR, HcA⟩, Hw, ⟨Hs0, Hs1, Hs2, Hs3, Hs4⟩, HO, Hx, ⟨%fy, Hy⟩⟩ Hk
  iapply (wp_phase1 m K c _) $$ [HO HtB HcB HaB HtX HtO Hx Hs0 Hs1 Hs4]
  · isplitr; · iexact HR
    isplitl [HO]; · iexact HO
    isplitl [HtB]; · iexact HtB
    isplitl [HcB]; · iexact HcB
    isplitl [HaB]; · iexact HaB
    isplitl [HtX]; · iexact HtX
    isplitl [HtO]; · iexact HtO
    isplitl [Hx]; · iexact Hx
    isplitl [Hs0]; · iexact Hs0
    isplitl [Hs1] <;> iassumption
  iintro ⟨HO, HaB, Hx, HcO, HcS, Hap, Hao⟩
  ihave Hf := (f_open (F := F) c) $$ Hs2
  ihave Hf := (Entails.of_eq (bigSep_first (fun j : Fin 2 => iprop(∃ f, fPts (F := F) c (slot j) f)))) $$ Hf
  icases Hf with ⟨Hf0, Hf1⟩
  ihave Hf1 := (Entails.of_eq (bigSep_univ_of_subsingleton (Φ := fun j : Fin 1 => iprop(∃ f, fPts (F := F) c (slot j.succ) f)) 0)) $$ Hf1
  ihave Hw := (Entails.of_eq ((w_cut c m).trans (bigSep_first (fun j : Fin 16 => wPts m c j)))) $$ Hw
  icases Hw with ⟨Hw0, Hw⟩
  iapply (wp_wStart m K c 0 _) $$ [Hw0 Hf0 HtW0]
  · isplitr; · iexact HR
    isplitl [Hw0]; · iexact Hw0
    isplitl [Hf0]; · iexact Hf0
    isplitl [HtW0]; · iexact HtW0
    iapply (recs_reached m K c (.inl (kW 0))); iexact HR
  iintro HcW
  iapply (wp_rows m K c _) $$ [HO HaR HcR HcO HaO HcS HaS]
  · isplitr; · iexact HR
    isplitl [HO]; · iexact HO
    isplitl [HaR]; · iexact HaR
    isplitl [HcR]; · iexact HcR
    isplitl [HcO]; · iexact HcO
    isplitl [HaO]; · iexact HaO
    isplitl [HcS] <;> iassumption
  iintro ⟨HO, HaR, HaO, HaS, Hs0, Hs1⟩
  iapply (wp_tiles m K c _) $$ [HO HcW HaW0 HaW1 Hf1 Hs1 Hs3 Hy HtW Hw]
  · isplitr [HtW Hw]
    · unfold tInv
      isplitl [HO]
      · isplitr; · iexact HR
        iexact HO
      isplitl [HcW]; · iexact HcW
      isplitl [HaW0]; · iexact HaW0
      isplitl [Hf1]; · iexact Hf1
      isplitl [HaW1]; · iexact HaW1
      isplitr; · iapply (recs_reached m K c (.inl (kW 1))); iexact HR
      isplitl [Hs3]; · iexact Hs3
      isplitl [Hs1]; · iexact Hs1
      unfold yPts
      iexists fy
      isplitr; · ipureintro; exact fun k hk => absurd hk (Nat.not_lt_zero _)
      iexact Hy
    isplitl [HtW] <;> iassumption
  iintro ⟨HO, HaW, Hs2, Hs3, Hs1, Hw, Hy⟩
  iapply (wp_phase3 m K c _) $$ [HO Hao Hap HtA HaAR HcA HaAS Hy]
  · isplitr; · iexact HR
    isplitl [HO]; · iexact HO
    isplitl [Hao]; · iexact Hao
    isplitl [Hap]; · iexact Hap
    isplitl [HtA]; · iexact HtA
    isplitl [HaAR]; · iexact HaAR
    isplitl [HcA]; · iexact HcA
    isplitl [HaAS] <;> iassumption
  iintro ⟨HO, HaAR, HaAS, Hs4, Hy⟩
  imod (close_all m K c) $$ [HaS0 HaS HaR HaAS0 HaAS HaAR HaO HaW HaB] with Hz
  · isplitr; · iexact HR
    iapply (Entails.of_eq (bigSep_cells (F := F) (fun k : CK => atPos ER (cell c k) (kend c k) ∅ 0)).symm)
    isplitr [HaB]
    · isplitl [HaS0 HaS]
      · iapply (Entails.of_eq (ends_peers (F := F) c (fun j => oc c (kS j))))
        isplitl [HaS0] <;> iassumption
      isplitl [HaR]; · iexact HaR
      isplitl [HaAS0 HaAS]
      · iapply (Entails.of_eq (ends_peers (F := F) c (fun j => oc c (kAS j))))
        isplitl [HaAS0] <;> iassumption
      isplitl [HaAR]; · iexact HaAR
      isplitl [HaO]; · iexact HaO
      iexact HaW
    iexact HaB
  rw [wp_ret]
  imodintro
  iapply Hk
  isplitr [HO Hx Hy]
  · isplitl [Hw Hz]
    · isplitl [Hw]; · iexact Hw
      iexact Hz
    unfold scratch
    isplitl [Hs0]; · iexists _; iexact Hs0
    isplitl [Hs1]; · iexists _; iexact Hs1
    isplitl [Hs2]; · iexact Hs2
    isplitl [Hs3]; · iexact Hs3
    iexists _; iexact Hs4
  isplitl [HO]; · iexact HO
  isplitl [Hx] <;> iassumption

end Cert.KernelIdeal.A2A

end
-- ==== Proof.Deal.lean ====
/- What the launch mints, and how it is dealt to the devices: positions and tokens of the cells, and the credits. -/
module

public import proofs.«01_k».proof.Proof.Body

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ) (K : Dev nD × CK → ℕ)

/-! ## Minting -/

abbrev kcell (ck : Dev nD × CK) : GSem nD τ sig := cell ck.1 ck.2

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The tokens: for each cell and each of its first eight rounds, one per device. -/
abbrev tokOf (x : Dev nD × CK × Fin 8 × Dev nD) : GSem nD τ sig × ℕ × Dev nD := (cell x.1 x.2.1, x.2.2.1.val, x.2.2.2)
theorem tokOf_injective : Function.Injective tokOf := by
  rintro ⟨c, k, r, d⟩ ⟨c', k', r', d'⟩ h
  have h0 := kcell_injective (a₁ := (c, k)) (a₂ := (c', k')) (congrArg (fun x : GSem nD τ sig × ℕ × Dev nD => x.1) h)
  have h1 : r = r' := Fin.ext (congrArg (fun x : GSem nD τ sig × ℕ × Dev nD => x.2.1) h)
  have h2 : d = d' := congrArg (fun x : GSem nD τ sig × ℕ × Dev nD => x.2.2) h
  rw [h1, h2, show c = c' from congrArg Prod.fst h0, show k = k' from congrArg Prod.snd h0]

def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- The tokens of device `c`'s own cells. -/
def toks (c : Dev nD) : sProp 𝕄 :=
  bigSep Finset.univ fun k : CK => bigSep Finset.univ fun r : Fin 8 => bigSep Finset.univ fun d : Dev nD => dutyTok ER (cell c k) r.val d

def G (c : Dev nD) : sProp 𝕄 :=
  iprop((bigSep Finset.univ fun k : CK => roundState ER (Rd m) (cell c k) 0)
    ∗ ((bigSep Finset.univ fun k : CK => atPos ER (cell c k) 0 ∅ 0) ∗ (bigSep Finset.univ fun k : CK => reached ER (cell c k) 0)) ∗ toks (F := F) c)

/-- Every cell's invariant, and that it has begun. -/
def known : sProp 𝕄 :=
  iprop((bigSep Finset.univ fun ck : Dev nD × CK => cellInv ER (Rd m) (K ck) (cell ck.1 ck.2))
    ∗ (bigSep Finset.univ fun ck : Dev nD × CK => reached ER (cell ck.1 ck.2) 0))

instance known_persistent : BI.Persistent (known m K) := by unfold known; infer_instance

def G' (c : Dev nD) : sProp 𝕄 := iprop(∃ K, known m K ∗ own (F := F) c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks
    rw [bigSep_map, bigSep_univ_prod]
    refine bigSep_congr fun c _ => ?_
    unfold toks
    rw [bigSep_univ_prod]
    refine bigSep_congr fun k _ => ?_
    rw [bigSep_univ_prod]
    rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  iapply (Entails.of_eq (bigSep_zip (F := F) _ _).symm)
  isplitl [Hst']; · iexact Hst'
  iapply (Entails.of_eq (bigSep_zip (F := F) _ _).symm)
  isplitl [Hat' Hr']
  · iapply (Entails.of_eq (bigSep_zip (F := F) _ _).symm)
    isplitl [Hat'] <;> iassumption
  iexact Htok'

/-! ## The kernel's own semaphores -/

theorem dma_scoped : ∀ s : DmaSem sig, (SemLoc.dma s : SemLoc sig).isScoped .tc = true := by decide

theorem ownSemFacts : Pipeline.OwnSemFacts cfg0.spec osem where
  isScoped k := dma_scoped (dsem k)
  inj k k' h := dsem_injective (SemLoc.dma.inj h)
  disj k w s h := by
    have h1 := dsem_ge k
    have h2 : ((cfg0.spec w).sem s).val < 2 := by fin_cases w <;> fin_cases s <;> decide
    rw [SemLoc.dma.inj h] at h1
    omega

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems_eq (c : Dev nD) : (bigSep Finset.univ fun k : CK => (semVal (cell c k) 0 : sProp 𝕄))
    = iprop(Pipeline.ownSems0 (Ix := Unit) (Name := ℕ) (U := UU) (Lvl := ℕ) (Val := Elt F) (τ := τ) osem c ∗ unscopedSems0 c) := by
  rw [unscopedSems0_eq, bigSep_univ_sum, bigSep_univ_of_subsingleton (Φ := fun b : Unit => (semVal (cell c (.inr b)) 0 : sProp 𝕄)) ()]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cell c k)))
          ∗ ((bigSep Finset.univ fun k : CK => atPos ER (cell c k) 0 ∅ 0) ∗ (bigSep Finset.univ fun k : CK => reached ER (cell c k) 0)) ∗ toks (F := F) c) := by
  unfold G
  iintro ⟨Hos, Hus, Hst, Hat, Htok⟩
  ihave Hv := (Entails.of_eq (sems_eq (F := F) c).symm) $$ [Hos Hus]
  · isplitl [Hos] <;> iassumption
  imod (show iprop((bigSep Finset.univ fun k : CK => semVal (cell c k) 0) ∗ bigSep Finset.univ fun k : CK => roundState ER (Rd m) (cell c k) 0)
      ⊢ (|={Set.univ}=> bigSep Finset.univ fun k : CK => iprop(∃ κ : ℕ, cellInv ER (Rd m) κ (cell c k)) : sProp 𝕄) from by
        rw [← bigSep_zip]
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

theorem bigSep_at {ι : Type} [Fintype ι] [DecidableEq ι] (Φ : ι → sProp 𝕄) (i : ι) : bigSep Finset.univ Φ ⊢ Φ i := bigSep_elim (Finset.mem_univ i)

/-- A cell's token for its first round. -/
theorem tok_first (c : Dev nD) (k : CK) :
    (bigSep Finset.univ fun r : Fin 8 => bigSep Finset.univ fun d : Dev nD => dutyTok ER (cell c k) r.val d : sProp 𝕄) ⊢ dutyTok ER (cell c k) 0 0 :=
  (bigSep_at (fun r : Fin 8 => bigSep Finset.univ fun d : Dev nD => (dutyTok ER (cell c k) r.val d : sProp 𝕄)) 0).trans
    (bigSep_at (fun d : Dev nD => (dutyTok ER (cell c k) ((0 : Fin 8) : Fin 8).val d : sProp 𝕄)) 0)

/-- One of a round's tokens. -/
theorem tok_zero (g : GSem nD τ sig) (r : ℕ) : (bigSep Finset.univ fun d : Dev nD => dutyTok ER g r d : sProp 𝕄) ⊢ dutyTok ER g r 0 :=
  bigSep_at (fun d : Dev nD => (dutyTok ER g r d : sProp 𝕄)) 0

/-- The slots' tokens, a tile each. -/
theorem tok_slots (c : Dev nD) :
    (bigSep Finset.univ fun s : Fin 2 => bigSep Finset.univ fun r : Fin 8 => bigSep Finset.univ fun d : Dev nD => dutyTok ER (oc c (kW s)) r.val d : sProp 𝕄)
      ⊢ bigSep Finset.univ fun i : Fin 16 => dutyTok ER (oc c (kW (sl i))) (i.val / 2) 0 := by
  have h0 : (bigSep Finset.univ fun s : Fin 2 => bigSep Finset.univ fun r : Fin 8 => bigSep Finset.univ fun d : Dev nD => dutyTok ER (oc c (kW s)) r.val d : sProp 𝕄)
      ⊢ bigSep Finset.univ fun s : Fin 2 => bigSep Finset.univ fun r : Fin 8 => dutyTok ER (oc c (kW s)) r.val 0 :=
    bigSep_mono' fun s => bigSep_mono' fun r : Fin 8 => tok_zero (F := F) (oc c (kW s)) r.val
  refine h0.trans (Entails.of_eq ?_)
  rw [Pipeline.bigSep_univ_comm, ← bigSep_univ_prod (fun x : Fin 8 × Fin 2 => (dutyTok ER (oc c (kW x.2)) x.1.val 0 : sProp 𝕄)),
    bigSep_univ_equiv (finProdFinEquiv (m := 8) (n := 2)).symm]
  refine bigSep_congr fun i _ => ?_
  have h1 : ((finProdFinEquiv (m := 8) (n := 2)).symm i).2 = sl i := Fin.ext rfl
  have h2 : ((finProdFinEquiv (m := 8) (n := 2)).symm i).1.val = i.val / 2 := rfl
  show dutyTok ER (oc c (kW ((finProdFinEquiv (m := 8) (n := 2)).symm i).2)) ((finProdFinEquiv (m := 8) (n := 2)).symm i).1.val 0 = _
  rw [h1, h2]

/-- The tokens a device's cells are minted with that will be used. -/
theorem toks_kinds (c : Dev nD) :
    toks (F := F) c ⊢ iprop((bigSep Finset.univ fun d : Dev nD => dutyTok ER (barC c) 0 d)
      ∗ (bigSep Finset.univ fun j : Dev nD => dutyTok ER (oc c (kS j)) 0 0) ∗ (bigSep Finset.univ fun j : Dev nD => dutyTok ER (oc c (kR j)) 0 0)
      ∗ (bigSep Finset.univ fun j : Dev nD => dutyTok ER (oc c (kAS j)) 0 0) ∗ (bigSep Finset.univ fun j : Dev nD => dutyTok ER (oc c (kAR j)) 0 0)
      ∗ dutyTok ER (oc c kOwn) 0 0 ∗ (bigSep Finset.univ fun i : Fin 16 => dutyTok ER (oc c (kW (sl i))) (i.val / 2) 0)) := by
  unfold toks
  rw [bigSep_cells]
  iintro ⟨⟨HS, HR, HAS, HAR, HO, HW⟩, HB⟩
  isplitl [HB]; · iapply (bigSep_at (fun r : Fin 8 => bigSep Finset.univ fun d : Dev nD => (dutyTok ER (barC c) r.val d : sProp 𝕄)) 0); iexact HB
  isplitl [HS]; · iapply (bigSep_mono' fun j : Dev nD => tok_first (F := F) c (.inl (kS j))); iexact HS
  isplitl [HR]; · iapply (bigSep_mono' fun j : Dev nD => tok_first (F := F) c (.inl (kR j))); iexact HR
  isplitl [HAS]; · iapply (bigSep_mono' fun j : Dev nD => tok_first (F := F) c (.inl (kAS j))); iexact HAS
  isplitl [HAR]; · iapply (bigSep_mono' fun j : Dev nD => tok_first (F := F) c (.inl (kAR j))); iexact HAR
  isplitl [HO]; · iapply (tok_first (F := F) c (.inl kOwn)); iexact HO
  iapply (tok_slots (F := F) c); iexact HW

/-- One device's members of a family over pairs, its own dropped. -/
theorem drop_own (c : Dev nD) (Φ : Dev nD → sProp 𝕄) : bigSep Finset.univ Φ ⊢ bigSep Finset.univ (fun t : Fin 31 => Φ (peer c t)) := by
  rw [bigSep_peers c]
  iintro ⟨-, H⟩
  iexact H

/-- Tokens of every device's cells, one for each other device, go to those others. -/
theorem deal_cross (Φ : Dev nD → Dev nD → sProp 𝕄) :
    (bigSep Finset.univ fun c : Dev nD => bigSep Finset.univ fun j : Dev nD => Φ c j)
      ⊢ bigSep Finset.univ fun c : Dev nD => bigSep Finset.univ fun t : Fin 31 => Φ (peer c t) c := by
  rw [Pipeline.bigSep_univ_comm]
  exact bigSep_mono' fun c => drop_own c (fun j => Φ j c)

theorem toks_around : (bigSep Finset.univ fun c : Dev nD => toks (F := F) c) ⊢ bigSep Finset.univ fun c : Dev nD => payToks (F := F) c := by
  refine (bigSep_mono' fun c => toks_kinds (F := F) c).trans ?_
  unfold payToks
  simp only [bigSep_zip]
  iintro ⟨HB, HS, HR, HAS, HAR, HO, HW⟩
  isplitl [HB]; · iapply (deal_cross (F := F) fun c d => dutyTok ER (barC c) 0 d); iexact HB
  isplitl [HS HR]
  · isplitl [HS]; · iapply (bigSep_mono' fun c : Dev nD => drop_own (F := F) c fun j => dutyTok ER (oc c (kS j)) 0 0); iexact HS
    iapply (deal_cross (F := F) fun c j => dutyTok ER (oc c (kR j)) 0 0); iexact HR
  isplitl [HAS HAR]
  · isplitl [HAS]; · iapply (bigSep_mono' fun c : Dev nD => drop_own (F := F) c fun j => dutyTok ER (oc c (kAS j)) 0 0); iexact HAS
    iapply (deal_cross (F := F) fun c j => dutyTok ER (oc c (kAR j)) 0 0); iexact HAR
  isplitl [HO]; · iexact HO
  iexact HW

theorem regroup :
    (bigSep Finset.univ fun c : Dev nD => iprop((bigSep Finset.univ fun k : CK => iprop(∃ κ : ℕ, cellInv ER (Rd m) κ (cell c k)))
          ∗ ((bigSep Finset.univ fun k : CK => atPos ER (cell c k) 0 ∅ 0) ∗ (bigSep Finset.univ fun k : CK => reached ER (cell c k) 0)) ∗ toks (F := F) c) : sProp 𝕄)
      ⊢ bigSep Finset.univ (G' m) := by
  simp only [bigSep_zip]
  rw [← bigSep_univ_prod (fun ck : Dev nD × CK => iprop(∃ κ : ℕ, cellInv ER (Rd m) κ (cell ck.1 ck.2))),
    ← bigSep_univ_prod (fun ck : Dev nD × CK => (reached ER (cell ck.1 ck.2) 0 : sProp 𝕄))]
  iintro ⟨HI, ⟨Hat, #HR⟩, Htok⟩
  ihave HK := (BI.bigSep_exists_pi Finset.univ (fun (ck : Dev nD × CK) (κ : ℕ) => (cellInv ER (Rd m) κ (cell ck.1 ck.2) : sProp 𝕄))) $$ HI
  icases HK with ⟨%K, #HI⟩
  ihave Htk := (toks_around (F := F)) $$ Htok
  iapply (show iprop((bigSep Finset.univ fun _ : Dev nD => known m K) ∗ bigSep Finset.univ fun c : Dev nD => own (F := F) c) ⊢ bigSep Finset.univ (G' m) from by
    rw [← bigSep_zip]
    exact bigSep_mono' fun c => by
      unfold G'
      iintro H
      iexists K
      iexact H)
  isplitr
  · iapply (bigSep_of_persistent (Finset.univ : Finset (Dev nD)) (known m K))
    unfold known
    isplitl; · iexact HI
    iexact HR
  unfold own
  iapply (Entails.of_eq (bigSep_zip (F := F) _ _).symm)
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- A sum over a device's peers. -/
theorem sum_peers (d : Dev nD) (φ : Dev nD → ℕ) : φ d + ∑ t : Fin 31, φ (peer d t) = ∑ j, φ j := by
  rw [← Finset.add_sum_erase Finset.univ φ (Finset.mem_univ d), erase_eq_map, Finset.sum_map]
  rfl

/-- What device `d` owes cell `k` of device `c` for its payments into the `k'` of its peers. -/
theorem tal_cell (d c : Dev nD) (k' k : CK) (N : ℕ) :
    tal (fun t => cell (peer d t) k') N 0 (cell c k) () = if k' = k ∧ d ≠ c then N else 0 := by
  have h0 : tal (fun t => cell (peer d t) k') N 0 (cell c k) () = ∑ t : Fin 31, if k' = k ∧ peer d t = c then N else 0 := by
    unfold tal
    rw [fromN_zero, Finset.sum_apply, Finsupp.finset_sum_apply]
    refine Finset.sum_congr rfl fun t _ => ?_
    rw [tallyAt_apply]
    refine if_congr ⟨fun h => ?_, fun h => ?_⟩ rfl rfl
    · have h' := kcell_injective (a₁ := (c, k)) (a₂ := (peer d t, k')) h.1
      exact ⟨(congrArg Prod.snd h').symm, (congrArg Prod.fst h').symm⟩
    · exact ⟨by show cell c k = cell (peer d t) k'; rw [h.1, h.2], rfl⟩
  have h1 := sum_peers d fun j => if k' = k ∧ j = c then N else 0
  rw [← h0] at h1
  by_cases hk : k' = k
  · simp only [hk, _root_.true_and] at h1 ⊢
    rw [Finset.sum_ite_eq' Finset.univ c fun _ => N, if_pos (Finset.mem_univ _)] at h1
    by_cases hd : d = c
    · rw [if_pos hd] at h1; rw [if_neg (fun h => h hd)]; omega
    · rw [if_neg hd] at h1; rw [if_pos hd]; omega
  · simp only [hk, _root_.false_and, if_false, Finset.sum_const_zero] at h1 ⊢
    omega

theorem owed_cell (d c : Dev nD) (k : CK) : O₀ d (cell c k) () =
    (if (.inr () : CK) = k ∧ d ≠ c then 1 else 0) + ((if (.inl (kR d) : CK) = k ∧ d ≠ c then NX else 0) + (if (.inl (kAR d) : CK) = k ∧ d ≠ c then NA else 0)) := by
  unfold O₀
  rw [Pi.add_apply, Finsupp.add_apply, Pi.add_apply, Finsupp.add_apply]
  rw [show owB d 0 (cell c k) () = _ from tal_cell d c (.inr ()) k 1, show owR d 0 (cell c k) () = _ from tal_cell d c (.inl (kR d)) k NX,
    show owA d 0 (cell c k) () = _ from tal_cell d c (.inl (kAR d)) k NA]

theorem launch_cell (c : Dev nD) (k : CK) (n : ℕ) (h : ∑ d, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

theorem owed_bar (c : Dev nD) : ∑ d, O₀ d (barC c) () = 31 := by
  have h : ∀ d : Dev nD, O₀ d (barC c) () = if d ≠ c then 1 else 0 := fun d => by
    rw [show O₀ d (barC c) () = _ from owed_cell d c (.inr ())]
    simp
  rw [Finset.sum_congr rfl fun d _ => h d, ← sum_peers c, if_neg (fun h => h rfl), Finset.sum_congr rfl fun t _ => if_pos (peer_ne c t)]
  simp

theorem owed_R (c j : Dev nD) (h : j ≠ c) : ∑ d, O₀ d (oc c (kR j)) () = NX := by
  have h : ∀ d : Dev nD, O₀ d (oc c (kR j)) () = if d = j then NX else 0 := fun d => by
    rw [show O₀ d (oc c (kR j)) () = _ from owed_cell d c (.inl (kR j))]
    by_cases hd : d = j
    · subst hd; simp [h]
    · simp [hd]
  rw [Finset.sum_congr rfl fun d _ => h d, Finset.sum_ite_eq' Finset.univ j fun _ => NX, if_pos (Finset.mem_univ _)]

theorem owed_AR (c j : Dev nD) (h : j ≠ c) : ∑ d, O₀ d (oc c (kAR j)) () = NA := by
  have h : ∀ d : Dev nD, O₀ d (oc c (kAR j)) () = if d = j then NA else 0 := fun d => by
    rw [show O₀ d (oc c (kAR j)) () = _ from owed_cell d c (.inl (kAR j))]
    by_cases hd : d = j
    · subst hd; simp [h]
    · simp [hd]
  rw [Finset.sum_congr rfl fun d _ => h d, Finset.sum_ite_eq' Finset.univ j fun _ => NA, if_pos (Finset.mem_univ _)]

/-- Credits for the cells of one kind, but for the device's own. -/
theorem cred_others (c : Dev nD) (kk : Dev nD → OK) (N : ℕ) (h : ∀ j, j ≠ c → ∑ d, O₀ d (oc c (kk j)) () = N) :
    (bigSep Finset.univ fun j : Dev nD => (cred (tallyOn (oc c (kk j)) (launchCredit (Pipeline.owing O₀) 0 (oc c (kk j)))) : sProp 𝕄))
      ⊢ bigSep Finset.univ fun j : Dev nD => if j = c then iprop(emp) else cred (tallyAt (oc c (kk j)) () N) :=
  bigSep_mono' fun j => by
    by_cases hj : j = c
    · rw [if_pos hj]; iintro -; iempintro
    · rw [if_neg hj, launch_cell c (.inl (kk j)) N (h j hj)]

theorem creds (c : Dev nD) : (Pipeline.launchCred O₀ c : sProp 𝕄) ⊢ credits (F := F) c := by
  have hs : (Pipeline.launchCred O₀ c : sProp 𝕄)
      ⊢ bigSep Finset.univ fun k : CK => cred (tallyOn (cell c k) (launchCredit (Pipeline.owing O₀) 0 (cell c k))) := by
    unfold Pipeline.launchCred
    refine BI.Entails.trans (bigSep_subset (Finset.subset_univ (Finset.univ.map ⟨csem, csem_injective⟩))) ?_
    rw [bigSep_map]
    exact BI.Entails.refl _
  refine hs.trans ?_
  unfold credits
  rw [bigSep_cells, launch_cell c (.inr ()) 31 (owed_bar c)]
  iintro ⟨⟨-, HR, -, HA, -, -⟩, HB⟩
  isplitl [HB]; · iexact HB
  isplitl [HR]
  · iapply (cred_others (F := F) c kR NX (owed_R c)); iexact HR
  iapply (cred_others (F := F) c kAR NA (owed_AR c)); iexact HA

end Cert.KernelIdeal.A2A

end
-- ==== Proof.Run.lean ====
/- The kernel run: on every device, from any memory with zero counters, at any float values. -/
module

public import proofs.«01_k».proof.Proof.Deal
public import Idealize.ShloMosaic.Lib.Pipeline.CollectiveSegs

@[expose] public section

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ) (K : Dev nD × CK → ℕ)

variable (ρ : Dev nD → PrngReg)

/-! ## The body's obligation -/

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ whole c b f) := by
  unfold owns; simp only [Memref.view_whole, View.read_whole, View.set_whole]

/-- A staging buffer, at given contents. -/
abbrev staged (c : Dev nD) (b : Ref sig .tc) (X : b.ty.Contents (Elt F)) : sProp 𝕄 :=
  iprop(∃ f : Buf (Elt F) ((c : Thread nD τ).loc b), ⌜f = X⌝ ∗ whole c b f)

def bodyPre (c : Dev nD) : sProp 𝕄 :=
  iprop(Φ₀ m c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))

def bodyPost (c : Dev nD) : sProp 𝕄 :=
  iprop(Φ₁ m c ∗ (dats m ρ 0 c).owesAt () t0_0.succ ∗ staged c cc0_stg0_0 (xstg m c) ∗ staged c cc0_stg1_0 (outAt m c))

theorem before_x (c : Dev nD) (d) : (dats m ρ 0 c).before (0 : Fin 2) t0_0 d = xstg m c := by
  unfold Pipeline.Dat.before; rw [if_pos (fetch0_0 t0_0)]; rfl

theorem wp_body (c : Dev nD) : bodyPre m ρ c ⊢ WP c (.op .deviceId (fun d => clean (F := F) d)) (fun _ => bodyPost m ρ c) := by
  simp only [wp_deviceId]
  unfold bodyPre Φ₀ start
  simp only [before_x]
  unfold Pipeline.Dat.owesAt Pipeline.owesWithin
  iintro ⟨⟨⟨⟨%K, HR, Hown⟩, Hcr, Hw⟩, Hs⟩, ⟨%W, %hW, HO⟩, ⟨%d, %g0, %hg0, Hx⟩, ⟨%d', %g1, %hg1, Hy⟩⟩
  subst hg0
  iapply (wp_clean m K c fun _ => bodyPost m ρ c) $$ [HR Hown Hcr Hw Hs HO Hx Hy]
  · isplitl [HR]; · iexact HR
    isplitl [Hown]; · iexact Hown
    isplitl [Hcr]; · iexact Hcr
    isplitl [Hw]; · iexact Hw
    isplitl [Hs]; · iexact Hs
    isplitl [HO]
    · unfold ow; iexists W; iexact HO
    isplitl [Hx]; · iexact Hx
    iexists g1; iexact Hy
  unfold bodyPost ow Pipeline.Dat.owesAt Pipeline.owesWithin
  iintro ⟨HΦ, ⟨%W', HO⟩, Hx, Hy⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hy

set_option maxRecDepth 4000 in
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole]
  show bodyPre m ρ c ⊢ wp frame (wpE (defs₀ (F := F)) 𝒱₀ c none) Set.univ
    (cc0_body (Memref.whole cc0_stg0_0) (Memref.isWhole_whole _) (Memref.whole main_arg1) (Memref.isWhole_whole _) (Memref.whole cc0_stg1_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scratch9 cc0_scratch10) (fun _ => bodyPost m ρ c)
  rw [body_eq]
  exact wp_body m ρ c

/-! ## Around the body -/

theorem share_eq (c : Dev nD) (w : Fin cfg0.W) : (dats m ρ 0 c).share w = fullShare := by unfold Pipeline.Dat.share; split <;> rfl

/-- The cells' invariants, with the levels of what is owed. -/
theorem recs_intro : iprop(known m K ∗ (levAts L lv : sProp 𝕄)) ⊢ recs m K := by
  unfold known recs
  iintro ⟨⟨H1, H2⟩, H3⟩
  isplitl [H1]; · iexact H1
  isplitl [H2]; · iexact H2
  iexact H3

theorem start_intro (c : Dev nD) :
    iprop(Pipeline.unscopedRestP Pipeline.Prefetch.none cfg0.spec c (fun b => m ((c : Thread nD τ).loc b)) ∗ (levAts L lv : sProp 𝕄)
        ∗ Pipeline.launchCred O₀ c ∗ prngReg c (ρ c) ∗ G' m c)
      ⊢ |={Set.univ}=> iprop(start m c ∗ emp) := by
  rw [Pipeline.unscopedRestP_none, unscopedRest0_eq]
  unfold start G'
  iintro ⟨Hw, Hlev, Hcr, -, ⟨%K, Hk, Hown⟩⟩
  ihave Hc := (creds (F := F) c) $$ Hcr
  ihave HR := (recs_intro m K) $$ [Hk Hlev]
  · isplitl [Hk] <;> iassumption
  imodintro
  isplitl
  · isplitl [HR Hown]
    · iexists K
      isplitl [HR] <;> iassumption
    isplitl [Hc]; · iexact Hc
    iexact Hw
  · iempintro

theorem phi_first (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What a device keeps for the end: its barrier's counter at zero and its `w`. -/
def kept (c : Dev nD) : sProp 𝕄 := iprop(unscopedSems0 c ∗ whole c main_arg1 (warg m c))

theorem phi_last (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq]
  unfold Φ₁ scratch kept
  rw [sems_eq]
  iintro ⟨⟨Hw, Ho, Hu⟩, Hr⟩
  isplitl [Hu Hw]
  · isplitl [Hu] <;> iassumption
  isplitl [Ho]; · iexact Ho
  iexact Hr

omit [FloatOps F] in
theorem staging_level (c : Dev nD) (w : Fin cfg0.W) (s : Fin (cfg0.win w).nbuf) : lv ((c : Thread nD τ), .dma ((cfg0.win w).sem s)) () ≤ 0 := by
  have h : kindOf (.dma ((cfg0.win w).sem s)) = none := kindOf_none _ fun k => by
    rcases k with k | u
    · exact ownSemFacts.disj k w s
    · exact fun h => nomatch h
  show (match kindOf (.dma ((cfg0.win w).sem s)) with | some k => klv k | none => 0) ≤ 0
  rw [h]

theorem waits (c : Dev nD) : (levAts L lv : sProp 𝕄) ⊢ Pipeline.cellsWaits cfgs (dats m ρ) () 0 c :=
  Pipeline.cellsWaits_intro cfgs (dats m ρ) () 0 c fun w s t =>
    mayWait c _ 0 (staging_level c w s) _ (by
      rcases t with ⟨_ | _, ht⟩
      · exact pos_O₀
      · exact pos_zero)

/-! ## The run -/

/-- A window's array at the end. -/
def finalA (c : Dev nD) (w : Fin cfg0.W) : Buf (Elt F) ((cfg0.win w).arr.view.loc (c : Thread nD τ)) := (dats m ρ 0 c).arrAt w cfg0.N

def QC (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem kept_read (c : Dev nD) (s' : Phys nD τ sig (Elt F)) : iprop(kept m c ∗ SI s') ⊢ |={Set.univ}=> iprop(⌜QY m c s'.mem⌝ ∗ SI s' : sProp 𝕄) := by
  unfold kept
  iintro ⟨⟨Hu, Hw⟩, HSI⟩
  imod (Pipeline.unscopedSems0_read (X := unscopedSems0 c) (c := c) fupd_intro s') $$ [Hu HSI] with ⟨%h1, HSI⟩
  · isplitl [Hu] <;> iassumption
  ihave H := (pointsTo_read_all (Finset.univ : Finset (Fin 1)) (fun _ => (c : Thread nD τ).loc main_arg1) (fun _ => warg m c) s') $$ [Hw HSI]
  · isplitl [Hw]
    · iapply (Entails.of_eq (bigSep_univ_of_subsingleton (Φ := fun _ : Fin 1 => whole (F := F) c main_arg1 (warg m c)) 0).symm)
      iexact Hw
    iexact HSI
  icases H with ⟨%h2, HSI⟩
  imodintro
  isplitr; · ipureintro; exact ⟨h1, h2 0 (Finset.mem_univ _)⟩
  iexact HSI

set_option maxRecDepth 8000 in
/-- From any memory with zero counters every fair execution ends, each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi_first m ρ) (hout := phi_last m ρ)
    (QY := QY m)
    (hY := fun c s' => by
      iintro ⟨Hk, -, HSI⟩
      iapply (kept_read m c s')
      isplitl [Hk] <;> iassumption)
    (hQ := fun _ h hs => ⟨fun c => ⟨(h c).1, (h c).2.2.2⟩, sem_eq_zero hs fun c => (h c).2.2.1⟩)

/-- The block of `x` after the run is what it was. -/
theorem finalA_x (c : Dev nD) : finalA m ρ c (0 : Fin 2) = m ((c : Thread nD τ).loc main_arg0) :=
  (dats (F := F) m ρ 0 c).arrAt_in (0 : Fin 2) rfl _

end Cert.KernelIdeal.A2A

end
-- ==== Proof.Frames.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run
public import Idealize.ShloMosaic.Lib.Quiescent

@[expose] public section

/- The frames: each program runs, leaves its arguments as they were and every counter at zero. -/

noncomputable section

namespace Cert.KernelIdeal.A2A

open Idealize.ShloMosaic Idealize.ShloMosaic.TcCoe Idealize.SL.Sem
open Cert.KernelIdeal.Gen

variable {F : FTy → Type} [FloatOps F]
variable (m : (ℓ : Loc nD τ sig) → Buf (Elt F) ℓ) (ρ : Dev nD → PrngReg)

/-- What the run leaves: the result at the computed contents, both arguments as they were. -/
theorem run_ends : θ_run defs (onTc (τ := τ) (main (F := F))) ⟨m, fun _ => 0, ρ⟩ (fun r =>
    (∀ c : Dev nD, r.2.mem ((c : Thread nD τ).loc main_v1) = finalA m ρ c (1 : Fin 2)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c).1 (1 : Fin 2), ((h.1 c).1 (0 : Fin 2)).trans (finalA_x m ρ c), (h.1 c).2⟩, h.2⟩) (run_main m ρ)

theorem frame_ideal : Cert.quiescent_KernelIdeal := fun m ρ _ =>
  (θ_run defs _ _).mono (fun _ h => ⟨fun c => (h.1 c).2, h.2⟩) (run_ends (F := Ideal) m ρ)

/-! The kernel as printed has the same text. -/

theorem defs₀_eq : Cert.Kernel.defs₀ (F := F) = defs₀ := congrArg Defs.onTc (funext fun l => funext fun a => by
  rcases l with ⟨_ | n, h⟩
  · rcases a with ⟨t, s⟩
    rfl
  · exact absurd h (Nat.not_lt.2 (Nat.le_add_left _ _)))

theorem defs_eq : Cert.Kernel.defs (F := F) = defs := congrArg (Pipeline.defs pcfgs) defs₀_eq

theorem frame_kernel : Cert.quiescent_Kernel := fun m ρ _ => by
  have h : θ_run defs (onTc (τ := τ) (main (F := Bits))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
    (θ_run defs _ _).mono (fun _ h => ⟨fun c => (h.1 c).2, h.2⟩) (run_ends (F := Bits) m ρ)
  rw [← defs_eq] at h
  exact h

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

end Cert.KernelIdeal.A2A

end
-- ==== Proof.Product.lean ====
/- The product at the ideal values: device `c`'s product is block `c`, by rows, of the product of the whole arrays. -/
module

public import proofs.«01_k».proof.Proof.Contents
public import Idealize.ShloMosaic.Lib.MatmulPlain
public import Idealize.ShloMosaic.Lib.Pipeline.Value
public import Idealize.ShloMosaic.Lib.IdealHost
public import Idealize.ShloMosaic.Lib.Layout

@[expose] public section

noncomputable section

namespace Cert.KernelIdeal.A2A

open Idealize.ShloMosaic Idealize.ShloMosaic.TcCoe Idealize.ShloMosaic.ValueIdx
open Idealize.SL.Sem
open Cert.KernelIdeal.Gen
open scoped BigOperators

/-- The whole `x`. -/
abbrev SX : Shape := ⟨2, ![4096, 4096]⟩

/-- An entry of the product of the whole arrays. -/
def entry (X : FVec Ideal SX .f32) (W : FVec Ideal S4096x8192 .f32) (a : Fin 4096) (b : Fin 8192) : EReal :=
  ∑ k : Fin 4096, X (ix2 a k) * W (ix2 k b)

/-- Row `r` of block `c`. -/
abbrev row (c : Fin 32) (r : Fin 128) : Fin 4096 := ⟨128 * c.val + r.val, by have := c.isLt; have := r.isLt; omega⟩
/-- Column `q` of tile `i`. -/
abbrev col (i : Fin 16) (q : Fin 512) : Fin 8192 := ⟨512 * i.val + q.val, by have := i.isLt; have := q.isLt; omega⟩

/-- The arrays on the devices are `X` cut by columns and, everywhere, `W`. -/
structure Dealt (m : (ℓ : Loc nD τ sig) → Buf (Elt Ideal) ℓ) (X : FVec Ideal SX .f32) (W : FVec Ideal S4096x8192 .f32) : Prop where
  x : ∀ c : Dev nD, m ((c : Thread nD τ).loc main_arg0) = Layout.block S4096x128 SX 1 32 c X
  w : ∀ c : Dev nD, m ((c : Thread nD τ).loc main_arg1) = W

variable {m : (ℓ : Loc nD τ sig) → Buf (Elt Ideal) ℓ} {X : FVec Ideal SX .f32} {W : FVec Ideal S4096x8192 .f32}

/-- What is staged is the whole block. -/
theorem xstg_eq {F : FTy → Type} [FloatOps F] (m : (ℓ : Loc nD τ sig) → Buf (Elt F) ℓ) (c : Dev nD) :
    xstg m c = (m ((c : Thread nD τ).loc main_arg0) : Vec F S4096x128 .f32) := by
  funext k
  show (m ((c : Thread nD τ).loc main_arg0) : Vec F S4096x128 .f32) _ = _
  congr 1
  funext a
  fin_cases a
  · refine Fin.ext ?_
    show 0 * 4096 + 1 * (k 0).val = (k 0).val
    omega
  · refine Fin.ext ?_
    show 0 * 128 + 1 * (k 1).val = (k 1).val
    omega

/-- Rounding is the identity at the ideal values. -/
theorem x16_apply (c : Dev nD) (k : S4096x128.Idx) : x16 m c k = (m ((c : Thread nD τ).loc main_arg0) : FVec Ideal S4096x128 .f32) k := by
  unfold x16 k0_pay2
  simp only [shapeCast_self, xstg_eq]
  rfl

/-- The gathered rows are rows of the whole `x`. -/
theorem gat_apply (h : Dealt m X W) (c : Dev nD) (r : Fin 128) (k : Fin 4096) : gat m c (ix2 r k) = X (ix2 (row c r) k) := by
  unfold gat
  rw [x16_apply, h.x, Layout.block_apply]
  congr 1
  funext a
  fin_cases a
  · exact Fin.ext rfl
  · refine Fin.ext ((Layout.idx_cols_val _ _ _).2.trans ?_)
    show k.val / 128 * 128 + k.val % 128 = k.val
    omega

/-- A tile of `w`, rounded, holds its columns of the whole `w`. -/
theorem w16_apply (h : Dealt m X W) (c : Dev nD) (i : Fin 16) (k : Fin 4096) (q : Fin 512) : w16 m c i (ix2 k q) = W (ix2 k (col i q)) := by
  unfold w16 roundW k0_pay3
  simp only [shapeCast_self]
  rw [truncf_apply, shapeCast_1ab_ab_apply]
  show ftile m c i _ = _
  unfold ftile warg
  rw [h.w]
  congr 1
  funext a
  fin_cases a
  · refine Fin.ext (((Rect.unit (s := S2x4096x512) ![i.val % 2, 0, 0] S1x4096x512.size (hslot i)).toLoadRect.idx_apply (ix3 0 k q) 1).trans ?_)
    show 0 + 1 * k.val = k.val
    omega
  · refine Fin.ext (congrArg (512 * i.val + ·) (((Rect.unit (s := S2x4096x512) ![i.val % 2, 0, 0] S1x4096x512.size (hslot i)).toLoadRect.idx_apply (ix3 0 k q) 2).trans ?_))
    show 0 + 1 * q.val = q.val
    omega

/-- The product by a tile. -/
theorem ytile_apply (h : Dealt m X W) (c : Dev nD) (i : Fin 16) (r : Fin 128) (q : Fin 512) :
    ytile m c i (ix2 r q) = entry X W (row c r) (col i q) := by
  unfold ytile prod k0_pay4
  show FloatOps.matmul (DotDims.plain 128 4096 512) none (gat m c) (w16 m c i) (constant S128x512 .f32 0x00000000#32) (ix2 r q) = _
  rw [Ideal.matmul_plain_apply, constant_apply, Ideal.ofBits_zero_f32, zero_add]
  exact Finset.sum_congr rfl fun k _ => by rw [gat_apply h, w16_apply h]

/-- The whole product on a device. -/
theorem yAll_apply (h : Dealt m X W) (c : Dev nD) (r : Fin 128) (b : Fin 8192) : yAll m c (ix2 r b) = entry X W (row c r) b := by
  unfold yAll
  rw [ytile_apply h]
  congr 1
  refine Fin.ext ?_
  show 512 * (b.val / 512) + b.val % 512 = b.val
  omega

end Cert.KernelIdeal.A2A

end
-- ==== Proof.Maximum.lean ====
/- The greatest absolute value at the ideal values: what the devices find between them is what the reference finds in the
   whole product. Both are told by their upper bounds. -/
module

public import proofs.«01_k».proof.Proof.Product
public import Idealize.ShloMosaic.PureOps.Reduce

@[expose] public section

noncomputable section

namespace Cert.KernelIdeal.A2A

open Idealize.ShloMosaic Idealize.ShloMosaic.TcCoe Idealize.ShloMosaic.ValueIdx
open Idealize.SL.Sem
open Cert.KernelIdeal.Gen

variable {m : (ℓ : Loc nD τ sig) → Buf (Elt Ideal) ℓ} {X : FVec Ideal SX .f32} {W : FVec Ideal S4096x8192 .f32}

/-- The least float is the least value. -/
theorem least : Ideal.ofBits .f32 0xFF800000#32 = ⊥ := by simp [Ideal.ofBits, Ideal.ieee]

/-- An absolute value. -/
abbrev size (x : EReal) : EReal := max x (-x)

theorem size_nonneg (x : EReal) : 0 ≤ size x := by
  rcases le_total 0 x with h | h
  · exact le_max_of_le_left h
  · exact le_max_of_le_right (EReal.neg_nonneg.mpr h)

/-- There is one index of one element. -/
theorem one_index (i j : S1.Idx) : i = j := by
  funext a
  fin_cases a
  exact Subsingleton.elim (α := Fin 1) _ _

/-- A maximum over everything is bounded by what bounds everything. -/
theorem reduced_le {s : Shape} {axes : List (Fin s.rank)} (src : FVec Ideal s .f32) (h : s.Reduces axes S1) (hφ) (hacc) (j : S1.Idx) (B : EReal) :
    (multiReduction .maximumf axes S1 src 0xFF800000#32 h hφ hacc j : EReal) ≤ B ↔ ∀ i, (src i : EReal) ≤ B := by
  rw [multiReduction_maximumf_eq_fold]
  refine Iff.trans (Finset.fold_max_le (α := s.Idx) (β := EReal) (f := src) (b := Ideal.ofBits .f32 0xFF800000#32) B) ?_
  rw [least]
  constructor
  · exact fun h' i => h'.2 i (Finset.mem_filter.mpr ⟨Finset.mem_univ _, one_index _ _⟩)
  · exact fun h' => ⟨bot_le, fun i _ => h' i⟩

/-- The same of the maximum taken out of its vector. -/
theorem extracted_le {s t : Shape} {axes : List (Fin s.rank)} (src : FVec Ideal s .f32) (h : s.Reduces axes S1) (hφ) (hacc)
    (hc : S1.ShapeCasts t) (pos : Fin t.rank → ℕ) (hp : ∀ a, pos a < t.size a) (B : EReal) :
    (extractAt pos (shapeCast t (multiReduction .maximumf axes S1 src 0xFF800000#32 h hφ hacc) hc) hp : EReal) ≤ B ↔ ∀ i, (src i : EReal) ≤ B :=
  reduced_le src h hφ hacc (Shape.reshapeEquiv hc fun a => ⟨pos a, hp a⟩) B

/-- What bounds the maximum after one more tile. -/
theorem maxTile_le (a : Ideal .f32) (g : Vec Ideal S128x4096 .bf16) (b : Vec Ideal S4096x512 .bf16) (B : EReal) :
    (maxTile a g b : EReal) ≤ B ↔ (a : EReal) ≤ B ∧ ∀ (r : Fin 128) (q : Fin 512), size (prod g b (ix2 r q)) ≤ B := by
  unfold maxTile k0_pay8
  refine Iff.trans (max_le_iff (α := EReal)) (and_congr_right fun _ => ?_)
  refine Iff.trans (extracted_le _ reduces_S1x128x512_S1 (.inl rfl) rfl shapeCasts_S1_S1x1x1 ![0, 0, 0] inpos_S1x1x1_p0_0_0 B) ?_
  constructor
  · intro h r q
    refine le_of_eq_of_le ?_ (h (ix3 (0 : Fin 1) r q))
    exact (shapeCast_ab_1ab_apply (absf (k0_pay7 g b)) shapeCasts_S128x512_S1x128x512 0 r q).symm
  · intro h i
    obtain ⟨u, r, q, rfl⟩ : ∃ (u : Fin 1) (r : Fin 128) (q : Fin 512), i = ix3 u r q := ⟨i 0, i 1, i 2, eq_ix3 i⟩
    refine le_of_eq_of_le ?_ (h r q)
    exact shapeCast_ab_1ab_apply (absf (k0_pay7 g b)) shapeCasts_S128x512_S1x128x512 u r q

/-- What bounds the running maximum. -/
theorem acc_le (c : Dev nD) (B : EReal) (n : ℕ) (hn : n ≤ 16) :
    (acc m c n : EReal) ≤ B ↔ 0 ≤ B ∧ ∀ i : Fin 16, i.val < n → ∀ (r : Fin 128) (q : Fin 512), size (ytile m c i (ix2 r q)) ≤ B := by
  induction n with
  | zero =>
    rw [show acc m c 0 = (0 : EReal) from Ideal.ofBits_zero_f32]
    exact ⟨fun h => ⟨h, fun i hi => absurd hi (Nat.not_lt_zero _)⟩, fun h => h.1⟩
  | succ n ih =>
    have e : acc m c (n + 1) = maxTile (acc m c n) (gat m c) (w16 m c ⟨n, hn⟩) := dif_pos hn
    rw [e, maxTile_le, ih (Nat.le_of_succ_le hn)]
    constructor
    · rintro ⟨⟨h0, h⟩, h'⟩
      refine ⟨h0, fun i hi => ?_⟩
      rcases Nat.lt_succ_iff_lt_or_eq.mp hi with hi | hi
      · exact h i hi
      · obtain rfl : i = ⟨n, hn⟩ := Fin.ext hi
        exact h'
    · rintro ⟨h0, h⟩
      exact ⟨⟨h0, fun i hi => h i (Nat.lt_succ_of_lt hi)⟩, h ⟨n, hn⟩ (Nat.lt_succ_self n)⟩

/-- What bounds a device's maximum. -/
theorem lmax_le (h : Dealt m X W) (c : Dev nD) (B : EReal) :
    (lmax m c : EReal) ≤ B ↔ 0 ≤ B ∧ ∀ (r : Fin 128) (b : Fin 8192), size (entry X W (row c r) b) ≤ B := by
  unfold lmax
  rw [acc_le c B 16 le_rfl]
  refine and_congr_right fun _ => ⟨fun h' r b => ?_, fun h' i _ r q => ?_⟩
  · have hb : b.val < 8192 := b.isLt
    have := h' (⟨b.val / 512, by omega⟩ : Fin 16) (by show b.val / 512 < 16; omega) r (⟨b.val % 512, Nat.mod_lt _ (by decide)⟩ : Fin 512)
    rw [ytile_apply h] at this
    have e : col (⟨b.val / 512, by omega⟩ : Fin 16) (⟨b.val % 512, Nat.mod_lt _ (by decide)⟩ : Fin 512) = b :=
      Fin.ext (by show 512 * (b.val / 512) + b.val % 512 = b.val; omega)
    rwa [e] at this
  · rw [ytile_apply h]
    exact h' r _

/-- The greatest of the devices' maxima. -/
def most (v : Vec Ideal S32x8x128 .f32) : Ideal .f32 :=
  extractAt ![0, 0, 0, 0] (shapeCast S1x1x1x1 (multiReduction .maximumf [1, 2, 3] S1
    (shapeCast S1x32x8x128 v shapeCasts_S32x8x128_S1x32x8x128) 0xFF800000#32 reduces_S1x32x8x128_S1 (.inl rfl) rfl) shapeCasts_S1_S1x1x1x1) inpos_S1x1x1x1_p0_0_0_0

/-- What bounds it. -/
theorem most_le (v : Vec Ideal S32x8x128 .f32) (B : EReal) : (most v : EReal) ≤ B ↔ ∀ k, (v k : EReal) ≤ B := by
  unfold most
  refine Iff.trans (extracted_le _ reduces_S1x32x8x128_S1 (.inl rfl) rfl shapeCasts_S1_S1x1x1x1 ![0, 0, 0, 0] inpos_S1x1x1x1_p0_0_0_0 B) ?_
  constructor
  · intro h k
    rw [eq_ix3 k]
    refine le_of_eq_of_le ?_ (h (ix4 (0 : Fin 1) (k 0) (k 1) (k 2)))
    exact (shapeCast_abc_1abc_apply v shapeCasts_S32x8x128_S1x32x8x128 0 (k 0) (k 1) (k 2)).symm
  · exact fun h i => h _

/-- A row spread is its value throughout. -/
theorem spread_apply (x : Ideal .f32) (j : S1x8x128.Idx) : spread x j = x := by
  unfold spread
  exact (congrFun (shapeCast_self (broadcast S1x8x128 x) _) j).trans (broadcast_apply x j)

/-- A device's row is its maximum. -/
theorem amaxAll_apply (k : S32x8x128.Idx) : amaxAll m k = lmax m (⟨(k 0).val, (k 0).isLt⟩ : Fin 32) := by
  unfold amaxAll
  exact spread_apply _ _

/-- The greatest maximum is bounded by what bounds the whole product's absolute values. -/
theorem most_all_le (h : Dealt m X W) (B : EReal) :
    (most (amaxAll m) : EReal) ≤ B ↔ ∀ (a : Fin 4096) (b : Fin 8192), size (entry X W a b) ≤ B := by
  rw [most_le]
  constructor
  · intro h' a b
    have ha : a.val < 4096 := a.isLt
    have h1 := h' (ix3 (⟨a.val / 128, by omega⟩ : Fin 32) (0 : Fin 8) (0 : Fin 128))
    rw [amaxAll_apply] at h1
    have h2 := ((lmax_le h _ B).mp h1).2 (⟨a.val % 128, Nat.mod_lt _ (by decide)⟩ : Fin 128) b
    have e : row (⟨a.val / 128, by omega⟩ : Fin 32) (⟨a.val % 128, Nat.mod_lt _ (by decide)⟩ : Fin 128) = a :=
      Fin.ext (by show 128 * (a.val / 128) + a.val % 128 = a.val; omega)
    rwa [e] at h2
  · intro h' k
    rw [amaxAll_apply]
    exact (lmax_le h _ B).mpr ⟨(size_nonneg _).trans (h' 0 0), fun r b => h' _ b⟩

end Cert.KernelIdeal.A2A

end
-- ==== Proof.Value.lean ====
/- The value claim: at the ideal values, device `c`'s result is block `c`, by rows, of the reference's. -/
module

public import proofs.«01_k».proof.Proof.Maximum
public import proofs.«01_k».proof.Proof.Frames
public import Idealize.ShloMosaic.Lib.StackMember

@[expose] public section

noncomputable section

namespace Cert.KernelIdeal.A2A

open Idealize.ShloMosaic Idealize.ShloMosaic.TcCoe Idealize.ShloMosaic.ValueIdx
open Idealize.SL.Sem
open Cert.KernelIdeal.Gen

/-! ## The result array -/

section Result
variable {F : FTy → Type} [FloatOps F] (m : (ℓ : Loc nD τ sig) → Buf (Elt F) ℓ) (ρ : Dev nD → PrngReg)

/-- The result's one block is the whole array. -/
theorem read_result (f : Vec F S128x8192 .f32) : (win0_1.blk (0 : Fin 1)).view.read (Elt F) f = f := by
  funext k
  show f _ = f k
  congr 1
  funext a
  fin_cases a
  · refine Fin.ext ?_
    show 0 * 128 + 1 * (k 0).val = (k 0).val
    omega
  · refine Fin.ext ?_
    show 0 * 8192 + 1 * (k 1).val = (k 1).val
    omega

/-- After the run the result array holds what the body left staged. -/
theorem finalA_y (c : Dev nD) : finalA m ρ c (1 : Fin 2) = outAt m c := by
  refine (read_result (finalA m ρ c (1 : Fin 2))).symm.trans ?_
  unfold finalA
  rw [show cfg0.N = t0_0.val + 1 from rfl, (dats m ρ 0 c).arrAt_succ (1 : Fin 2) t0_0, if_pos (flush0_1 t0_0)]
  exact View.read_write_univ _ _

end Result

/-! ## One element -/

/-- An element of the result, from the greatest absolute value `M` and the product's element `y`. -/
def quant (M y : Ideal .f32) : Ideal .f32 :=
  FloatOps.mulf (FloatOps.minimumf (FloatOps.ofBits .f32 0x42FE0000#32) (FloatOps.maximumf (FloatOps.ofBits .f32 0xC2FE0000#32)
    (FloatOps.roundeven (FloatOps.divf y (FloatOps.divf M (FloatOps.ofBits .f32 0x42FE0000#32))))))
    (FloatOps.divf M (FloatOps.ofBits .f32 0x42FE0000#32))

/-- The kernel's elements. -/
theorem pay_apply (v : Vec Ideal S32x8x128 .f32) (y : Vec Ideal S128x8192 .f32) (k : S128x8192.Idx) :
    k0_pay1 v y k = quant (most v) (y k) := by
  unfold k0_pay1
  rw [shapeCast_self]
  rfl

/-! ## The reference -/

/-- The reference's result, from its product `Y` and its greatest absolute value `R`. -/
def tail (Y : FVec Ideal S4096x8192 .f32) (R : FVec Ideal Cert.ReferenceIdeal.S_ .f32) : FVec Ideal S4096x8192 .f32 :=
  mulf (minimumf (broadcastInDim _ ![] Cert.ReferenceIdeal.Gen.bcast_S_S4096x8192 (id (constant Cert.ReferenceIdeal.S_ .f32 0x42FE0000#32)))
    (maximumf (broadcastInDim _ ![] Cert.ReferenceIdeal.Gen.bcast_S_S4096x8192 (id (constant Cert.ReferenceIdeal.S_ .f32 0xC2FE0000#32)))
      (Host.roundeven (Host.divf Y (broadcastInDim _ ![] Cert.ReferenceIdeal.Gen.bcast_S_S4096x8192 (Host.divf R (constant Cert.ReferenceIdeal.S_ .f32 0x42FE0000#32)))))))
    (broadcastInDim _ ![] Cert.ReferenceIdeal.Gen.bcast_S_S4096x8192 (Host.divf R (constant Cert.ReferenceIdeal.S_ .f32 0x42FE0000#32)))

/-- A scalar spread over the array. -/
theorem spread_scalar (x : FVec Ideal Cert.ReferenceIdeal.S_ .f32) (k : S4096x8192.Idx) :
    broadcastInDim S4096x8192 ![] Cert.ReferenceIdeal.Gen.bcast_S_S4096x8192 x k = x ix0 :=
  congrArg x (eq_ix0 _)

theorem tail_apply (Y : FVec Ideal S4096x8192 .f32) (R : FVec Ideal Cert.ReferenceIdeal.S_ .f32) (k : S4096x8192.Idx) :
    tail Y R k = quant (R ix0) (Y k) :=
  congrArg₂ FloatOps.mulf
    (congrArg₂ FloatOps.minimumf (spread_scalar _ k) (congrArg₂ FloatOps.maximumf (spread_scalar _ k)
      (congrArg (FloatOps.hostUnary .roundeven) (congrArg (FloatOps.hostDivf (Y k)) (spread_scalar _ k)))))
    (spread_scalar _ k)

/-- The reference's product. -/
def refY (X : FVec Ideal SX .f32) (W : FVec Ideal S4096x8192 .f32) : FVec Ideal S4096x8192 .f32 :=
  Host.dotGeneral Cert.ReferenceIdeal.dot_S4096x4096_S4096x8192_S4096x8192_1_0_0_1_n_n none X W

theorem refY_apply (X : FVec Ideal SX .f32) (W : FVec Ideal S4096x8192 .f32) (a : Fin 4096) (b : Fin 8192) :
    refY X W (ix2 a b) = entry X W a b :=
  StackMember.dotGeneral_plain_apply none X W a b

/-- The reference's greatest absolute value. -/
def refM (Y : FVec Ideal S4096x8192 .f32) : FVec Ideal Cert.ReferenceIdeal.S_ .f32 :=
  Host.reduce FloatOps.maximumf (Host.absf Y) (constant Cert.ReferenceIdeal.S_ .f32 0xFF800000#32)
    Cert.ReferenceIdeal.Gen.reducesTo_S4096x8192_S_d0_1 Cert.ReferenceIdeal.Gen.h_S_

/-- What bounds it. -/
theorem refM_le (Y : FVec Ideal S4096x8192 .f32) (B : EReal) : (refM Y ix0 : EReal) ≤ B ↔ ∀ k, size (Y k) ≤ B := by
  unfold refM
  rw [Host.reduce_eq_fold]
  refine Iff.trans (Finset.fold_max_le (α := S4096x8192.Idx) (β := EReal) (f := Host.absf Y) (b := Ideal.ofBits .f32 0xFF800000#32) B) ?_
  rw [least]
  constructor
  · exact fun h k => h.2 k (Finset.mem_filter.mpr ⟨Finset.mem_univ _, (eq_ix0 _).trans (eq_ix0 _).symm⟩)
  · exact fun h => ⟨bot_le, fun k _ => h k⟩

variable {m : (ℓ : Loc nD τ sig) → Buf (Elt Ideal) ℓ} {X : FVec Ideal SX .f32} {W : FVec Ideal S4096x8192 .f32}

/-- Kernel and reference find one greatest absolute value. -/
theorem greatest_eq (h : Dealt m X W) : (refM (refY X W) ix0 : EReal) = most (amaxAll m) := by
  refine eq_of_forall_ge_iff fun B => ?_
  rw [refM_le, most_all_le h]
  constructor
  · intro h' a b
    rw [← refY_apply]
    exact h' _
  · intro h' k
    obtain ⟨a, b, rfl⟩ : ∃ (a : Fin 4096) (b : Fin 8192), k = ix2 a b := ⟨k 0, k 1, eq_ix2 k⟩
    rw [refY_apply]
    exact h' a b

/-- Device `c`'s result is block `c` of the reference's. -/
theorem out_eq (h : Dealt m X W) (c : Dev nD) :
    outAt m c = Layout.block S128x8192 S4096x8192 0 32 c (tail (refY X W) (refM (refY X W))) := by
  funext k
  obtain ⟨r, b, rfl⟩ : ∃ (r : Fin 128) (b : Fin 8192), k = ix2 r b := ⟨k 0, k 1, eq_ix2 k⟩
  rw [Layout.block_apply]
  unfold outAt
  rw [pay_apply, tail_apply, yAll_apply h, greatest_eq h]
  refine congrArg (quant _) ?_
  rw [← refY_apply]
  congr 1
  funext a
  fin_cases a
  · refine Fin.ext ?_
    show 128 * c.val + r.val = c.val * 128 + r.val
    omega
  · exact Fin.ext rfl

/-! ## The claim -/

/-- From arrays dealt to the devices, the devices end with the reference's result dealt. -/
theorem value : Cert.algebraic_KernelIdeal_ReferenceIdeal := by
  intro m ρ m' ρ' _ hin
  let X : FVec Ideal SX .f32 := m' (((0 : Dev Cert.ReferenceIdeal.nD).tc : Thread Cert.ReferenceIdeal.nD Cert.ReferenceIdeal.τ).loc Cert.ReferenceIdeal.main_arg0)
  let W : FVec Ideal S4096x8192 .f32 := m' (((0 : Dev Cert.ReferenceIdeal.nD).tc : Thread Cert.ReferenceIdeal.nD Cert.ReferenceIdeal.τ).loc Cert.ReferenceIdeal.main_arg1)
  have h : Dealt m X W := ⟨fun c => (hin c).1, fun c => (hin c).2⟩
  refine ⟨tail (refY X W) (refM (refY X W)), (θ_run defs _ _).mono ?_ (run_ends m ρ),
    (θ_run Cert.ReferenceIdeal.defs _ _).mono ?_ (Cert.ReferenceIdeal.Value.run (F := Ideal) m' ρ')⟩
  · exact fun r hr c => ⟨(hr.1 c).1.trans ((finalA_y m ρ c).trans (out_eq h c)), (hr.1 c).2⟩
  · exact fun r hr => hr 0

end Cert.KernelIdeal.A2A

end
-- ==== Proof.lean ====
/- The claims, from the modules under Proof/: the body on one device and the launch of all of them (Run), the frames (Frames), and the value (Value). -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

open Cert.KernelIdeal.A2A

theorem claim : Cert.Claim := ⟨Cert.Kernel.Gen.facts, Cert.KernelIdeal.Gen.facts, Cert.ReferenceIdeal.Gen.facts,
  frame_kernel, frame_ideal, frame_reference, trivial, value⟩

end Cert.Proof

end
